-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Xbc (m : (ℓ : Loc Cert.Xbc.nD Cert.Xbc.τ Cert.Xbc.sig) → Buf (Elt Bits) ℓ) : Prop :=
  True

def Pre_XbcIdeal (m : (ℓ : Loc Cert.XbcIdeal.nD Cert.XbcIdeal.τ Cert.XbcIdeal.sig) → Buf (Elt Ideal) ℓ) : Prop :=
  True

def Pre_XbcRefIdeal (m : (ℓ : Loc Cert.XbcRefIdeal.nD Cert.XbcRefIdeal.τ Cert.XbcRefIdeal.sig) → Buf (Elt Ideal) ℓ) : Prop :=
  True

def Pre_XbcDw (m : (ℓ : Loc Cert.XbcDw.nD Cert.XbcDw.τ Cert.XbcDw.sig) → Buf (Elt Bits) ℓ) : Prop :=
  True

def Pre_XbcDwIdeal (m : (ℓ : Loc Cert.XbcDwIdeal.nD Cert.XbcDwIdeal.τ Cert.XbcDwIdeal.sig) → Buf (Elt Ideal) ℓ) : Prop :=
  True

def Pre_XbcDwRefIdeal (m : (ℓ : Loc Cert.XbcDwRefIdeal.nD Cert.XbcDwRefIdeal.τ Cert.XbcDwRefIdeal.sig) → Buf (Elt Ideal) ℓ) : Prop :=
  True

def Pre_XbcBwd (m : (ℓ : Loc Cert.XbcBwd.nD Cert.XbcBwd.τ Cert.XbcBwd.sig) → Buf (Elt Bits) ℓ) : Prop :=
  True

def Pre_XbcBwdIdeal (m : (ℓ : Loc Cert.XbcBwdIdeal.nD Cert.XbcBwdIdeal.τ Cert.XbcBwdIdeal.sig) → Buf (Elt Ideal) ℓ) : Prop :=
  True

def Pre_XbcBwdRefIdeal (m : (ℓ : Loc Cert.XbcBwdRefIdeal.nD Cert.XbcBwdRefIdeal.τ Cert.XbcBwdRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_EvenDw (m : (ℓ : Loc Cert.EvenDw.nD Cert.EvenDw.τ Cert.EvenDw.sig) → Buf (Elt Bits) ℓ) : Prop :=
  True

def Pre_EvenDwIdeal (m : (ℓ : Loc Cert.EvenDwIdeal.nD Cert.EvenDwIdeal.τ Cert.EvenDwIdeal.sig) → Buf (Elt Ideal) ℓ) : Prop :=
  True

def Pre_EvenDwRefIdeal (m : (ℓ : Loc Cert.EvenDwRefIdeal.nD Cert.EvenDwRefIdeal.τ Cert.EvenDwRefIdeal.sig) → Buf (Elt Ideal) ℓ) : Prop :=
  True

def Pre_EvenBwd (m : (ℓ : Loc Cert.EvenBwd.nD Cert.EvenBwd.τ Cert.EvenBwd.sig) → Buf (Elt Bits) ℓ) : Prop :=
  True

def Pre_EvenBwdIdeal (m : (ℓ : Loc Cert.EvenBwdIdeal.nD Cert.EvenBwdIdeal.τ Cert.EvenBwdIdeal.sig) → Buf (Elt Ideal) ℓ) : Prop :=
  True

def Pre_EvenBwdRefIdeal (m : (ℓ : Loc Cert.EvenBwdRefIdeal.nD Cert.EvenBwdRefIdeal.τ Cert.EvenBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_Xbc [hXbc : Cert.Xbc.Facts] : Prop :=
  ∀ (m : (ℓ : Loc Cert.Xbc.nD Cert.Xbc.τ Cert.Xbc.sig) → Buf (Elt Bits) ℓ) (g : Dev Cert.Xbc.nD → PrngReg), Pre_Xbc m →
    θ_run (Cert.Xbc.defs (F := Bits)) (onTc (τ := Cert.Xbc.τ) (Cert.Xbc.main (F := Bits))) ⟨m, fun _ => 0, g⟩ (fun r => (∀ c : Dev Cert.Xbc.nD,
      r.2.mem ((c.tc : Thread Cert.Xbc.nD Cert.Xbc.τ).loc Cert.Xbc.main_arg0) = m ((c.tc : Thread Cert.Xbc.nD Cert.Xbc.τ).loc Cert.Xbc.main_arg0)
      ∧ r.2.mem ((c.tc : Thread Cert.Xbc.nD Cert.Xbc.τ).loc Cert.Xbc.main_arg1) = m ((c.tc : Thread Cert.Xbc.nD Cert.Xbc.τ).loc Cert.Xbc.main_arg1))
      ∧ r.2.sem = fun _ => 0)

def quiescent_XbcIdeal [hXbcIdeal : Cert.XbcIdeal.Facts] : Prop :=
  ∀ (m : (ℓ : Loc Cert.XbcIdeal.nD Cert.XbcIdeal.τ Cert.XbcIdeal.sig) → Buf (Elt Ideal) ℓ) (g : Dev Cert.XbcIdeal.nD → PrngReg), Pre_XbcIdeal m →
    θ_run (Cert.XbcIdeal.defs (F := Ideal)) (onTc (τ := Cert.XbcIdeal.τ) (Cert.XbcIdeal.main (F := Ideal))) ⟨m, fun _ => 0, g⟩ (fun r => (∀ c : Dev Cert.XbcIdeal.nD,
      r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
      ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1))
      ∧ r.2.sem = fun _ => 0)

def quiescent_XbcRefIdeal [hXbcRefIdeal : Cert.XbcRefIdeal.Facts] : Prop :=
  ∀ (m : (ℓ : Loc Cert.XbcRefIdeal.nD Cert.XbcRefIdeal.τ Cert.XbcRefIdeal.sig) → Buf (Elt Ideal) ℓ) (g : Dev Cert.XbcRefIdeal.nD → PrngReg), Pre_XbcRefIdeal m →
    θ_run (Cert.XbcRefIdeal.defs (F := Ideal)) (onTc (τ := Cert.XbcRefIdeal.τ) (Cert.XbcRefIdeal.main (F := Ideal))) ⟨m, fun _ => 0, g⟩ (fun r => (∀ c : Dev Cert.XbcRefIdeal.nD,
      r.2.mem ((c.tc : Thread Cert.XbcRefIdeal.nD Cert.XbcRefIdeal.τ).loc Cert.XbcRefIdeal.main_arg0) = m ((c.tc : Thread Cert.XbcRefIdeal.nD Cert.XbcRefIdeal.τ).loc Cert.XbcRefIdeal.main_arg0)
      ∧ r.2.mem ((c.tc : Thread Cert.XbcRefIdeal.nD Cert.XbcRefIdeal.τ).loc Cert.XbcRefIdeal.main_arg1) = m ((c.tc : Thread Cert.XbcRefIdeal.nD Cert.XbcRefIdeal.τ).loc Cert.XbcRefIdeal.main_arg1))
      ∧ r.2.sem = fun _ => 0)

def quiescent_XbcDw [hXbcDw : Cert.XbcDw.Facts] : Prop :=
  ∀ (m : (ℓ : Loc Cert.XbcDw.nD Cert.XbcDw.τ Cert.XbcDw.sig) → Buf (Elt Bits) ℓ) (g : Dev Cert.XbcDw.nD → PrngReg), Pre_XbcDw m →
    θ_run (Cert.XbcDw.defs (F := Bits)) (onTc (τ := Cert.XbcDw.τ) (Cert.XbcDw.main (F := Bits))) ⟨m, fun _ => 0, g⟩ (fun r => (∀ c : Dev Cert.XbcDw.nD,
      r.2.mem ((c.tc : Thread Cert.XbcDw.nD Cert.XbcDw.τ).loc Cert.XbcDw.main_arg0) = m ((c.tc : Thread Cert.XbcDw.nD Cert.XbcDw.τ).loc Cert.XbcDw.main_arg0)
      ∧ r.2.mem ((c.tc : Thread Cert.XbcDw.nD Cert.XbcDw.τ).loc Cert.XbcDw.main_arg1) = m ((c.tc : Thread Cert.XbcDw.nD Cert.XbcDw.τ).loc Cert.XbcDw.main_arg1))
      ∧ r.2.sem = fun _ => 0)

def quiescent_XbcDwIdeal [hXbcDwIdeal : Cert.XbcDwIdeal.Facts] : Prop :=
  ∀ (m : (ℓ : Loc Cert.XbcDwIdeal.nD Cert.XbcDwIdeal.τ Cert.XbcDwIdeal.sig) → Buf (Elt Ideal) ℓ) (g : Dev Cert.XbcDwIdeal.nD → PrngReg), Pre_XbcDwIdeal m →
    θ_run (Cert.XbcDwIdeal.defs (F := Ideal)) (onTc (τ := Cert.XbcDwIdeal.τ) (Cert.XbcDwIdeal.main (F := Ideal))) ⟨m, fun _ => 0, g⟩ (fun r => (∀ c : Dev Cert.XbcDwIdeal.nD,
      r.2.mem ((c.tc : Thread Cert.XbcDwIdeal.nD Cert.XbcDwIdeal.τ).loc Cert.XbcDwIdeal.main_arg0) = m ((c.tc : Thread Cert.XbcDwIdeal.nD Cert.XbcDwIdeal.τ).loc Cert.XbcDwIdeal.main_arg0)
      ∧ r.2.mem ((c.tc : Thread Cert.XbcDwIdeal.nD Cert.XbcDwIdeal.τ).loc Cert.XbcDwIdeal.main_arg1) = m ((c.tc : Thread Cert.XbcDwIdeal.nD Cert.XbcDwIdeal.τ).loc Cert.XbcDwIdeal.main_arg1))
      ∧ r.2.sem = fun _ => 0)

def quiescent_XbcDwRefIdeal [hXbcDwRefIdeal : Cert.XbcDwRefIdeal.Facts] : Prop :=
  ∀ (m : (ℓ : Loc Cert.XbcDwRefIdeal.nD Cert.XbcDwRefIdeal.τ Cert.XbcDwRefIdeal.sig) → Buf (Elt Ideal) ℓ) (g : Dev Cert.XbcDwRefIdeal.nD → PrngReg), Pre_XbcDwRefIdeal m →
    θ_run (Cert.XbcDwRefIdeal.defs (F := Ideal)) (onTc (τ := Cert.XbcDwRefIdeal.τ) (Cert.XbcDwRefIdeal.main (F := Ideal))) ⟨m, fun _ => 0, g⟩ (fun r => (∀ c : Dev Cert.XbcDwRefIdeal.nD,
      r.2.mem ((c.tc : Thread Cert.XbcDwRefIdeal.nD Cert.XbcDwRefIdeal.τ).loc Cert.XbcDwRefIdeal.main_arg0) = m ((c.tc : Thread Cert.XbcDwRefIdeal.nD Cert.XbcDwRefIdeal.τ).loc Cert.XbcDwRefIdeal.main_arg0)
      ∧ r.2.mem ((c.tc : Thread Cert.XbcDwRefIdeal.nD Cert.XbcDwRefIdeal.τ).loc Cert.XbcDwRefIdeal.main_arg1) = m ((c.tc : Thread Cert.XbcDwRefIdeal.nD Cert.XbcDwRefIdeal.τ).loc Cert.XbcDwRefIdeal.main_arg1))
      ∧ r.2.sem = fun _ => 0)

def quiescent_XbcBwd [hXbcBwd : Cert.XbcBwd.Facts] : Prop :=
  ∀ (m : (ℓ : Loc Cert.XbcBwd.nD Cert.XbcBwd.τ Cert.XbcBwd.sig) → Buf (Elt Bits) ℓ) (g : Dev Cert.XbcBwd.nD → PrngReg), Pre_XbcBwd m →
    θ_run (Cert.XbcBwd.defs (F := Bits)) (onTc (τ := Cert.XbcBwd.τ) (Cert.XbcBwd.main (F := Bits))) ⟨m, fun _ => 0, g⟩ (fun r => (∀ c : Dev Cert.XbcBwd.nD,
      r.2.mem ((c.tc : Thread Cert.XbcBwd.nD Cert.XbcBwd.τ).loc Cert.XbcBwd.main_arg0) = m ((c.tc : Thread Cert.XbcBwd.nD Cert.XbcBwd.τ).loc Cert.XbcBwd.main_arg0)
      ∧ r.2.mem ((c.tc : Thread Cert.XbcBwd.nD Cert.XbcBwd.τ).loc Cert.XbcBwd.main_arg1) = m ((c.tc : Thread Cert.XbcBwd.nD Cert.XbcBwd.τ).loc Cert.XbcBwd.main_arg1)
      ∧ r.2.mem ((c.tc : Thread Cert.XbcBwd.nD Cert.XbcBwd.τ).loc Cert.XbcBwd.main_arg2) = m ((c.tc : Thread Cert.XbcBwd.nD Cert.XbcBwd.τ).loc Cert.XbcBwd.main_arg2))
      ∧ r.2.sem = fun _ => 0)

def quiescent_XbcBwdIdeal [hXbcBwdIdeal : Cert.XbcBwdIdeal.Facts] : Prop :=
  ∀ (m : (ℓ : Loc Cert.XbcBwdIdeal.nD Cert.XbcBwdIdeal.τ Cert.XbcBwdIdeal.sig) → Buf (Elt Ideal) ℓ) (g : Dev Cert.XbcBwdIdeal.nD → PrngReg), Pre_XbcBwdIdeal m →
    θ_run (Cert.XbcBwdIdeal.defs (F := Ideal)) (onTc (τ := Cert.XbcBwdIdeal.τ) (Cert.XbcBwdIdeal.main (F := Ideal))) ⟨m, fun _ => 0, g⟩ (fun r => (∀ c : Dev Cert.XbcBwdIdeal.nD,
      r.2.mem ((c.tc : Thread Cert.XbcBwdIdeal.nD Cert.XbcBwdIdeal.τ).loc Cert.XbcBwdIdeal.main_arg0) = m ((c.tc : Thread Cert.XbcBwdIdeal.nD Cert.XbcBwdIdeal.τ).loc Cert.XbcBwdIdeal.main_arg0)
      ∧ r.2.mem ((c.tc : Thread Cert.XbcBwdIdeal.nD Cert.XbcBwdIdeal.τ).loc Cert.XbcBwdIdeal.main_arg1) = m ((c.tc : Thread Cert.XbcBwdIdeal.nD Cert.XbcBwdIdeal.τ).loc Cert.XbcBwdIdeal.main_arg1)
      ∧ r.2.mem ((c.tc : Thread Cert.XbcBwdIdeal.nD Cert.XbcBwdIdeal.τ).loc Cert.XbcBwdIdeal.main_arg2) = m ((c.tc : Thread Cert.XbcBwdIdeal.nD Cert.XbcBwdIdeal.τ).loc Cert.XbcBwdIdeal.main_arg2))
      ∧ r.2.sem = fun _ => 0)

def quiescent_XbcBwdRefIdeal [hXbcBwdRefIdeal : Cert.XbcBwdRefIdeal.Facts] : Prop :=
  ∀ (m : (ℓ : Loc Cert.XbcBwdRefIdeal.nD Cert.XbcBwdRefIdeal.τ Cert.XbcBwdRefIdeal.sig) → Buf (Elt Ideal) ℓ) (g : Dev Cert.XbcBwdRefIdeal.nD → PrngReg), Pre_XbcBwdRefIdeal m →
    θ_run (Cert.XbcBwdRefIdeal.defs (F := Ideal)) (onTc (τ := Cert.XbcBwdRefIdeal.τ) (Cert.XbcBwdRefIdeal.main (F := Ideal))) ⟨m, fun _ => 0, g⟩ (fun r => (∀ c : Dev Cert.XbcBwdRefIdeal.nD,
      r.2.mem ((c.tc : Thread Cert.XbcBwdRefIdeal.nD Cert.XbcBwdRefIdeal.τ).loc Cert.XbcBwdRefIdeal.main_arg0) = m ((c.tc : Thread Cert.XbcBwdRefIdeal.nD Cert.XbcBwdRefIdeal.τ).loc Cert.XbcBwdRefIdeal.main_arg0)
      ∧ r.2.mem ((c.tc : Thread Cert.XbcBwdRefIdeal.nD Cert.XbcBwdRefIdeal.τ).loc Cert.XbcBwdRefIdeal.main_arg1) = m ((c.tc : Thread Cert.XbcBwdRefIdeal.nD Cert.XbcBwdRefIdeal.τ).loc Cert.XbcBwdRefIdeal.main_arg1)
      ∧ r.2.mem ((c.tc : Thread Cert.XbcBwdRefIdeal.nD Cert.XbcBwdRefIdeal.τ).loc Cert.XbcBwdRefIdeal.main_arg2) = m ((c.tc : Thread Cert.XbcBwdRefIdeal.nD Cert.XbcBwdRefIdeal.τ).loc Cert.XbcBwdRefIdeal.main_arg2))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1))
      ∧ r.2.sem = fun _ => 0)

def quiescent_EvenDw [hEvenDw : Cert.EvenDw.Facts] : Prop :=
  ∀ (m : (ℓ : Loc Cert.EvenDw.nD Cert.EvenDw.τ Cert.EvenDw.sig) → Buf (Elt Bits) ℓ) (g : Dev Cert.EvenDw.nD → PrngReg), Pre_EvenDw m →
    θ_run (Cert.EvenDw.defs (F := Bits)) (onTc (τ := Cert.EvenDw.τ) (Cert.EvenDw.main (F := Bits))) ⟨m, fun _ => 0, g⟩ (fun r => (∀ c : Dev Cert.EvenDw.nD,
      r.2.mem ((c.tc : Thread Cert.EvenDw.nD Cert.EvenDw.τ).loc Cert.EvenDw.main_arg0) = m ((c.tc : Thread Cert.EvenDw.nD Cert.EvenDw.τ).loc Cert.EvenDw.main_arg0)
      ∧ r.2.mem ((c.tc : Thread Cert.EvenDw.nD Cert.EvenDw.τ).loc Cert.EvenDw.main_arg1) = m ((c.tc : Thread Cert.EvenDw.nD Cert.EvenDw.τ).loc Cert.EvenDw.main_arg1))
      ∧ r.2.sem = fun _ => 0)

def quiescent_EvenDwIdeal [hEvenDwIdeal : Cert.EvenDwIdeal.Facts] : Prop :=
  ∀ (m : (ℓ : Loc Cert.EvenDwIdeal.nD Cert.EvenDwIdeal.τ Cert.EvenDwIdeal.sig) → Buf (Elt Ideal) ℓ) (g : Dev Cert.EvenDwIdeal.nD → PrngReg), Pre_EvenDwIdeal m →
    θ_run (Cert.EvenDwIdeal.defs (F := Ideal)) (onTc (τ := Cert.EvenDwIdeal.τ) (Cert.EvenDwIdeal.main (F := Ideal))) ⟨m, fun _ => 0, g⟩ (fun r => (∀ c : Dev Cert.EvenDwIdeal.nD,
      r.2.mem ((c.tc : Thread Cert.EvenDwIdeal.nD Cert.EvenDwIdeal.τ).loc Cert.EvenDwIdeal.main_arg0) = m ((c.tc : Thread Cert.EvenDwIdeal.nD Cert.EvenDwIdeal.τ).loc Cert.EvenDwIdeal.main_arg0)
      ∧ r.2.mem ((c.tc : Thread Cert.EvenDwIdeal.nD Cert.EvenDwIdeal.τ).loc Cert.EvenDwIdeal.main_arg1) = m ((c.tc : Thread Cert.EvenDwIdeal.nD Cert.EvenDwIdeal.τ).loc Cert.EvenDwIdeal.main_arg1))
      ∧ r.2.sem = fun _ => 0)

def quiescent_EvenDwRefIdeal [hEvenDwRefIdeal : Cert.EvenDwRefIdeal.Facts] : Prop :=
  ∀ (m : (ℓ : Loc Cert.EvenDwRefIdeal.nD Cert.EvenDwRefIdeal.τ Cert.EvenDwRefIdeal.sig) → Buf (Elt Ideal) ℓ) (g : Dev Cert.EvenDwRefIdeal.nD → PrngReg), Pre_EvenDwRefIdeal m →
    θ_run (Cert.EvenDwRefIdeal.defs (F := Ideal)) (onTc (τ := Cert.EvenDwRefIdeal.τ) (Cert.EvenDwRefIdeal.main (F := Ideal))) ⟨m, fun _ => 0, g⟩ (fun r => (∀ c : Dev Cert.EvenDwRefIdeal.nD,
      r.2.mem ((c.tc : Thread Cert.EvenDwRefIdeal.nD Cert.EvenDwRefIdeal.τ).loc Cert.EvenDwRefIdeal.main_arg0) = m ((c.tc : Thread Cert.EvenDwRefIdeal.nD Cert.EvenDwRefIdeal.τ).loc Cert.EvenDwRefIdeal.main_arg0)
      ∧ r.2.mem ((c.tc : Thread Cert.EvenDwRefIdeal.nD Cert.EvenDwRefIdeal.τ).loc Cert.EvenDwRefIdeal.main_arg1) = m ((c.tc : Thread Cert.EvenDwRefIdeal.nD Cert.EvenDwRefIdeal.τ).loc Cert.EvenDwRefIdeal.main_arg1))
      ∧ r.2.sem = fun _ => 0)

def quiescent_EvenBwd [hEvenBwd : Cert.EvenBwd.Facts] : Prop :=
  ∀ (m : (ℓ : Loc Cert.EvenBwd.nD Cert.EvenBwd.τ Cert.EvenBwd.sig) → Buf (Elt Bits) ℓ) (g : Dev Cert.EvenBwd.nD → PrngReg), Pre_EvenBwd m →
    θ_run (Cert.EvenBwd.defs (F := Bits)) (onTc (τ := Cert.EvenBwd.τ) (Cert.EvenBwd.main (F := Bits))) ⟨m, fun _ => 0, g⟩ (fun r => (∀ c : Dev Cert.EvenBwd.nD,
      r.2.mem ((c.tc : Thread Cert.EvenBwd.nD Cert.EvenBwd.τ).loc Cert.EvenBwd.main_arg0) = m ((c.tc : Thread Cert.EvenBwd.nD Cert.EvenBwd.τ).loc Cert.EvenBwd.main_arg0)
      ∧ r.2.mem ((c.tc : Thread Cert.EvenBwd.nD Cert.EvenBwd.τ).loc Cert.EvenBwd.main_arg1) = m ((c.tc : Thread Cert.EvenBwd.nD Cert.EvenBwd.τ).loc Cert.EvenBwd.main_arg1))
      ∧ r.2.sem = fun _ => 0)

def quiescent_EvenBwdIdeal [hEvenBwdIdeal : Cert.EvenBwdIdeal.Facts] : Prop :=
  ∀ (m : (ℓ : Loc Cert.EvenBwdIdeal.nD Cert.EvenBwdIdeal.τ Cert.EvenBwdIdeal.sig) → Buf (Elt Ideal) ℓ) (g : Dev Cert.EvenBwdIdeal.nD → PrngReg), Pre_EvenBwdIdeal m →
    θ_run (Cert.EvenBwdIdeal.defs (F := Ideal)) (onTc (τ := Cert.EvenBwdIdeal.τ) (Cert.EvenBwdIdeal.main (F := Ideal))) ⟨m, fun _ => 0, g⟩ (fun r => (∀ c : Dev Cert.EvenBwdIdeal.nD,
      r.2.mem ((c.tc : Thread Cert.EvenBwdIdeal.nD Cert.EvenBwdIdeal.τ).loc Cert.EvenBwdIdeal.main_arg0) = m ((c.tc : Thread Cert.EvenBwdIdeal.nD Cert.EvenBwdIdeal.τ).loc Cert.EvenBwdIdeal.main_arg0)
      ∧ r.2.mem ((c.tc : Thread Cert.EvenBwdIdeal.nD Cert.EvenBwdIdeal.τ).loc Cert.EvenBwdIdeal.main_arg1) = m ((c.tc : Thread Cert.EvenBwdIdeal.nD Cert.EvenBwdIdeal.τ).loc Cert.EvenBwdIdeal.main_arg1))
      ∧ r.2.sem = fun _ => 0)

def quiescent_EvenBwdRefIdeal [hEvenBwdRefIdeal : Cert.EvenBwdRefIdeal.Facts] : Prop :=
  ∀ (m : (ℓ : Loc Cert.EvenBwdRefIdeal.nD Cert.EvenBwdRefIdeal.τ Cert.EvenBwdRefIdeal.sig) → Buf (Elt Ideal) ℓ) (g : Dev Cert.EvenBwdRefIdeal.nD → PrngReg), Pre_EvenBwdRefIdeal m →
    θ_run (Cert.EvenBwdRefIdeal.defs (F := Ideal)) (onTc (τ := Cert.EvenBwdRefIdeal.τ) (Cert.EvenBwdRefIdeal.main (F := Ideal))) ⟨m, fun _ => 0, g⟩ (fun r => (∀ c : Dev Cert.EvenBwdRefIdeal.nD,
      r.2.mem ((c.tc : Thread Cert.EvenBwdRefIdeal.nD Cert.EvenBwdRefIdeal.τ).loc Cert.EvenBwdRefIdeal.main_arg0) = m ((c.tc : Thread Cert.EvenBwdRefIdeal.nD Cert.EvenBwdRefIdeal.τ).loc Cert.EvenBwdRefIdeal.main_arg0)
      ∧ r.2.mem ((c.tc : Thread Cert.EvenBwdRefIdeal.nD Cert.EvenBwdRefIdeal.τ).loc Cert.EvenBwdRefIdeal.main_arg1) = m ((c.tc : Thread Cert.EvenBwdRefIdeal.nD Cert.EvenBwdRefIdeal.τ).loc Cert.EvenBwdRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Da_DaIdeal : Prop :=
  True

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)) →
    ∃ (v0 : (c : Dev Cert.DaIdeal.nD) → Buf (Elt Ideal) ((c.tc : Thread Cert.DaIdeal.nD Cert.DaIdeal.τ).loc Cert.DaIdeal.main_v5)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v5) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v15) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v3)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v3) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v7) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1))

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)) →
    ∃ (v0 : (c : Dev Cert.Dw1Ideal.nD) → Buf (Elt Ideal) ((c.tc : Thread Cert.Dw1Ideal.nD Cert.Dw1Ideal.τ).loc Cert.Dw1Ideal.main_v0)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v0) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v8) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v4)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v4) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v5) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_v7) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v7_0)) (v1 : (c : Dev Cert.DownIdeal.nD) → Buf (Elt Ideal) ((c.tc : Thread Cert.DownIdeal.nD Cert.DownIdeal.τ).loc Cert.DownIdeal.main_v7_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v7_0) = v0 c
          ∧ r.2.mem ((c.tc : Thread Cert.DownIdeal.nD Cert.DownIdeal.τ).loc Cert.DownIdeal.main_v7_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v8) = v0 c
          ∧ r.2.mem ((c.tc : Thread Cert.DownRefIdeal.nD Cert.DownRefIdeal.τ).loc Cert.DownRefIdeal.main_v9) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v3_0)) (v1 : (c : Dev Cert.NormIdeal.nD) → Buf (Elt Ideal) ((c.tc : Thread Cert.NormIdeal.nD Cert.NormIdeal.τ).loc Cert.NormIdeal.main_v3_4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3_0) = v0 c
          ∧ r.2.mem ((c.tc : Thread Cert.NormIdeal.nD Cert.NormIdeal.τ).loc Cert.NormIdeal.main_v3_4) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v43) = v0 c
          ∧ r.2.mem ((c.tc : Thread Cert.NormRefIdeal.nD Cert.NormRefIdeal.τ).loc Cert.NormRefIdeal.main_v50) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_Xbc_XbcIdeal : Prop :=
  True

def algebraic_XbcIdeal_XbcRefIdeal [hXbcIdeal : Cert.XbcIdeal.Facts] [hXbcRefIdeal : Cert.XbcRefIdeal.Facts] : Prop :=
  ∀ (m : (ℓ : Loc Cert.XbcIdeal.nD Cert.XbcIdeal.τ Cert.XbcIdeal.sig) → Buf (Elt Ideal) ℓ) (g : Dev Cert.XbcIdeal.nD → PrngReg)
    (m' : (ℓ : Loc Cert.XbcRefIdeal.nD Cert.XbcRefIdeal.τ Cert.XbcRefIdeal.sig) → Buf (Elt Ideal) ℓ) (g' : Dev Cert.XbcRefIdeal.nD → PrngReg), Pre_XbcIdeal m →
    (∀ c : Dev Cert.XbcIdeal.nD,
      m' ((c.tc : Thread Cert.XbcRefIdeal.nD Cert.XbcRefIdeal.τ).loc Cert.XbcRefIdeal.main_arg0) = m ((c.tc : Thread Cert.XbcIdeal.nD Cert.XbcIdeal.τ).loc Cert.XbcIdeal.main_arg0)
      ∧ m' ((c.tc : Thread Cert.XbcRefIdeal.nD Cert.XbcRefIdeal.τ).loc Cert.XbcRefIdeal.main_arg1) = m ((c.tc : Thread Cert.XbcIdeal.nD Cert.XbcIdeal.τ).loc Cert.XbcIdeal.main_arg1)) →
    ∃ (v0 : (c : Dev Cert.XbcIdeal.nD) → Buf (Elt Ideal) ((c.tc : Thread Cert.XbcIdeal.nD Cert.XbcIdeal.τ).loc Cert.XbcIdeal.main_v2)),
      θ_run (Cert.XbcIdeal.defs (F := Ideal)) (onTc (τ := Cert.XbcIdeal.τ) (Cert.XbcIdeal.main (F := Ideal))) ⟨m, fun _ => 0, g⟩ (fun r => ∀ c : Dev Cert.XbcIdeal.nD,
          r.2.mem ((c.tc : Thread Cert.XbcIdeal.nD Cert.XbcIdeal.τ).loc Cert.XbcIdeal.main_v2) = v0 c
          ∧ r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
          ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1))
      ∧ θ_run (Cert.XbcRefIdeal.defs (F := Ideal)) (onTc (τ := Cert.XbcRefIdeal.τ) (Cert.XbcRefIdeal.main (F := Ideal))) ⟨m', fun _ => 0, g'⟩ (fun r => ∀ c : Dev Cert.XbcRefIdeal.nD,
          r.2.mem ((c.tc : Thread Cert.XbcRefIdeal.nD Cert.XbcRefIdeal.τ).loc Cert.XbcRefIdeal.main_v3) = v0 c
          ∧ r.2.mem ((c.tc : Thread Cert.XbcRefIdeal.nD Cert.XbcRefIdeal.τ).loc Cert.XbcRefIdeal.main_arg0) = m' ((c.tc : Thread Cert.XbcRefIdeal.nD Cert.XbcRefIdeal.τ).loc Cert.XbcRefIdeal.main_arg0)
          ∧ r.2.mem ((c.tc : Thread Cert.XbcRefIdeal.nD Cert.XbcRefIdeal.τ).loc Cert.XbcRefIdeal.main_arg1) = m' ((c.tc : Thread Cert.XbcRefIdeal.nD Cert.XbcRefIdeal.τ).loc Cert.XbcRefIdeal.main_arg1))

def preserves_XbcDw_XbcDwIdeal : Prop :=
  True

def algebraic_XbcDwIdeal_XbcDwRefIdeal [hXbcDwIdeal : Cert.XbcDwIdeal.Facts] [hXbcDwRefIdeal : Cert.XbcDwRefIdeal.Facts] : Prop :=
  ∀ (m : (ℓ : Loc Cert.XbcDwIdeal.nD Cert.XbcDwIdeal.τ Cert.XbcDwIdeal.sig) → Buf (Elt Ideal) ℓ) (g : Dev Cert.XbcDwIdeal.nD → PrngReg)
    (m' : (ℓ : Loc Cert.XbcDwRefIdeal.nD Cert.XbcDwRefIdeal.τ Cert.XbcDwRefIdeal.sig) → Buf (Elt Ideal) ℓ) (g' : Dev Cert.XbcDwRefIdeal.nD → PrngReg), Pre_XbcDwIdeal m →
    (∀ c : Dev Cert.XbcDwIdeal.nD,
      m' ((c.tc : Thread Cert.XbcDwRefIdeal.nD Cert.XbcDwRefIdeal.τ).loc Cert.XbcDwRefIdeal.main_arg0) = m ((c.tc : Thread Cert.XbcDwIdeal.nD Cert.XbcDwIdeal.τ).loc Cert.XbcDwIdeal.main_arg0)
      ∧ m' ((c.tc : Thread Cert.XbcDwRefIdeal.nD Cert.XbcDwRefIdeal.τ).loc Cert.XbcDwRefIdeal.main_arg1) = m ((c.tc : Thread Cert.XbcDwIdeal.nD Cert.XbcDwIdeal.τ).loc Cert.XbcDwIdeal.main_arg1)) →
    ∃ (v0 : (c : Dev Cert.XbcDwIdeal.nD) → Buf (Elt Ideal) ((c.tc : Thread Cert.XbcDwIdeal.nD Cert.XbcDwIdeal.τ).loc Cert.XbcDwIdeal.main_v0)),
      θ_run (Cert.XbcDwIdeal.defs (F := Ideal)) (onTc (τ := Cert.XbcDwIdeal.τ) (Cert.XbcDwIdeal.main (F := Ideal))) ⟨m, fun _ => 0, g⟩ (fun r => ∀ c : Dev Cert.XbcDwIdeal.nD,
          r.2.mem ((c.tc : Thread Cert.XbcDwIdeal.nD Cert.XbcDwIdeal.τ).loc Cert.XbcDwIdeal.main_v0) = v0 c
          ∧ r.2.mem ((c.tc : Thread Cert.XbcDwIdeal.nD Cert.XbcDwIdeal.τ).loc Cert.XbcDwIdeal.main_arg0) = m ((c.tc : Thread Cert.XbcDwIdeal.nD Cert.XbcDwIdeal.τ).loc Cert.XbcDwIdeal.main_arg0)
          ∧ r.2.mem ((c.tc : Thread Cert.XbcDwIdeal.nD Cert.XbcDwIdeal.τ).loc Cert.XbcDwIdeal.main_arg1) = m ((c.tc : Thread Cert.XbcDwIdeal.nD Cert.XbcDwIdeal.τ).loc Cert.XbcDwIdeal.main_arg1))
      ∧ θ_run (Cert.XbcDwRefIdeal.defs (F := Ideal)) (onTc (τ := Cert.XbcDwRefIdeal.τ) (Cert.XbcDwRefIdeal.main (F := Ideal))) ⟨m', fun _ => 0, g'⟩ (fun r => ∀ c : Dev Cert.XbcDwRefIdeal.nD,
          r.2.mem ((c.tc : Thread Cert.XbcDwRefIdeal.nD Cert.XbcDwRefIdeal.τ).loc Cert.XbcDwRefIdeal.main_v6) = v0 c
          ∧ r.2.mem ((c.tc : Thread Cert.XbcDwRefIdeal.nD Cert.XbcDwRefIdeal.τ).loc Cert.XbcDwRefIdeal.main_arg0) = m' ((c.tc : Thread Cert.XbcDwRefIdeal.nD Cert.XbcDwRefIdeal.τ).loc Cert.XbcDwRefIdeal.main_arg0)
          ∧ r.2.mem ((c.tc : Thread Cert.XbcDwRefIdeal.nD Cert.XbcDwRefIdeal.τ).loc Cert.XbcDwRefIdeal.main_arg1) = m' ((c.tc : Thread Cert.XbcDwRefIdeal.nD Cert.XbcDwRefIdeal.τ).loc Cert.XbcDwRefIdeal.main_arg1))

def preserves_XbcBwd_XbcBwdIdeal : Prop :=
  True

def algebraic_XbcBwdIdeal_XbcBwdRefIdeal [hXbcBwdIdeal : Cert.XbcBwdIdeal.Facts] [hXbcBwdRefIdeal : Cert.XbcBwdRefIdeal.Facts] : Prop :=
  ∀ (m : (ℓ : Loc Cert.XbcBwdIdeal.nD Cert.XbcBwdIdeal.τ Cert.XbcBwdIdeal.sig) → Buf (Elt Ideal) ℓ) (g : Dev Cert.XbcBwdIdeal.nD → PrngReg)
    (m' : (ℓ : Loc Cert.XbcBwdRefIdeal.nD Cert.XbcBwdRefIdeal.τ Cert.XbcBwdRefIdeal.sig) → Buf (Elt Ideal) ℓ) (g' : Dev Cert.XbcBwdRefIdeal.nD → PrngReg), Pre_XbcBwdIdeal m →
    (∀ c : Dev Cert.XbcBwdIdeal.nD,
      m' ((c.tc : Thread Cert.XbcBwdRefIdeal.nD Cert.XbcBwdRefIdeal.τ).loc Cert.XbcBwdRefIdeal.main_arg0) = m ((c.tc : Thread Cert.XbcBwdIdeal.nD Cert.XbcBwdIdeal.τ).loc Cert.XbcBwdIdeal.main_arg0)
      ∧ m' ((c.tc : Thread Cert.XbcBwdRefIdeal.nD Cert.XbcBwdRefIdeal.τ).loc Cert.XbcBwdRefIdeal.main_arg1) = m ((c.tc : Thread Cert.XbcBwdIdeal.nD Cert.XbcBwdIdeal.τ).loc Cert.XbcBwdIdeal.main_arg1)
      ∧ m' ((c.tc : Thread Cert.XbcBwdRefIdeal.nD Cert.XbcBwdRefIdeal.τ).loc Cert.XbcBwdRefIdeal.main_arg2) = m ((c.tc : Thread Cert.XbcBwdIdeal.nD Cert.XbcBwdIdeal.τ).loc Cert.XbcBwdIdeal.main_arg2)) →
    ∃ (v0 : (c : Dev Cert.XbcBwdIdeal.nD) → Buf (Elt Ideal) ((c.tc : Thread Cert.XbcBwdIdeal.nD Cert.XbcBwdIdeal.τ).loc Cert.XbcBwdIdeal.main_v2)),
      θ_run (Cert.XbcBwdIdeal.defs (F := Ideal)) (onTc (τ := Cert.XbcBwdIdeal.τ) (Cert.XbcBwdIdeal.main (F := Ideal))) ⟨m, fun _ => 0, g⟩ (fun r => ∀ c : Dev Cert.XbcBwdIdeal.nD,
          r.2.mem ((c.tc : Thread Cert.XbcBwdIdeal.nD Cert.XbcBwdIdeal.τ).loc Cert.XbcBwdIdeal.main_v2) = v0 c
          ∧ r.2.mem ((c.tc : Thread Cert.XbcBwdIdeal.nD Cert.XbcBwdIdeal.τ).loc Cert.XbcBwdIdeal.main_arg0) = m ((c.tc : Thread Cert.XbcBwdIdeal.nD Cert.XbcBwdIdeal.τ).loc Cert.XbcBwdIdeal.main_arg0)
          ∧ r.2.mem ((c.tc : Thread Cert.XbcBwdIdeal.nD Cert.XbcBwdIdeal.τ).loc Cert.XbcBwdIdeal.main_arg1) = m ((c.tc : Thread Cert.XbcBwdIdeal.nD Cert.XbcBwdIdeal.τ).loc Cert.XbcBwdIdeal.main_arg1)
          ∧ r.2.mem ((c.tc : Thread Cert.XbcBwdIdeal.nD Cert.XbcBwdIdeal.τ).loc Cert.XbcBwdIdeal.main_arg2) = m ((c.tc : Thread Cert.XbcBwdIdeal.nD Cert.XbcBwdIdeal.τ).loc Cert.XbcBwdIdeal.main_arg2))
      ∧ θ_run (Cert.XbcBwdRefIdeal.defs (F := Ideal)) (onTc (τ := Cert.XbcBwdRefIdeal.τ) (Cert.XbcBwdRefIdeal.main (F := Ideal))) ⟨m', fun _ => 0, g'⟩ (fun r => ∀ c : Dev Cert.XbcBwdRefIdeal.nD,
          r.2.mem ((c.tc : Thread Cert.XbcBwdRefIdeal.nD Cert.XbcBwdRefIdeal.τ).loc Cert.XbcBwdRefIdeal.main_v5) = v0 c
          ∧ r.2.mem ((c.tc : Thread Cert.XbcBwdRefIdeal.nD Cert.XbcBwdRefIdeal.τ).loc Cert.XbcBwdRefIdeal.main_arg0) = m' ((c.tc : Thread Cert.XbcBwdRefIdeal.nD Cert.XbcBwdRefIdeal.τ).loc Cert.XbcBwdRefIdeal.main_arg0)
          ∧ r.2.mem ((c.tc : Thread Cert.XbcBwdRefIdeal.nD Cert.XbcBwdRefIdeal.τ).loc Cert.XbcBwdRefIdeal.main_arg1) = m' ((c.tc : Thread Cert.XbcBwdRefIdeal.nD Cert.XbcBwdRefIdeal.τ).loc Cert.XbcBwdRefIdeal.main_arg1)
          ∧ r.2.mem ((c.tc : Thread Cert.XbcBwdRefIdeal.nD Cert.XbcBwdRefIdeal.τ).loc Cert.XbcBwdRefIdeal.main_arg2) = m' ((c.tc : Thread Cert.XbcBwdRefIdeal.nD Cert.XbcBwdRefIdeal.τ).loc Cert.XbcBwdRefIdeal.main_arg2))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)) →
    ∃ (v0 : (c : Dev Cert.EvenIdeal.nD) → Buf (Elt Ideal) ((c.tc : Thread Cert.EvenIdeal.nD Cert.EvenIdeal.τ).loc Cert.EvenIdeal.main_v1)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v1) = v0 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v4) = v0 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1))

def preserves_EvenDw_EvenDwIdeal : Prop :=
  True

def algebraic_EvenDwIdeal_EvenDwRefIdeal [hEvenDwIdeal : Cert.EvenDwIdeal.Facts] [hEvenDwRefIdeal : Cert.EvenDwRefIdeal.Facts] : Prop :=
  ∀ (m : (ℓ : Loc Cert.EvenDwIdeal.nD Cert.EvenDwIdeal.τ Cert.EvenDwIdeal.sig) → Buf (Elt Ideal) ℓ) (g : Dev Cert.EvenDwIdeal.nD → PrngReg)
    (m' : (ℓ : Loc Cert.EvenDwRefIdeal.nD Cert.EvenDwRefIdeal.τ Cert.EvenDwRefIdeal.sig) → Buf (Elt Ideal) ℓ) (g' : Dev Cert.EvenDwRefIdeal.nD → PrngReg), Pre_EvenDwIdeal m →
    (∀ c : Dev Cert.EvenDwIdeal.nD,
      m' ((c.tc : Thread Cert.EvenDwRefIdeal.nD Cert.EvenDwRefIdeal.τ).loc Cert.EvenDwRefIdeal.main_arg0) = m ((c.tc : Thread Cert.EvenDwIdeal.nD Cert.EvenDwIdeal.τ).loc Cert.EvenDwIdeal.main_arg0)
      ∧ m' ((c.tc : Thread Cert.EvenDwRefIdeal.nD Cert.EvenDwRefIdeal.τ).loc Cert.EvenDwRefIdeal.main_arg1) = m ((c.tc : Thread Cert.EvenDwIdeal.nD Cert.EvenDwIdeal.τ).loc Cert.EvenDwIdeal.main_arg1)) →
    ∃ (v0 : (c : Dev Cert.EvenDwIdeal.nD) → Buf (Elt Ideal) ((c.tc : Thread Cert.EvenDwIdeal.nD Cert.EvenDwIdeal.τ).loc Cert.EvenDwIdeal.main_v0)),
      θ_run (Cert.EvenDwIdeal.defs (F := Ideal)) (onTc (τ := Cert.EvenDwIdeal.τ) (Cert.EvenDwIdeal.main (F := Ideal))) ⟨m, fun _ => 0, g⟩ (fun r => ∀ c : Dev Cert.EvenDwIdeal.nD,
          r.2.mem ((c.tc : Thread Cert.EvenDwIdeal.nD Cert.EvenDwIdeal.τ).loc Cert.EvenDwIdeal.main_v0) = v0 c
          ∧ r.2.mem ((c.tc : Thread Cert.EvenDwIdeal.nD Cert.EvenDwIdeal.τ).loc Cert.EvenDwIdeal.main_arg0) = m ((c.tc : Thread Cert.EvenDwIdeal.nD Cert.EvenDwIdeal.τ).loc Cert.EvenDwIdeal.main_arg0)
          ∧ r.2.mem ((c.tc : Thread Cert.EvenDwIdeal.nD Cert.EvenDwIdeal.τ).loc Cert.EvenDwIdeal.main_arg1) = m ((c.tc : Thread Cert.EvenDwIdeal.nD Cert.EvenDwIdeal.τ).loc Cert.EvenDwIdeal.main_arg1))
      ∧ θ_run (Cert.EvenDwRefIdeal.defs (F := Ideal)) (onTc (τ := Cert.EvenDwRefIdeal.τ) (Cert.EvenDwRefIdeal.main (F := Ideal))) ⟨m', fun _ => 0, g'⟩ (fun r => ∀ c : Dev Cert.EvenDwRefIdeal.nD,
          r.2.mem ((c.tc : Thread Cert.EvenDwRefIdeal.nD Cert.EvenDwRefIdeal.τ).loc Cert.EvenDwRefIdeal.main_v7) = v0 c
          ∧ r.2.mem ((c.tc : Thread Cert.EvenDwRefIdeal.nD Cert.EvenDwRefIdeal.τ).loc Cert.EvenDwRefIdeal.main_arg0) = m' ((c.tc : Thread Cert.EvenDwRefIdeal.nD Cert.EvenDwRefIdeal.τ).loc Cert.EvenDwRefIdeal.main_arg0)
          ∧ r.2.mem ((c.tc : Thread Cert.EvenDwRefIdeal.nD Cert.EvenDwRefIdeal.τ).loc Cert.EvenDwRefIdeal.main_arg1) = m' ((c.tc : Thread Cert.EvenDwRefIdeal.nD Cert.EvenDwRefIdeal.τ).loc Cert.EvenDwRefIdeal.main_arg1))

def preserves_EvenBwd_EvenBwdIdeal : Prop :=
  True

def algebraic_EvenBwdIdeal_EvenBwdRefIdeal [hEvenBwdIdeal : Cert.EvenBwdIdeal.Facts] [hEvenBwdRefIdeal : Cert.EvenBwdRefIdeal.Facts] : Prop :=
  ∀ (m : (ℓ : Loc Cert.EvenBwdIdeal.nD Cert.EvenBwdIdeal.τ Cert.EvenBwdIdeal.sig) → Buf (Elt Ideal) ℓ) (g : Dev Cert.EvenBwdIdeal.nD → PrngReg)
    (m' : (ℓ : Loc Cert.EvenBwdRefIdeal.nD Cert.EvenBwdRefIdeal.τ Cert.EvenBwdRefIdeal.sig) → Buf (Elt Ideal) ℓ) (g' : Dev Cert.EvenBwdRefIdeal.nD → PrngReg), Pre_EvenBwdIdeal m →
    (∀ c : Dev Cert.EvenBwdIdeal.nD,
      m' ((c.tc : Thread Cert.EvenBwdRefIdeal.nD Cert.EvenBwdRefIdeal.τ).loc Cert.EvenBwdRefIdeal.main_arg0) = m ((c.tc : Thread Cert.EvenBwdIdeal.nD Cert.EvenBwdIdeal.τ).loc Cert.EvenBwdIdeal.main_arg0)
      ∧ m' ((c.tc : Thread Cert.EvenBwdRefIdeal.nD Cert.EvenBwdRefIdeal.τ).loc Cert.EvenBwdRefIdeal.main_arg1) = m ((c.tc : Thread Cert.EvenBwdIdeal.nD Cert.EvenBwdIdeal.τ).loc Cert.EvenBwdIdeal.main_arg1)) →
    ∃ (v0 : (c : Dev Cert.EvenBwdIdeal.nD) → Buf (Elt Ideal) ((c.tc : Thread Cert.EvenBwdIdeal.nD Cert.EvenBwdIdeal.τ).loc Cert.EvenBwdIdeal.main_v1)),
      θ_run (Cert.EvenBwdIdeal.defs (F := Ideal)) (onTc (τ := Cert.EvenBwdIdeal.τ) (Cert.EvenBwdIdeal.main (F := Ideal))) ⟨m, fun _ => 0, g⟩ (fun r => ∀ c : Dev Cert.EvenBwdIdeal.nD,
          r.2.mem ((c.tc : Thread Cert.EvenBwdIdeal.nD Cert.EvenBwdIdeal.τ).loc Cert.EvenBwdIdeal.main_v1) = v0 c
          ∧ r.2.mem ((c.tc : Thread Cert.EvenBwdIdeal.nD Cert.EvenBwdIdeal.τ).loc Cert.EvenBwdIdeal.main_arg0) = m ((c.tc : Thread Cert.EvenBwdIdeal.nD Cert.EvenBwdIdeal.τ).loc Cert.EvenBwdIdeal.main_arg0)
          ∧ r.2.mem ((c.tc : Thread Cert.EvenBwdIdeal.nD Cert.EvenBwdIdeal.τ).loc Cert.EvenBwdIdeal.main_arg1) = m ((c.tc : Thread Cert.EvenBwdIdeal.nD Cert.EvenBwdIdeal.τ).loc Cert.EvenBwdIdeal.main_arg1))
      ∧ θ_run (Cert.EvenBwdRefIdeal.defs (F := Ideal)) (onTc (τ := Cert.EvenBwdRefIdeal.τ) (Cert.EvenBwdRefIdeal.main (F := Ideal))) ⟨m', fun _ => 0, g'⟩ (fun r => ∀ c : Dev Cert.EvenBwdRefIdeal.nD,
          r.2.mem ((c.tc : Thread Cert.EvenBwdRefIdeal.nD Cert.EvenBwdRefIdeal.τ).loc Cert.EvenBwdRefIdeal.main_v3) = v0 c
          ∧ r.2.mem ((c.tc : Thread Cert.EvenBwdRefIdeal.nD Cert.EvenBwdRefIdeal.τ).loc Cert.EvenBwdRefIdeal.main_arg0) = m' ((c.tc : Thread Cert.EvenBwdRefIdeal.nD Cert.EvenBwdRefIdeal.τ).loc Cert.EvenBwdRefIdeal.main_arg0)
          ∧ r.2.mem ((c.tc : Thread Cert.EvenBwdRefIdeal.nD Cert.EvenBwdRefIdeal.τ).loc Cert.EvenBwdRefIdeal.main_arg1) = m' ((c.tc : Thread Cert.EvenBwdRefIdeal.nD Cert.EvenBwdRefIdeal.τ).loc Cert.EvenBwdRefIdeal.main_arg1))

def Claim : Prop :=
  ∃ (hKernel : Cert.Kernel.Facts) (hKernelIdeal : Cert.KernelIdeal.Facts) (hReferenceIdeal : Cert.ReferenceIdeal.Facts) (hDa : Cert.Da.Facts) (hDaIdeal : Cert.DaIdeal.Facts) (hDaRefIdeal : Cert.DaRefIdeal.Facts) (hDw2 : Cert.Dw2.Facts) (hDw2Ideal : Cert.Dw2Ideal.Facts) (hDw2RefIdeal : Cert.Dw2RefIdeal.Facts) (hDw1 : Cert.Dw1.Facts) (hDw1Ideal : Cert.Dw1Ideal.Facts) (hDw1RefIdeal : Cert.Dw1RefIdeal.Facts) (hDh : Cert.Dh.Facts) (hDhIdeal : Cert.DhIdeal.Facts) (hDhRefIdeal : Cert.DhRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hNorm : Cert.Norm.Facts) (hNormIdeal : Cert.NormIdeal.Facts) (hNormRefIdeal : Cert.NormRefIdeal.Facts) (hXbc : Cert.Xbc.Facts) (hXbcIdeal : Cert.XbcIdeal.Facts) (hXbcRefIdeal : Cert.XbcRefIdeal.Facts) (hXbcDw : Cert.XbcDw.Facts) (hXbcDwIdeal : Cert.XbcDwIdeal.Facts) (hXbcDwRefIdeal : Cert.XbcDwRefIdeal.Facts) (hXbcBwd : Cert.XbcBwd.Facts) (hXbcBwdIdeal : Cert.XbcBwdIdeal.Facts) (hXbcBwdRefIdeal : Cert.XbcBwdRefIdeal.Facts) (hEven : Cert.Even.Facts) (hEvenIdeal : Cert.EvenIdeal.Facts) (hEvenRefIdeal : Cert.EvenRefIdeal.Facts) (hEvenDw : Cert.EvenDw.Facts) (hEvenDwIdeal : Cert.EvenDwIdeal.Facts) (hEvenDwRefIdeal : Cert.EvenDwRefIdeal.Facts) (hEvenBwd : Cert.EvenBwd.Facts) (hEvenBwdIdeal : Cert.EvenBwdIdeal.Facts) (hEvenBwdRefIdeal : Cert.EvenBwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Da (hDa := hDa)
    ∧ quiescent_DaIdeal (hDaIdeal := hDaIdeal)
    ∧ quiescent_DaRefIdeal (hDaRefIdeal := hDaRefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Dw1 (hDw1 := hDw1)
    ∧ quiescent_Dw1Ideal (hDw1Ideal := hDw1Ideal)
    ∧ quiescent_Dw1RefIdeal (hDw1RefIdeal := hDw1RefIdeal)
    ∧ quiescent_Dh (hDh := hDh)
    ∧ quiescent_DhIdeal (hDhIdeal := hDhIdeal)
    ∧ quiescent_DhRefIdeal (hDhRefIdeal := hDhRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Norm (hNorm := hNorm)
    ∧ quiescent_NormIdeal (hNormIdeal := hNormIdeal)
    ∧ quiescent_NormRefIdeal (hNormRefIdeal := hNormRefIdeal)
    ∧ quiescent_Xbc (hXbc := hXbc)
    ∧ quiescent_XbcIdeal (hXbcIdeal := hXbcIdeal)
    ∧ quiescent_XbcRefIdeal (hXbcRefIdeal := hXbcRefIdeal)
    ∧ quiescent_XbcDw (hXbcDw := hXbcDw)
    ∧ quiescent_XbcDwIdeal (hXbcDwIdeal := hXbcDwIdeal)
    ∧ quiescent_XbcDwRefIdeal (hXbcDwRefIdeal := hXbcDwRefIdeal)
    ∧ quiescent_XbcBwd (hXbcBwd := hXbcBwd)
    ∧ quiescent_XbcBwdIdeal (hXbcBwdIdeal := hXbcBwdIdeal)
    ∧ quiescent_XbcBwdRefIdeal (hXbcBwdRefIdeal := hXbcBwdRefIdeal)
    ∧ quiescent_Even (hEven := hEven)
    ∧ quiescent_EvenIdeal (hEvenIdeal := hEvenIdeal)
    ∧ quiescent_EvenRefIdeal (hEvenRefIdeal := hEvenRefIdeal)
    ∧ quiescent_EvenDw (hEvenDw := hEvenDw)
    ∧ quiescent_EvenDwIdeal (hEvenDwIdeal := hEvenDwIdeal)
    ∧ quiescent_EvenDwRefIdeal (hEvenDwRefIdeal := hEvenDwRefIdeal)
    ∧ quiescent_EvenBwd (hEvenBwd := hEvenBwd)
    ∧ quiescent_EvenBwdIdeal (hEvenBwdIdeal := hEvenBwdIdeal)
    ∧ quiescent_EvenBwdRefIdeal (hEvenBwdRefIdeal := hEvenBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Da_DaIdeal
    ∧ algebraic_DaIdeal_DaRefIdeal (hDaIdeal := hDaIdeal) (hDaRefIdeal := hDaRefIdeal)
    ∧ preserves_Dw2_Dw2Ideal
    ∧ algebraic_Dw2Ideal_Dw2RefIdeal (hDw2Ideal := hDw2Ideal) (hDw2RefIdeal := hDw2RefIdeal)
    ∧ preserves_Dw1_Dw1Ideal
    ∧ algebraic_Dw1Ideal_Dw1RefIdeal (hDw1Ideal := hDw1Ideal) (hDw1RefIdeal := hDw1RefIdeal)
    ∧ preserves_Dh_DhIdeal
    ∧ algebraic_DhIdeal_DhRefIdeal (hDhIdeal := hDhIdeal) (hDhRefIdeal := hDhRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Norm_NormIdeal
    ∧ algebraic_NormIdeal_NormRefIdeal (hNormIdeal := hNormIdeal) (hNormRefIdeal := hNormRefIdeal)
    ∧ preserves_Xbc_XbcIdeal
    ∧ algebraic_XbcIdeal_XbcRefIdeal (hXbcIdeal := hXbcIdeal) (hXbcRefIdeal := hXbcRefIdeal)
    ∧ preserves_XbcDw_XbcDwIdeal
    ∧ algebraic_XbcDwIdeal_XbcDwRefIdeal (hXbcDwIdeal := hXbcDwIdeal) (hXbcDwRefIdeal := hXbcDwRefIdeal)
    ∧ preserves_XbcBwd_XbcBwdIdeal
    ∧ algebraic_XbcBwdIdeal_XbcBwdRefIdeal (hXbcBwdIdeal := hXbcBwdIdeal) (hXbcBwdRefIdeal := hXbcBwdRefIdeal)
    ∧ preserves_Even_EvenIdeal
    ∧ algebraic_EvenIdeal_EvenRefIdeal (hEvenIdeal := hEvenIdeal) (hEvenRefIdeal := hEvenRefIdeal)
    ∧ preserves_EvenDw_EvenDwIdeal
    ∧ algebraic_EvenDwIdeal_EvenDwRefIdeal (hEvenDwIdeal := hEvenDwIdeal) (hEvenDwRefIdeal := hEvenDwRefIdeal)
    ∧ preserves_EvenBwd_EvenBwdIdeal
    ∧ algebraic_EvenBwdIdeal_EvenBwdRefIdeal (hEvenBwdIdeal := hEvenBwdIdeal) (hEvenBwdRefIdeal := hEvenBwdRefIdeal)
-- ==== Pre_finite.lean ====
abbrev S10x8192x512 : Shape := ⟨3, ![10, 8192, 512]⟩
abbrev S8192x1024 : Shape := ⟨2, ![8192, 1024]⟩
abbrev S8192x8x64 : Shape := ⟨3, ![8192, 8, 64]⟩
abbrev S8192x8 : Shape := ⟨2, ![8192, 8]⟩
abbrev S_ : Shape := ⟨0, ![]⟩

class Facts : Prop where
  bitsLt_bf16_f32 : FTy.bits .bf16 < FTy.bits .f32
  bcast_S_S10x8192x512 : S_.BroadcastsInDim S10x8192x512 (![] : Fin 0 → Fin S10x8192x512.rank)
  bcast_S_S8192x1024 : S_.BroadcastsInDim S8192x1024 (![] : Fin 0 → Fin S8192x1024.rank)
  bcast_S_S8192x8x64 : S_.BroadcastsInDim S8192x8x64 (![] : Fin 0 → Fin S8192x8x64.rank)
  bcast_S_S8192x8 : S_.BroadcastsInDim S8192x8 (![] : Fin 0 → Fin S8192x8.rank)

variable [Facts]

def fn_part1 {F : FTy → Type} [FloatOps F] (main_v3 : IVec S10x8192x512 1) (main_v7 : IVec S8192x1024 1) (main_v10 : IVec S8192x8x64 1) (main_v13 : IVec S8192x8 1) (main_v16 : IVec S8192x8x64 1) (main_v17 : FVec F S8192x8 .f32) (main_cst_4 : FVec F S_ .f32) : IVec S10x8192x512 1 × IVec S8192x1024 1 × IVec S8192x8x64 1 × IVec S8192x8 1 × IVec S8192x8x64 1 × IVec S8192x8 1 :=
  let main_v18 : FVec F S8192x8 .f32 := broadcastInDim S8192x8 ![] bcast_S_S8192x8 main_cst_4
  let main_v19 : IVec S8192x8 1 := cmpf .olt main_v17 main_v18
  (main_v3, main_v7, main_v10, main_v13, main_v16, main_v19)

def fn {F : FTy → Type} [FloatOps F] (main_arg0 : FVec F S10x8192x512 .bf16) (main_arg1 : FVec F S8192x1024 .bf16) (main_arg2 : FVec F S8192x8x64 .f32) (main_arg3 : FVec F S8192x8 .f32) (main_arg4 : FVec F S8192x8x64 .f32) (main_arg5 : FVec F S8192x8 .f32) : IVec S10x8192x512 1 × IVec S8192x1024 1 × IVec S8192x8x64 1 × IVec S8192x8 1 × IVec S8192x8x64 1 × IVec S8192x8 1 :=
  let main_v0 : FVec F S10x8192x512 .f32 := (extf .f32 · bitsLt_bf16_f32) main_arg0
  let main_v1 : FVec F S10x8192x512 .f32 := Host.absf main_v0
  let main_cst : FVec F S_ .f32 := constant S_ .f32 0x7F800000#32
  let main_v2 : FVec F S10x8192x512 .f32 := broadcastInDim S10x8192x512 ![] bcast_S_S10x8192x512 main_cst
  let main_v3 : IVec S10x8192x512 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x8x64 .f32 := Host.absf main_arg2
  let main_cst_1 : FVec F S_ .f32 := constant S_ .f32 0x7F800000#32
  let main_v9 : FVec F S8192x8x64 .f32 := broadcastInDim S8192x8x64 ![] bcast_S_S8192x8x64 main_cst_1
  let main_v10 : IVec S8192x8x64 1 := cmpf .olt main_v8 main_v9
  let main_v11 : FVec F S8192x8 .f32 := Host.absf main_arg3
  let main_cst_2 : FVec F S_ .f32 := constant S_ .f32 0x7F800000#32
  let main_v12 : FVec F S8192x8 .f32 := broadcastInDim S8192x8 ![] bcast_S_S8192x8 main_cst_2
  let main_v13 : IVec S8192x8 1 := cmpf .olt main_v11 main_v12
  let main_v14 : FVec F S8192x8x64 .f32 := Host.absf main_arg4
  let main_cst_3 : FVec F S_ .f32 := constant S_ .f32 0x7F800000#32
  let main_v15 : FVec F S8192x8x64 .f32 := broadcastInDim S8192x8x64 ![] bcast_S_S8192x8x64 main_cst_3
  let main_v16 : IVec S8192x8x64 1 := cmpf .olt main_v14 main_v15
  let main_v17 : FVec F S8192x8 .f32 := Host.absf main_arg5
  let main_cst_4 : FVec F S_ .f32 := constant S_ .f32 0x7F800000#32
  fn_part1 (F := F) main_v3 main_v7 main_v10 main_v13 main_v16 main_v17 main_cst_4
-- ==== Kernel.lean ====
abbrev S10x8192x512 : Shape := ⟨3, ![10, 8192, 512]⟩
abbrev S8192x1024 : Shape := ⟨2, ![8192, 1024]⟩
abbrev S8192x8x64 : Shape := ⟨3, ![8192, 8, 64]⟩
abbrev S8192x8 : Shape := ⟨2, ![8192, 8]⟩
abbrev S1x8192x512 : Shape := ⟨3, ![1, 8192, 512]⟩
abbrev S8192x512 : Shape := ⟨2, ![8192, 512]⟩
abbrev S512x16x8x64 : Shape := ⟨4, ![512, 16, 8, 64]⟩
abbrev S16x8x512x64 : Shape := ⟨4, ![16, 8, 512, 64]⟩
abbrev S_ : Shape := ⟨0, ![]⟩
abbrev S16x8x4x128x64 : Shape := ⟨5, ![16, 8, 4, 128, 64]⟩
abbrev S16x8x128x64 : Shape := ⟨4, ![16, 8, 128, 64]⟩
abbrev S16x8x640x64 : Shape := ⟨4, ![16, 8, 640, 64]⟩
abbrev S16x8x5x128x64 : Shape := ⟨5, ![16, 8, 5, 128, 64]⟩
abbrev S16x8x4x256x64 : Shape := ⟨5, ![16, 8, 4, 256, 64]⟩
abbrev S16x8x4x128x256 : Shape := ⟨5, ![16, 8, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S16x8x4x128 : Shape := ⟨4, ![16, 8, 4, 128]⟩
abbrev S16x8x4x128x1 : Shape := ⟨5, ![16, 8, 4, 128, 1]⟩
abbrev S16x8x512 : Shape := ⟨3, ![16, 8, 512]⟩
abbrev S512x16x8 : Shape := ⟨3, ![512, 16, 8]⟩
abbrev S8192x8x1 : Shape := ⟨3, ![8192, 8, 1]⟩
abbrev S3x8192x512 : Shape := ⟨3, ![3, 8192, 512]⟩
abbrev S3x512x8192 : Shape := ⟨3, ![3, 512, 8192]⟩
abbrev S512x16384 : Shape := ⟨2, ![512, 16384]⟩
abbrev S512x8192 : Shape := ⟨2, ![512, 8192]⟩
abbrev S1x128x512 : Shape := ⟨3, ![1, 128, 512]⟩
abbrev S128x512 : Shape := ⟨2, ![128, 512]⟩
abbrev S3x128x512 : Shape := ⟨3, ![3, 128, 512]⟩
abbrev S128x128 : Shape := ⟨2, ![128, 128]⟩
abbrev S256x128 : Shape := ⟨2, ![256, 128]⟩
abbrev S1x128x128 : Shape := ⟨3, ![1, 128, 128]⟩

abbrev nBuf : Space → Nat
  | .hbm => 153
  | .vmem => 26
  | .smem => 0
  | _ => 0

abbrev hbmTy0_0 (i : Nat) : BufTy := match i % 128 with
  | 0 => ⟨S10x8192x512, .bf16⟩
  | 1 => ⟨S8192x1024, .bf16⟩
  | 2 => ⟨S8192x8x64, .f32⟩
  | 3 => ⟨S8192x8, .f32⟩
  | 4 => ⟨S8192x8x64, .f32⟩
  | 5 => ⟨S8192x8, .f32⟩
  | 6 => ⟨S1x8192x512, .bf16⟩
  | 7 => ⟨S8192x512, .bf16⟩
  | 8 => ⟨S8192x512, .f32⟩
  | 9 => ⟨S8192x8x64, .f32⟩
  | 10 => ⟨S1x8192x512, .bf16⟩
  | 11 => ⟨S8192x512, .bf16⟩
  | 12 => ⟨S8192x512, .f32⟩
  | 13 => ⟨S8192x8x64, .f32⟩
  | 14 => ⟨S1x8192x512, .bf16⟩
  | 15 => ⟨S8192x512, .bf16⟩
  | 16 => ⟨S8192x512, .f32⟩
  | 17 => ⟨S8192x8x64, .f32⟩
  | 18 => ⟨S512x16x8x64, .f32⟩
  | 19 => ⟨S16x8x512x64, .f32⟩
  | 20 => ⟨S_, .i32⟩
  | 21 => ⟨S_, .f32⟩
  | 22 => ⟨S16x8x512x64, .f32⟩
  | 23 => ⟨S16x8x4x128x64, .f32⟩
  | 24 => ⟨S_, .f32⟩
  | 25 => ⟨S16x8x128x64, .f32⟩
  | 26 => ⟨S512x16x8x64, .f32⟩
  | 27 => ⟨S16x8x512x64, .f32⟩
  | 28 => ⟨S_, .i32⟩
  | 29 => ⟨S_, .f32⟩
  | 30 => ⟨S16x8x512x64, .f32⟩
  | 31 => ⟨S16x8x640x64, .f32⟩
  | 32 => ⟨S16x8x5x128x64, .f32⟩
  | 33 => ⟨S16x8x4x128x64, .f32⟩
  | 34 => ⟨S16x8x4x128x64, .f32⟩
  | 35 => ⟨S16x8x4x256x64, .f32⟩
  | 36 => ⟨S_, .f32⟩
  | 37 => ⟨S16x8x128x64, .f32⟩
  | 38 => ⟨S512x16x8x64, .f32⟩
  | 39 => ⟨S16x8x512x64, .f32⟩
  | 40 => ⟨S_, .i32⟩
  | 41 => ⟨S_, .f32⟩
  | 42 => ⟨S16x8x512x64, .f32⟩
  | 43 => ⟨S16x8x640x64, .f32⟩
  | 44 => ⟨S16x8x5x128x64, .f32⟩
  | 45 => ⟨S16x8x4x128x64, .f32⟩
  | 46 => ⟨S16x8x4x128x64, .f32⟩
  | 47 => ⟨S16x8x4x256x64, .f32⟩
  | 48 => ⟨S16x8x4x128x256, .f32⟩
  | 49 => ⟨S_, .f32⟩
  | 50 => ⟨S16x8x4x128x256, .f32⟩
  | 51 => ⟨S16x8x4x128x256, .f32⟩
  | 52 => ⟨S128, .i32⟩
  | 53 => ⟨S128x1, .i32⟩
  | 54 => ⟨S256, .i32⟩
  | 55 => ⟨S1x256, .i32⟩
  | 56 => ⟨S_, .i32⟩
  | 57 => ⟨S128x1, .i32⟩
  | 58 => ⟨S128x1, .i32⟩
  | 59 => ⟨S128x256, .i32⟩
  | 60 => ⟨S128x256, .i32⟩
  | 61 => ⟨S128x256, .i32⟩
  | 62 => ⟨S4, .i32⟩
  | 63 => ⟨S4x1x1, .i32⟩
  | 64 => ⟨S_, .i32⟩
  | 65 => ⟨S4x1x1, .i32⟩
  | 66 => ⟨S4x1x1, .i32⟩
  | 67 => ⟨S_, .i32⟩
  | 68 => ⟨S4x1x1, .i32⟩
  | 69 => ⟨S4x1x1, .i32⟩
  | 70 => ⟨S1x1x256, .i32⟩
  | 71 => ⟨S4x1x256, .i32⟩
  | 72 => ⟨S4x1x256, .i32⟩
  | 73 => ⟨S4x1x256, .i32⟩
  | 74 => ⟨S_, .i32⟩
  | 75 => ⟨S128x256, .i32⟩
  | 76 => ⟨S128x256, .i1⟩
  | 77 => ⟨S_, .i32⟩
  | 78 => ⟨S128x256, .i32⟩
  | 79 => ⟨S128x256, .i1⟩
  | 80 => ⟨S128x256, .i1⟩
  | 81 => ⟨S_, .i32⟩
  | 82 => ⟨S4x1x256, .i32⟩
  | 83 => ⟨S4x1x256, .i1⟩
  | 84 => ⟨S1x128x256, .i1⟩
  | 85 => ⟨S4x128x256, .i1⟩
  | 86 => ⟨S4x128x256, .i1⟩
  | 87 => ⟨S4x128x256, .i1⟩
  | 88 => ⟨S_, .f32⟩
  | 89 => ⟨S_, .f32⟩
  | 90 => ⟨S16x8x4x128x256, .i1⟩
  | 91 => ⟨S16x8x4x128x256, .f32⟩
  | 92 => ⟨S16x8x4x128x256, .f32⟩
  | 93 => ⟨S_, .f32⟩
  | 94 => ⟨S16x8x4x128, .f32⟩
  | 95 => ⟨S16x8x4x128x1, .f32⟩
  | 96 => ⟨S16x8x4x128x256, .f32⟩
  | 97 => ⟨S16x8x4x128x256, .f32⟩
  | 98 => ⟨S16x8x4x128x256, .f32⟩
  | 99 => ⟨S_, .f32⟩
  | 100 => ⟨S16x8x4x128, .f32⟩
  | 101 => ⟨S16x8x4x128x1, .f32⟩
  | 102 => ⟨S16x8x4x128x256, .f32⟩
  | 103 => ⟨S16x8x4x128x256, .f32⟩
  | 104 => ⟨S16x8x4x128x64, .f32⟩
  | 105 => ⟨S16x8x4x128x1, .f32⟩
  | 106 => ⟨S16x8x4x128x1, .f32⟩
  | 107 => ⟨S16x8x4x128, .f32⟩
  | 108 => ⟨S16x8x512x64, .f32⟩
  | 109 => ⟨S512x16x8x64, .f32⟩
  | 110 => ⟨S8192x8x64, .f32⟩
  | 111 => ⟨S16x8x512, .f32⟩
  | 112 => ⟨S512x16x8, .f32⟩
  | 113 => ⟨S8192x8, .f32⟩
  | 114 => ⟨S8192x8, .f32⟩
  | 115 => ⟨S8192x8, .f32⟩
  | 116 => ⟨S8192x8, .f32⟩
  | 117 => ⟨S8192x8, .f32⟩
  | 118 => ⟨S8192x8, .f32⟩
  | 119 => ⟨S8192x8, .f32⟩
  | 120 => ⟨S8192x8, .f32⟩
  | 121 => ⟨S8192x8, .f32⟩
  | 122 => ⟨S8192x8, .f32⟩
  | 123 => ⟨S8192x8, .f32⟩
  | 124 => ⟨S8192x8x1, .f32⟩
  | 125 => ⟨S8192x8x64, .f32⟩
  | 126 => ⟨S8192x8x64, .f32⟩
  | 127 => ⟨S8192x8x1, .f32⟩
  | _ => ⟨S10x8192x512, .bf16⟩

abbrev hbmTy0_1 (i : Nat) : BufTy := match i % 128 with
  | 0 => ⟨S8192x8x64, .f32⟩
  | 1 => ⟨S8192x8x64, .f32⟩
  | 2 => ⟨S8192x8x64, .f32⟩
  | 3 => ⟨S8192x8x1, .f32⟩
  | 4 => ⟨S8192x8x64, .f32⟩
  | 5 => ⟨S8192x8x64, .f32⟩
  | 6 => ⟨S8192x8x64, .f32⟩
  | 7 => ⟨S8192x8x1, .f32⟩
  | 8 => ⟨S8192x8x64, .f32⟩
  | 9 => ⟨S8192x8x64, .f32⟩
  | 10 => ⟨S8192x512, .f32⟩
  | 11 => ⟨S8192x512, .bf16⟩
  | 12 => ⟨S_, .i32⟩
  | 13 => ⟨S_, .bf16⟩
  | 14 => ⟨S8192x1024, .bf16⟩
  | 15 => ⟨S8192x8, .f32⟩
  | 16 => ⟨S8192x8, .f32⟩
  | 17 => ⟨S8192x8x64, .f32⟩
  | 18 => ⟨S8192x512, .f32⟩
  | 19 => ⟨S3x8192x512, .bf16⟩
  | 20 => ⟨S3x512x8192, .bf16⟩
  | 21 => ⟨S512x16384, .bf16⟩
  | 22 => ⟨S512x16384, .bf16⟩
  | 23 => ⟨S512x8192, .f32⟩
  | 24 => ⟨S3x512x8192, .bf16⟩
  | _ => ⟨S10x8192x512, .bf16⟩

abbrev hbmTy (i : Nat) : BufTy := match i / 128 with
  | 0 => hbmTy0_0 i
  | 1 => hbmTy0_1 i
  | _ => ⟨S10x8192x512, .bf16⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S3x128x512, .bf16⟩
  | .local _ .vmem, ⟨25, _⟩ => ⟨S3x128x512, .bf16⟩
  | _, _ => ⟨S10x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_0 : Ref sig .tc := ⟨.hbm, 28, rfl⟩
abbrev main_call1_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_call2_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_5 : Ref sig .tc := ⟨.hbm, 64, rfl⟩
abbrev main_v48 : Ref sig .tc := ⟨.hbm, 65, rfl⟩
abbrev main_v49 : Ref sig .tc := ⟨.hbm, 66, rfl⟩
abbrev main_c_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_7 : Ref sig .tc := ⟨.hbm, 74, rfl⟩
abbrev main_v56 : Ref sig .tc := ⟨.hbm, 75, rfl⟩
abbrev main_v57 : Ref sig .tc := ⟨.hbm, 76, rfl⟩
abbrev main_c_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_10 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v67 : Ref sig .tc := ⟨.hbm, 92, rfl⟩
abbrev main_cst_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_c_13 : Ref sig .tc := ⟨.hbm, 140, rfl⟩
abbrev main_call4_v0 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.minsi v0 c3_i32
  let c0_i32 : BitVec 32 := 0#32
  let c0_i32_0 : BitVec 32 := 0#32
  ![c0_i32.toNat, v1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![c1_i32_0.toNat, v1.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![c2_i32.toNat, v1.toNat, arg0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.minsi v0 c3_i32
  let c2_i32 : BitVec 32 := 2#32
  let v2 : BitVec 32 := Scalar.muli c2_i32 arg0
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.minsi v0 c3_i32
  let c2_i32 : BitVec 32 := 2#32
  let v2 : BitVec 32 := Scalar.muli c2_i32 arg0
  let c0_i32 : BitVec 32 := 0#32
  ![v1.toNat, v2.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.minsi v0 c3_i32
  let c1_i32_0 : BitVec 32 := 1#32
  let v2 : BitVec 32 := Scalar.muli c1_i32_0 arg0
  let c0_i32 : BitVec 32 := 0#32
  ![v1.toNat, v2.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S10x8192x512 : Shape := ⟨3, ![10, 8192, 512]⟩
abbrev S8192x1024 : Shape := ⟨2, ![8192, 1024]⟩
abbrev S8192x8x64 : Shape := ⟨3, ![8192, 8, 64]⟩
abbrev S8192x8 : Shape := ⟨2, ![8192, 8]⟩
abbrev S1x8192x512 : Shape := ⟨3, ![1, 8192, 512]⟩
abbrev S8192x512 : Shape := ⟨2, ![8192, 512]⟩
abbrev S512x16x8x64 : Shape := ⟨4, ![512, 16, 8, 64]⟩
abbrev S16x8x512x64 : Shape := ⟨4, ![16, 8, 512, 64]⟩
abbrev S_ : Shape := ⟨0, ![]⟩
abbrev S16x8x4x128x64 : Shape := ⟨5, ![16, 8, 4, 128, 64]⟩
abbrev S16x8x128x64 : Shape := ⟨4, ![16, 8, 128, 64]⟩
abbrev S16x8x640x64 : Shape := ⟨4, ![16, 8, 640, 64]⟩
abbrev S16x8x5x128x64 : Shape := ⟨5, ![16, 8, 5, 128, 64]⟩
abbrev S16x8x4x256x64 : Shape := ⟨5, ![16, 8, 4, 256, 64]⟩
abbrev S16x8x4x128x256 : Shape := ⟨5, ![16, 8, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S16x8x4x128 : Shape := ⟨4, ![16, 8, 4, 128]⟩
abbrev S16x8x4x128x1 : Shape := ⟨5, ![16, 8, 4, 128, 1]⟩
abbrev S16x8x512 : Shape := ⟨3, ![16, 8, 512]⟩
abbrev S512x16x8 : Shape := ⟨3, ![512, 16, 8]⟩
abbrev S1x8192x8 : Shape := ⟨3, ![1, 8192, 8]⟩
abbrev S3x8192x8 : Shape := ⟨3, ![3, 8192, 8]⟩
abbrev S3x8192x8x1 : Shape := ⟨4, ![3, 8192, 8, 1]⟩
abbrev S1x8192x8x64 : Shape := ⟨4, ![1, 8192, 8, 64]⟩
abbrev S3x8192x8x64 : Shape := ⟨4, ![3, 8192, 8, 64]⟩
abbrev S16x8x4x64x256 : Shape := ⟨5, ![16, 8, 4, 64, 256]⟩
abbrev S3x512x8192 : Shape := ⟨3, ![3, 512, 8192]⟩

abbrev nBuf : Space → Nat
  | .hbm => 317
  | .vmem => 0
  | .smem => 0
  | _ => 0

abbrev hbmTy0_0 (i : Nat) : BufTy := match i % 128 with
  | 0 => ⟨S10x8192x512, .bf16⟩
  | 1 => ⟨S8192x1024, .bf16⟩
  | 2 => ⟨S8192x8x64, .f32⟩
  | 3 => ⟨S8192x8, .f32⟩
  | 4 => ⟨S8192x8x64, .f32⟩
  | 5 => ⟨S8192x8, .f32⟩
  | 6 => ⟨S1x8192x512, .bf16⟩
  | 7 => ⟨S8192x512, .bf16⟩
  | 8 => ⟨S8192x512, .f32⟩
  | 9 => ⟨S8192x8x64, .f32⟩
  | 10 => ⟨S1x8192x512, .bf16⟩
  | 11 => ⟨S8192x512, .bf16⟩
  | 12 => ⟨S8192x512, .f32⟩
  | 13 => ⟨S8192x8x64, .f32⟩
  | 14 => ⟨S1x8192x512, .bf16⟩
  | 15 => ⟨S8192x512, .bf16⟩
  | 16 => ⟨S8192x512, .f32⟩
  | 17 => ⟨S8192x8x64, .f32⟩
  | 18 => ⟨S8192x512, .bf16⟩
  | 19 => ⟨S8192x512, .f32⟩
  | 20 => ⟨S8192x8x64, .f32⟩
  | 21 => ⟨S512x16x8x64, .f32⟩
  | 22 => ⟨S16x8x512x64, .f32⟩
  | 23 => ⟨S_, .i32⟩
  | 24 => ⟨S_, .f32⟩
  | 25 => ⟨S16x8x512x64, .f32⟩
  | 26 => ⟨S_, .f32⟩
  | 27 => ⟨S16x8x4x128x64, .f32⟩
  | 28 => ⟨S_, .f32⟩
  | 29 => ⟨S16x8x128x64, .f32⟩
  | 30 => ⟨S512x16x8x64, .f32⟩
  | 31 => ⟨S16x8x512x64, .f32⟩
  | 32 => ⟨S_, .i32⟩
  | 33 => ⟨S_, .f32⟩
  | 34 => ⟨S16x8x512x64, .f32⟩
  | 35 => ⟨S_, .f32⟩
  | 36 => ⟨S16x8x640x64, .f32⟩
  | 37 => ⟨S_, .f32⟩
  | 38 => ⟨S16x8x128x64, .f32⟩
  | 39 => ⟨S16x8x5x128x64, .f32⟩
  | 40 => ⟨S16x8x4x128x64, .f32⟩
  | 41 => ⟨S16x8x4x128x64, .f32⟩
  | 42 => ⟨S16x8x4x256x64, .f32⟩
  | 43 => ⟨S_, .f32⟩
  | 44 => ⟨S16x8x128x64, .f32⟩
  | 45 => ⟨S512x16x8x64, .f32⟩
  | 46 => ⟨S16x8x512x64, .f32⟩
  | 47 => ⟨S_, .i32⟩
  | 48 => ⟨S_, .f32⟩
  | 49 => ⟨S16x8x512x64, .f32⟩
  | 50 => ⟨S_, .f32⟩
  | 51 => ⟨S16x8x640x64, .f32⟩
  | 52 => ⟨S_, .f32⟩
  | 53 => ⟨S16x8x128x64, .f32⟩
  | 54 => ⟨S16x8x5x128x64, .f32⟩
  | 55 => ⟨S16x8x4x128x64, .f32⟩
  | 56 => ⟨S16x8x4x128x64, .f32⟩
  | 57 => ⟨S16x8x4x256x64, .f32⟩
  | 58 => ⟨S16x8x4x128x256, .f32⟩
  | 59 => ⟨S_, .f32⟩
  | 60 => ⟨S16x8x4x128x256, .f32⟩
  | 61 => ⟨S16x8x4x128x256, .f32⟩
  | 62 => ⟨S128, .i32⟩
  | 63 => ⟨S128x1, .i32⟩
  | 64 => ⟨S256, .i32⟩
  | 65 => ⟨S1x256, .i32⟩
  | 66 => ⟨S_, .i32⟩
  | 67 => ⟨S128x1, .i32⟩
  | 68 => ⟨S128x1, .i32⟩
  | 69 => ⟨S128x256, .i32⟩
  | 70 => ⟨S128x256, .i32⟩
  | 71 => ⟨S128x256, .i32⟩
  | 72 => ⟨S4, .i32⟩
  | 73 => ⟨S4x1x1, .i32⟩
  | 74 => ⟨S_, .i32⟩
  | 75 => ⟨S4x1x1, .i32⟩
  | 76 => ⟨S4x1x1, .i32⟩
  | 77 => ⟨S_, .i32⟩
  | 78 => ⟨S4x1x1, .i32⟩
  | 79 => ⟨S4x1x1, .i32⟩
  | 80 => ⟨S1x1x256, .i32⟩
  | 81 => ⟨S4x1x256, .i32⟩
  | 82 => ⟨S4x1x256, .i32⟩
  | 83 => ⟨S4x1x256, .i32⟩
  | 84 => ⟨S_, .i32⟩
  | 85 => ⟨S128x256, .i32⟩
  | 86 => ⟨S128x256, .i1⟩
  | 87 => ⟨S_, .i32⟩
  | 88 => ⟨S128x256, .i32⟩
  | 89 => ⟨S128x256, .i1⟩
  | 90 => ⟨S128x256, .i1⟩
  | 91 => ⟨S_, .i32⟩
  | 92 => ⟨S4x1x256, .i32⟩
  | 93 => ⟨S4x1x256, .i1⟩
  | 94 => ⟨S1x128x256, .i1⟩
  | 95 => ⟨S4x128x256, .i1⟩
  | 96 => ⟨S4x128x256, .i1⟩
  | 97 => ⟨S4x128x256, .i1⟩
  | 98 => ⟨S_, .f32⟩
  | 99 => ⟨S_, .f32⟩
  | 100 => ⟨S16x8x4x128x256, .i1⟩
  | 101 => ⟨S16x8x4x128x256, .f32⟩
  | 102 => ⟨S16x8x4x128x256, .f32⟩
  | 103 => ⟨S_, .f32⟩
  | 104 => ⟨S16x8x4x128x256, .f32⟩
  | 105 => ⟨S_, .f32⟩
  | 106 => ⟨S16x8x4x128, .f32⟩
  | 107 => ⟨S16x8x4x128x1, .f32⟩
  | 108 => ⟨S16x8x4x128x256, .f32⟩
  | 109 => ⟨S16x8x4x128x256, .i1⟩
  | 110 => ⟨S16x8x4x128x256, .f32⟩
  | 111 => ⟨S_, .f32⟩
  | 112 => ⟨S16x8x4x128, .f32⟩
  | 113 => ⟨S16x8x4x128x1, .f32⟩
  | 114 => ⟨S16x8x4x128x256, .f32⟩
  | 115 => ⟨S16x8x4x128x256, .f32⟩
  | 116 => ⟨S16x8x4x128x256, .f32⟩
  | 117 => ⟨S_, .f32⟩
  | 118 => ⟨S16x8x4x128, .f32⟩
  | 119 => ⟨S16x8x4x128x1, .f32⟩
  | 120 => ⟨S16x8x4x128x256, .f32⟩
  | 121 => ⟨S16x8x4x128x256, .f32⟩
  | 122 => ⟨S16x8x4x128x1, .f32⟩
  | 123 => ⟨S_, .f32⟩
  | 124 => ⟨S16x8x4x128x1, .f32⟩
  | 125 => ⟨S16x8x4x128x1, .f32⟩
  | 126 => ⟨S16x8x4x128x64, .f32⟩
  | 127 => ⟨S16x8x4x128x1, .f32⟩
  | _ => ⟨S10x8192x512, .bf16⟩

abbrev hbmTy0_1 (i : Nat) : BufTy := match i % 128 with
  | 0 => ⟨S16x8x4x128x1, .f32⟩
  | 1 => ⟨S16x8x4x128, .f32⟩
  | 2 => ⟨S16x8x512x64, .f32⟩
  | 3 => ⟨S512x16x8x64, .f32⟩
  | 4 => ⟨S8192x8x64, .f32⟩
  | 5 => ⟨S16x8x512, .f32⟩
  | 6 => ⟨S512x16x8, .f32⟩
  | 7 => ⟨S8192x8, .f32⟩
  | 8 => ⟨S1x8192x8, .f32⟩
  | 9 => ⟨S1x8192x8, .f32⟩
  | 10 => ⟨S1x8192x8, .f32⟩
  | 11 => ⟨S3x8192x8, .f32⟩
  | 12 => ⟨S_, .f32⟩
  | 13 => ⟨S8192x8, .f32⟩
  | 14 => ⟨S_, .f32⟩
  | 15 => ⟨S8192x8, .f32⟩
  | 16 => ⟨S_, .f32⟩
  | 17 => ⟨S8192x8, .f32⟩
  | 18 => ⟨S1x8192x8, .f32⟩
  | 19 => ⟨S3x8192x8, .f32⟩
  | 20 => ⟨S3x8192x8, .i1⟩
  | 21 => ⟨S3x8192x8, .f32⟩
  | 22 => ⟨S_, .f32⟩
  | 23 => ⟨S8192x8, .f32⟩
  | 24 => ⟨S_, .f32⟩
  | 25 => ⟨S8192x8, .f32⟩
  | 26 => ⟨S8192x8, .f32⟩
  | 27 => ⟨S_, .f32⟩
  | 28 => ⟨S8192x8, .f32⟩
  | 29 => ⟨S8192x8, .i1⟩
  | 30 => ⟨S_, .f32⟩
  | 31 => ⟨S8192x8, .f32⟩
  | 32 => ⟨S8192x8, .i1⟩
  | 33 => ⟨S_, .f32⟩
  | 34 => ⟨S8192x8, .f32⟩
  | 35 => ⟨S_, .f32⟩
  | 36 => ⟨S8192x8, .f32⟩
  | 37 => ⟨S_, .f32⟩
  | 38 => ⟨S8192x8, .f32⟩
  | 39 => ⟨S8192x8, .f32⟩
  | 40 => ⟨S8192x8, .f32⟩
  | 41 => ⟨S1x8192x8, .f32⟩
  | 42 => ⟨S3x8192x8, .f32⟩
  | 43 => ⟨S3x8192x8, .f32⟩
  | 44 => ⟨S3x8192x8, .f32⟩
  | 45 => ⟨S_, .f32⟩
  | 46 => ⟨S8192x8, .f32⟩
  | 47 => ⟨S1x8192x8, .f32⟩
  | 48 => ⟨S3x8192x8, .f32⟩
  | 49 => ⟨S3x8192x8, .f32⟩
  | 50 => ⟨S1x8192x8, .f32⟩
  | 51 => ⟨S_, .f32⟩
  | 52 => ⟨S1x8192x8, .f32⟩
  | 53 => ⟨S1x8192x8, .f32⟩
  | 54 => ⟨S3x8192x8x1, .f32⟩
  | 55 => ⟨S1x8192x8x64, .f32⟩
  | 56 => ⟨S1x8192x8x64, .f32⟩
  | 57 => ⟨S1x8192x8x64, .f32⟩
  | 58 => ⟨S3x8192x8x64, .f32⟩
  | 59 => ⟨S_, .f32⟩
  | 60 => ⟨S8192x8x64, .f32⟩
  | 61 => ⟨S_, .f32⟩
  | 62 => ⟨S8192x8x64, .f32⟩
  | 63 => ⟨S3x8192x8x64, .f32⟩
  | 64 => ⟨S3x8192x8x64, .f32⟩
  | 65 => ⟨S_, .f32⟩
  | 66 => ⟨S8192x8x64, .f32⟩
  | 67 => ⟨S3x8192x8x64, .f32⟩
  | 68 => ⟨S3x8192x8x64, .f32⟩
  | 69 => ⟨S3x8192x8x64, .f32⟩
  | 70 => ⟨S3x8192x8x64, .f32⟩
  | 71 => ⟨S_, .f32⟩
  | 72 => ⟨S3x8192x8, .f32⟩
  | 73 => ⟨S3x8192x8x1, .f32⟩
  | 74 => ⟨S1x8192x8x64, .f32⟩
  | 75 => ⟨S8192x8x64, .f32⟩
  | 76 => ⟨S1x8192x8x64, .f32⟩
  | 77 => ⟨S8192x8x64, .f32⟩
  | 78 => ⟨S1x8192x8x64, .f32⟩
  | 79 => ⟨S8192x8x64, .f32⟩
  | 80 => ⟨S_, .f32⟩
  | 81 => ⟨S3x8192x8, .f32⟩
  | 82 => ⟨S3x8192x8, .f32⟩
  | 83 => ⟨S3x8192x8, .f32⟩
  | 84 => ⟨S3x8192x8, .f32⟩
  | 85 => ⟨S_, .f32⟩
  | 86 => ⟨S8192x8, .f32⟩
  | 87 => ⟨S1x8192x8, .f32⟩
  | 88 => ⟨S1x8192x8, .f32⟩
  | 89 => ⟨S3x8192x8, .f32⟩
  | 90 => ⟨S3x8192x8, .f32⟩
  | 91 => ⟨S_, .f32⟩
  | 92 => ⟨S8192x8, .f32⟩
  | 93 => ⟨S3x8192x8, .f32⟩
  | 94 => ⟨S3x8192x8, .f32⟩
  | 95 => ⟨S3x8192x8, .f32⟩
  | 96 => ⟨S1x8192x8, .f32⟩
  | 97 => ⟨S8192x8, .f32⟩
  | 98 => ⟨S1x8192x8, .f32⟩
  | 99 => ⟨S8192x8, .f32⟩
  | 100 => ⟨S1x8192x8, .f32⟩
  | 101 => ⟨S8192x8, .f32⟩
  | 102 => ⟨S512x16x8, .f32⟩
  | 103 => ⟨S16x8x512, .f32⟩
  | 104 => ⟨S16x8x4x128, .f32⟩
  | 105 => ⟨S512x16x8x64, .f32⟩
  | 106 => ⟨S16x8x512x64, .f32⟩
  | 107 => ⟨S16x8x4x128x64, .f32⟩
  | 108 => ⟨S16x8x4x128x1, .f32⟩
  | 109 => ⟨S16x8x4x128x1, .f32⟩
  | 110 => ⟨S16x8x4x64x256, .f32⟩
  | 111 => ⟨S16x8x4x256x64, .f32⟩
  | 112 => ⟨S16x8x4x128x256, .f32⟩
  | 113 => ⟨S16x8x4x128x256, .f32⟩
  | 114 => ⟨S16x8x4x128x256, .f32⟩
  | 115 => ⟨S16x8x4x128x256, .f32⟩
  | 116 => ⟨S_, .f32⟩
  | 117 => ⟨S16x8x4x128, .f32⟩
  | 118 => ⟨S16x8x4x128x1, .f32⟩
  | 119 => ⟨S16x8x4x128x1, .f32⟩
  | 120 => ⟨S16x8x4x128x1, .f32⟩
  | 121 => ⟨S16x8x4x128x256, .f32⟩
  | 122 => ⟨S16x8x4x128x256, .f32⟩
  | 123 => ⟨S_, .f32⟩
  | 124 => ⟨S16x8x4x128, .f32⟩
  | 125 => ⟨S16x8x4x128x256, .f32⟩
  | 126 => ⟨S16x8x4x128x256, .f32⟩
  | 127 => ⟨S16x8x4x128x256, .f32⟩
  | _ => ⟨S10x8192x512, .bf16⟩

abbrev hbmTy0_2 (i : Nat) : BufTy := match i % 128 with
  | 0 => ⟨S16x8x4x128x256, .f32⟩
  | 1 => ⟨S_, .f32⟩
  | 2 => ⟨S16x8x4x128, .f32⟩
  | 3 => ⟨S16x8x4x128x1, .f32⟩
  | 4 => ⟨S16x8x4x128x1, .f32⟩
  | 5 => ⟨S_, .f32⟩
  | 6 => ⟨S16x8x4x128, .f32⟩
  | 7 => ⟨S16x8x4x128, .f32⟩
  | 8 => ⟨S16x8x4x128x256, .f32⟩
  | 9 => ⟨S16x8x4x128x256, .f32⟩
  | 10 => ⟨S16x8x4x128x256, .f32⟩
  | 11 => ⟨S_, .f32⟩
  | 12 => ⟨S16x8x4x128x256, .f32⟩
  | 13 => ⟨S16x8x4x128x256, .f32⟩
  | 14 => ⟨S_, .f32⟩
  | 15 => ⟨S16x8x4x128x256, .f32⟩
  | 16 => ⟨S16x8x4x128x256, .f32⟩
  | 17 => ⟨S16x8x4x256x64, .f32⟩
  | 18 => ⟨S16x8x4x128x64, .f32⟩
  | 19 => ⟨S16x8x4x128x64, .f32⟩
  | 20 => ⟨S16x8x4x128x64, .f32⟩
  | 21 => ⟨S_, .f32⟩
  | 22 => ⟨S16x8x5x128x64, .f32⟩
  | 23 => ⟨S_, .f32⟩
  | 24 => ⟨S16x8x5x128x64, .f32⟩
  | 25 => ⟨S16x8x5x128x64, .f32⟩
  | 26 => ⟨S16x8x640x64, .f32⟩
  | 27 => ⟨S16x8x128x64, .f32⟩
  | 28 => ⟨S16x8x512x64, .f32⟩
  | 29 => ⟨S_, .f32⟩
  | 30 => ⟨S16x8x512x64, .f32⟩
  | 31 => ⟨S16x8x512x64, .f32⟩
  | 32 => ⟨S512x16x8x64, .f32⟩
  | 33 => ⟨S8192x8x64, .f32⟩
  | 34 => ⟨S16x8x4x128x64, .f32⟩
  | 35 => ⟨S16x8x4x128x64, .f32⟩
  | 36 => ⟨S_, .f32⟩
  | 37 => ⟨S16x8x5x128x64, .f32⟩
  | 38 => ⟨S_, .f32⟩
  | 39 => ⟨S16x8x5x128x64, .f32⟩
  | 40 => ⟨S16x8x5x128x64, .f32⟩
  | 41 => ⟨S16x8x640x64, .f32⟩
  | 42 => ⟨S16x8x128x64, .f32⟩
  | 43 => ⟨S16x8x512x64, .f32⟩
  | 44 => ⟨S_, .f32⟩
  | 45 => ⟨S16x8x512x64, .f32⟩
  | 46 => ⟨S16x8x512x64, .f32⟩
  | 47 => ⟨S512x16x8x64, .f32⟩
  | 48 => ⟨S8192x8x64, .f32⟩
  | 49 => ⟨S16x8x512x64, .f32⟩
  | 50 => ⟨S_, .f32⟩
  | 51 => ⟨S16x8x512x64, .f32⟩
  | 52 => ⟨S16x8x512x64, .f32⟩
  | 53 => ⟨S512x16x8x64, .f32⟩
  | 54 => ⟨S8192x8x64, .f32⟩
  | 55 => ⟨S1x8192x8x64, .f32⟩
  | 56 => ⟨S1x8192x8x64, .f32⟩
  | 57 => ⟨S1x8192x8x64, .f32⟩
  | 58 => ⟨S3x8192x8x64, .f32⟩
  | 59 => ⟨S3x512x8192, .f32⟩
  | 60 => ⟨S3x512x8192, .bf16⟩
  | _ => ⟨S10x8192x512, .bf16⟩

abbrev hbmTy (i : Nat) : BufTy := match i / 128 with
  | 0 => hbmTy0_0 i
  | 1 => hbmTy0_1 i
  | 2 => hbmTy0_2 i
  | _ => ⟨S10x8192x512, .bf16⟩

abbrev bufTy : (tb : Table) → Fin (tcTables nBuf tb) → BufTy
  | .hbm, ⟨i, _⟩ => hbmTy i
  | _, _ => ⟨S10x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17_0 : Ref sig .tc := ⟨.hbm, 25, rfl⟩
abbrev main_v17_1 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_0 : Ref sig .tc := ⟨.hbm, 32, rfl⟩
abbrev main_call1_v0 : Ref sig .tc := ⟨.hbm, 33, rfl⟩
abbrev main_v22_0 : Ref sig .tc := ⟨.hbm, 34, rfl⟩
abbrev main_v22_1 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_3 : Ref sig .tc := ⟨.hbm, 47, rfl⟩
abbrev main_call2_v0 : Ref sig .tc := ⟨.hbm, 48, rfl⟩
abbrev main_v32_0 : Ref sig .tc := ⟨.hbm, 49, rfl⟩
abbrev main_v32_1 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_7 : Ref sig .tc := ⟨.hbm, 74, rfl⟩
abbrev main_v53 : Ref sig .tc := ⟨.hbm, 75, rfl⟩
abbrev main_v54 : Ref sig .tc := ⟨.hbm, 76, rfl⟩
abbrev main_c_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_9 : Ref sig .tc := ⟨.hbm, 84, rfl⟩
abbrev main_v61 : Ref sig .tc := ⟨.hbm, 85, rfl⟩
abbrev main_v62 : Ref sig .tc := ⟨.hbm, 86, rfl⟩
abbrev main_c_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_call3_v0 : Ref sig .tc := ⟨.hbm, 99, rfl⟩
abbrev main_v72_1 : Ref sig .tc := ⟨.hbm, 100, rfl⟩
abbrev main_call3_v2 : Ref sig .tc := ⟨.hbm, 101, rfl⟩
abbrev main_v72_0 : Ref sig .tc := ⟨.hbm, 102, rfl⟩
abbrev main_call3_cst : Ref sig .tc := ⟨.hbm, 103, rfl⟩
abbrev main_v72_2 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_14 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_17 : Ref sig .tc := ⟨.hbm, 140, rfl⟩
abbrev main_v104 : Ref sig .tc := ⟨.hbm, 141, rfl⟩
abbrev main_cst_18 : Ref sig .tc := ⟨.hbm, 142, rfl⟩
abbrev main_v105 : Ref sig .tc := ⟨.hbm, 143, rfl⟩
abbrev main_cst_19 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_20 : Ref sig .tc := ⟨.hbm, 150, rfl⟩
abbrev main_v111 : Ref sig .tc := ⟨.hbm, 151, rfl⟩
abbrev main_cst_21 : Ref sig .tc := ⟨.hbm, 152, rfl⟩
abbrev main_v112 : Ref sig .tc := ⟨.hbm, 153, rfl⟩
abbrev main_v113 : Ref sig .tc := ⟨.hbm, 154, rfl⟩
abbrev main_cst_22 : Ref sig .tc := ⟨.hbm, 155, rfl⟩
abbrev main_v114 : Ref sig .tc := ⟨.hbm, 156, rfl⟩
abbrev main_v115 : Ref sig .tc := ⟨.hbm, 157, rfl⟩
abbrev main_cst_23 : Ref sig .tc := ⟨.hbm, 158, rfl⟩
abbrev main_v116 : Ref sig .tc := ⟨.hbm, 159, rfl⟩
abbrev main_v117 : Ref sig .tc := ⟨.hbm, 160, rfl⟩
abbrev main_cst_24 : Ref sig .tc := ⟨.hbm, 161, rfl⟩
abbrev main_v118 : Ref sig .tc := ⟨.hbm, 162, rfl⟩
abbrev main_cst_25 : Ref sig .tc := ⟨.hbm, 163, rfl⟩
abbrev main_v119 : Ref sig .tc := ⟨.hbm, 164, rfl⟩
abbrev main_cst_26 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_27 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_28 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_cst_29 : Ref sig .tc := ⟨.hbm, 187, rfl⟩
abbrev main_v139 : Ref sig .tc := ⟨.hbm, 188, rfl⟩
abbrev main_cst_30 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_31 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_32 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_33 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_cst_34 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_35 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_cst_36 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_cst_37 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_cst_38 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_cst_39 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_call4_cst : Ref sig .tc := ⟨.hbm, 267, rfl⟩
abbrev main_call4_v0 : Ref sig .tc := ⟨.hbm, 268, rfl⟩
abbrev main_v208 : Ref sig .tc := ⟨.hbm, 269, rfl⟩
abbrev main_cst_40 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_cst_41 : Ref sig .tc := ⟨.hbm, 277, rfl⟩
abbrev main_v215 : Ref sig .tc := ⟨.hbm, 278, rfl⟩
abbrev main_cst_42 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_call5_cst : Ref sig .tc := ⟨.hbm, 285, rfl⟩
abbrev main_call5_v0 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_cst_43 : Ref sig .tc := ⟨.hbm, 292, rfl⟩
abbrev main_v226 : Ref sig .tc := ⟨.hbm, 293, rfl⟩
abbrev main_cst_44 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_call6_cst : Ref sig .tc := ⟨.hbm, 300, rfl⟩
abbrev main_call6_v0 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_call7_cst : Ref sig .tc := ⟨.hbm, 306, rfl⟩
abbrev main_call7_v0 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩

abbrev nD : Nat := 1
abbrev τ : Topo := Topo.v7x

variable {F : FTy → Type} [FloatOps F]
-- ==== Da.lean ====
abbrev S8192x8192 : Shape := ⟨2, ![8192, 8192]⟩
abbrev S8192x2048 : Shape := ⟨2, ![8192, 2048]⟩
abbrev S2x8192x2048 : Shape := ⟨3, ![2, 8192, 2048]⟩
abbrev S_ : Shape := ⟨0, ![]⟩
abbrev S2x4x2048x2048 : Shape := ⟨4, ![2, 4, 2048, 2048]⟩
abbrev S4x2x2048x2048 : Shape := ⟨4, ![4, 2, 2048, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S2x8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S2x8192x2048, .bf16⟩
  | .hbm, ⟨8, _⟩ => ⟨S2x4x2048x2048, .bf16⟩
  | .hbm, ⟨9, _⟩ => ⟨S4x2x2048x2048, .bf16⟩
  | .hbm, ⟨10, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DaRefIdeal.lean ====
abbrev S8192x8192 : Shape := ⟨2, ![8192, 8192]⟩
abbrev S8192x2048 : Shape := ⟨2, ![8192, 2048]⟩
abbrev S2x8192x2048 : Shape := ⟨3, ![2, 8192, 2048]⟩
abbrev S1x8192x2048 : Shape := ⟨3, ![1, 8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S2x8192x2048, .f32⟩
  | .hbm, ⟨3, _⟩ => ⟨S1x8192x2048, .f32⟩
  | .hbm, ⟨4, _⟩ => ⟨S8192x2048, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x2048, .f32⟩
  | .hbm, ⟨18, _⟩ => ⟨S8192x2048, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Dw2.lean ====
abbrev S8192x8192 : Shape := ⟨2, ![8192, 8192]⟩
abbrev S8192x2048 : Shape := ⟨2, ![8192, 2048]⟩
abbrev S_ : Shape := ⟨0, ![]⟩
abbrev S4096x1024 : Shape := ⟨2, ![4096, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw2RefIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S8192x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Dw1.lean ====
abbrev S8192x2048 : Shape := ⟨2, ![8192, 2048]⟩
abbrev S8192x8192 : Shape := ⟨2, ![8192, 8192]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw1RefIdeal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | .hbm, ⟨11, _⟩ => ⟨S4x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dh.lean ====
abbrev S8192x8192 : Shape := ⟨2, ![8192, 8192]⟩
abbrev S2x2048x8192 : Shape := ⟨3, ![2, 2048, 8192]⟩
abbrev S2x2048x4x2048 : Shape := ⟨4, ![2, 2048, 4, 2048]⟩
abbrev S4x2x2048x2048 : Shape := ⟨4, ![4, 2, 2048, 2048]⟩
abbrev S_ : Shape := ⟨0, ![]⟩
abbrev S1x1 : Shape := ⟨2, ![1, 1]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2x2048x8192, .f32⟩
  | .hbm, ⟨2, _⟩ => ⟨S2x2048x8192, .bf16⟩
  | .hbm, ⟨3, _⟩ => ⟨S2x2048x4x2048, .bf16⟩
  | .hbm, ⟨4, _⟩ => ⟨S4x2x2048x2048, .bf16⟩
  | .hbm, ⟨5, _⟩ => ⟨S_, .f32⟩
  | .hbm, ⟨6, _⟩ => ⟨S1x1, .f32⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S8192x8192 : Shape := ⟨2, ![8192, 8192]⟩
abbrev S2x2048x8192 : Shape := ⟨3, ![2, 2048, 8192]⟩
abbrev S_ : Shape := ⟨0, ![]⟩
abbrev S8192x2048 : Shape := ⟨2, ![8192, 2048]⟩
abbrev S1x2048x8192 : Shape := ⟨3, ![1, 2048, 8192]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2x2048x8192, .f32⟩
  | .hbm, ⟨2, _⟩ => ⟨S_, .f32⟩
  | .hbm, ⟨3, _⟩ => ⟨S8192x2048, .f32⟩
  | .hbm, ⟨4, _⟩ => ⟨S1x2048x8192, .f32⟩
  | .hbm, ⟨5, _⟩ => ⟨S2048x8192, .f32⟩
  | .hbm, ⟨6, _⟩ => ⟨S8192x8192, .f32⟩
  | .hbm, ⟨7, _⟩ => ⟨S8192x8192, .f32⟩
  | .hbm, ⟨8, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S8192x2048 : Shape := ⟨2, ![8192, 2048]⟩
abbrev S2x2048x8192 : Shape := ⟨3, ![2, 2048, 8192]⟩
abbrev S2x2048x4x2048 : Shape := ⟨4, ![2, 2048, 4, 2048]⟩
abbrev S4x2x2048x2048 : Shape := ⟨4, ![4, 2, 2048, 2048]⟩
abbrev S8192x8192 : Shape := ⟨2, ![8192, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x8192, .f32⟩
  | .hbm, ⟨2, _⟩ => ⟨S2x2048x8192, .bf16⟩
  | .hbm, ⟨3, _⟩ => ⟨S2x2048x4x2048, .bf16⟩
  | .hbm, ⟨4, _⟩ => ⟨S4x2x2048x2048, .bf16⟩
  | .hbm, ⟨5, _⟩ => ⟨S8192x8192, .bf16⟩
  | .hbm, ⟨6, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S8192x2048 : Shape := ⟨2, ![8192, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x8192, .f32⟩
  | .hbm, ⟨2, _⟩ => ⟨S8192x2048, .f32⟩
  | .hbm, ⟨3, _⟩ => ⟨S1x2048x8192, .f32⟩
  | .hbm, ⟨4, _⟩ => ⟨S2048x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .bf16⟩
  | .hbm, ⟨11, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Down.lean ====
abbrev S8192x8192 : Shape := ⟨2, ![8192, 8192]⟩
abbrev S2x8192x2048 : Shape := ⟨3, ![2, 8192, 2048]⟩
abbrev S8192x2048 : Shape := ⟨2, ![8192, 2048]⟩
abbrev S2048 : Shape := ⟨1, ![2048]⟩
abbrev S_ : Shape := ⟨0, ![]⟩
abbrev S2x4x2048x2048 : Shape := ⟨4, ![2, 4, 2048, 2048]⟩
abbrev S4x2x2048x2048 : Shape := ⟨4, ![4, 2, 2048, 2048]⟩
abbrev S1x2048 : Shape := ⟨2, ![1, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S1x1024 : Shape := ⟨2, ![1, 1024]⟩
abbrev S2048x1024 : Shape := ⟨2, ![2048, 1024]⟩

abbrev nBuf : Space → Nat
  | .hbm => 15
  | .vmem => 13
  | .smem => 0
  | _ => 0

abbrev bufTy : (tb : Table) → Fin (tcTables nBuf tb) → BufTy
  | .hbm, ⟨0, _⟩ => ⟨S8192x8192, .f32⟩
  | .hbm, ⟨1, _⟩ => ⟨S2x8192x2048, .f32⟩
  | .hbm, ⟨2, _⟩ => ⟨S8192x2048, .f32⟩
  | .hbm, ⟨3, _⟩ => ⟨S2048, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .bf16⟩
  | .hbm, ⟨9, _⟩ => ⟨S2x8192x2048, .bf16⟩
  | .hbm, ⟨10, _⟩ => ⟨S2x4x2048x2048, .bf16⟩
  | .hbm, ⟨11, _⟩ => ⟨S4x2x2048x2048, .bf16⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S8192x8192 : Shape := ⟨2, ![8192, 8192]⟩
abbrev S2x8192x2048 : Shape := ⟨3, ![2, 8192, 2048]⟩
abbrev S8192x2048 : Shape := ⟨2, ![8192, 2048]⟩
abbrev S2048 : Shape := ⟨1, ![2048]⟩
abbrev S1x8192x2048 : Shape := ⟨3, ![1, 8192, 2048]⟩
abbrev S_ : Shape := ⟨0, ![]⟩
abbrev S1x2048 : Shape := ⟨2, ![1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S2x8192x2048, .f32⟩
  | .hbm, ⟨2, _⟩ => ⟨S8192x2048, .f32⟩
  | .hbm, ⟨3, _⟩ => ⟨S2048, .f32⟩
  | .hbm, ⟨4, _⟩ => ⟨S1x8192x2048, .f32⟩
  | .hbm, ⟨5, _⟩ => ⟨S8192x2048, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 16
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x2048, .bf16⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8192x2048, .bf16⟩
  | .hbm, ⟨15, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S8x2048, .f32⟩
  | .local _ .vmem, ⟨14, _⟩ => ⟨S8x2048, .f32⟩
  | .local _ .vmem, ⟨15, _⟩ => ⟨S8x2048, .f32⟩
  | .local _ .vmem, ⟨16, _⟩ => ⟨S256x2048, .bf16⟩
  | .local _ .vmem, ⟨17, _⟩ => ⟨S256x2048, .bf16⟩
  | .local _ .vmem, ⟨18, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== NormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x2048, .bf16⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S1x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Xbc.lean ====
abbrev S8192x2048 : Shape := ⟨2, ![8192, 2048]⟩
abbrev S2048x10304 : Shape := ⟨2, ![2048, 10304]⟩
abbrev S2048x6144 : Shape := ⟨2, ![2048, 6144]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x10304, .f32⟩
  | .hbm, ⟨2, _⟩ => ⟨S2048x10304, .bf16⟩
  | .hbm, ⟨3, _⟩ => ⟨S2048x6144, .bf16⟩
  | .hbm, ⟨4, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XbcRefIdeal.lean ====
abbrev S8192x2048 : Shape := ⟨2, ![8192, 2048]⟩
abbrev S2048x10304 : Shape := ⟨2, ![2048, 10304]⟩
abbrev S8192x10304 : Shape := ⟨2, ![8192, 10304]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x10304, .f32⟩
  | .hbm, ⟨2, _⟩ => ⟨S8192x2048, .f32⟩
  | .hbm, ⟨3, _⟩ => ⟨S8192x10304, .f32⟩
  | .hbm, ⟨4, _⟩ => ⟨S8192x6144, .f32⟩
  | .hbm, ⟨5, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== XbcDw.lean ====
abbrev S8192x2048 : Shape := ⟨2, ![8192, 2048]⟩
abbrev S8192x6144 : Shape := ⟨2, ![8192, 6144]⟩
abbrev S2048x6144 : Shape := ⟨2, ![2048, 6144]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6144, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XbcDwRefIdeal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S_, .f32⟩
  | .hbm, ⟨3, _⟩ => ⟨S2048x6144, .f32⟩
  | .hbm, ⟨4, _⟩ => ⟨S8192x2048, .f32⟩
  | .hbm, ⟨5, _⟩ => ⟨S8192x6144, .f32⟩
  | .hbm, ⟨6, _⟩ => ⟨S8192x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== XbcBwd.lean ====
abbrev S8192x2048 : Shape := ⟨2, ![8192, 2048]⟩
abbrev S8192x6144 : Shape := ⟨2, ![8192, 6144]⟩
abbrev S2048x10304 : Shape := ⟨2, ![2048, 10304]⟩
abbrev S2048x6144 : Shape := ⟨2, ![2048, 6144]⟩
abbrev S1024x2048 : Shape := ⟨2, ![1024, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x6144, .bf16⟩
  | .hbm, ⟨2, _⟩ => ⟨S2048x10304, .f32⟩
  | .hbm, ⟨3, _⟩ => ⟨S2048x10304, .bf16⟩
  | .hbm, ⟨4, _⟩ => ⟨S2048x6144, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XbcBwdRefIdeal.lean ====
abbrev S8192x2048 : Shape := ⟨2, ![8192, 2048]⟩
abbrev S8192x6144 : Shape := ⟨2, ![8192, 6144]⟩
abbrev S2048x10304 : Shape := ⟨2, ![2048, 10304]⟩
abbrev S_ : Shape := ⟨0, ![]⟩
abbrev S2048x6144 : Shape := ⟨2, ![2048, 6144]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x6144, .bf16⟩
  | .hbm, ⟨2, _⟩ => ⟨S2048x10304, .f32⟩
  | .hbm, ⟨3, _⟩ => ⟨S_, .f32⟩
  | .hbm, ⟨4, _⟩ => ⟨S8192x2048, .f32⟩
  | .hbm, ⟨5, _⟩ => ⟨S2048x6144, .f32⟩
  | .hbm, ⟨6, _⟩ => ⟨S8192x6144, .f32⟩
  | .hbm, ⟨7, _⟩ => ⟨S8192x6144, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Even.lean ====
abbrev S8192x2048 : Shape := ⟨2, ![8192, 2048]⟩
abbrev S2048x5120 : Shape := ⟨2, ![2048, 5120]⟩
abbrev S10x8192x512 : Shape := ⟨3, ![10, 8192, 512]⟩
abbrev S1024x2048 : Shape := ⟨2, ![1024, 2048]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .f32⟩
  | .hbm, ⟨2, _⟩ => ⟨S2048x5120, .bf16⟩
  | .hbm, ⟨3, _⟩ => ⟨S10x8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenRefIdeal.lean ====
abbrev S8192x2048 : Shape := ⟨2, ![8192, 2048]⟩
abbrev S2048x5120 : Shape := ⟨2, ![2048, 5120]⟩
abbrev S8192x5120 : Shape := ⟨2, ![8192, 5120]⟩
abbrev S8192x10x512 : Shape := ⟨3, ![8192, 10, 512]⟩
abbrev S10x8192x512 : Shape := ⟨3, ![10, 8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .f32⟩
  | .hbm, ⟨2, _⟩ => ⟨S8192x2048, .f32⟩
  | .hbm, ⟨3, _⟩ => ⟨S8192x5120, .f32⟩
  | .hbm, ⟨4, _⟩ => ⟨S8192x10x512, .f32⟩
  | .hbm, ⟨5, _⟩ => ⟨S10x8192x512, .f32⟩
  | .hbm, ⟨6, _⟩ => ⟨S10x8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== EvenDw.lean ====
abbrev S8192x5120 : Shape := ⟨2, ![8192, 5120]⟩
abbrev S8192x2048 : Shape := ⟨2, ![8192, 2048]⟩
abbrev S5120x2048 : Shape := ⟨2, ![5120, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5120, .bf16⟩
  | .hbm, ⟨1, _⟩ => ⟨S8192x2048, .bf16⟩
  | .hbm, ⟨2, _⟩ => ⟨S5120x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenDwRefIdeal.lean ====
abbrev S8192x5120 : Shape := ⟨2, ![8192, 5120]⟩
abbrev S8192x2048 : Shape := ⟨2, ![8192, 2048]⟩
abbrev S_ : Shape := ⟨0, ![]⟩
abbrev S2048x5120 : Shape := ⟨2, ![2048, 5120]⟩
abbrev S5120x2048 : Shape := ⟨2, ![5120, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S8192x2048, .bf16⟩
  | .hbm, ⟨2, _⟩ => ⟨S_, .f32⟩
  | .hbm, ⟨3, _⟩ => ⟨S2048x5120, .f32⟩
  | .hbm, ⟨4, _⟩ => ⟨S8192x2048, .f32⟩
  | .hbm, ⟨5, _⟩ => ⟨S8192x5120, .f32⟩
  | .hbm, ⟨6, _⟩ => ⟨S8192x5120, .f32⟩
  | .hbm, ⟨7, _⟩ => ⟨S5120x2048, .f32⟩
  | .hbm, ⟨8, _⟩ => ⟨S2048x5120, .f32⟩
  | .hbm, ⟨9, _⟩ => ⟨S5120x2048, .f32⟩
  | .hbm, ⟨10, _⟩ => ⟨S5120x2048, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== EvenBwd.lean ====
abbrev S8192x5120 : Shape := ⟨2, ![8192, 5120]⟩
abbrev S2048x5120 : Shape := ⟨2, ![2048, 5120]⟩
abbrev S8192x2048 : Shape := ⟨2, ![8192, 2048]⟩
abbrev S1024x2560 : Shape := ⟨2, ![1024, 2560]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5120, .bf16⟩
  | .hbm, ⟨1, _⟩ => ⟨S2048x5120, .f32⟩
  | .hbm, ⟨2, _⟩ => ⟨S2048x5120, .bf16⟩
  | .hbm, ⟨3, _⟩ => ⟨S8192x2048, .f32⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenBwdRefIdeal.lean ====
abbrev S8192x5120 : Shape := ⟨2, ![8192, 5120]⟩
abbrev S2048x5120 : Shape := ⟨2, ![2048, 5120]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S2048x5120, .f32⟩
  | .hbm, ⟨2, _⟩ => ⟨S_, .f32⟩
  | .hbm, ⟨3, _⟩ => ⟨S8192x2048, .f32⟩
  | .hbm, ⟨4, _⟩ => ⟨S8192x5120, .f32⟩
  | .hbm, ⟨5, _⟩ => ⟨S8192x5120, .f32⟩
  | .hbm, ⟨6, _⟩ => ⟨S8192x2048, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.HostRead.lean ====
/- What the host operations before the kernel leave in the kernel's four argument arrays. -/
module

public import proofs.«01_k».proof.Proof.Gen.KernelIdeal.Frame
public import proofs.«01_k».proof.Proof.Gen.ReferenceIdeal.Read
public import Idealize.ShloMosaic.Lib.StableHlo.RunRead

@[expose] public section

set_option maxRecDepth 16384

noncomputable section

namespace Cert.AttnGrad

open Cert.KernelIdeal Cert.KernelIdeal.Gen Idealize.ShloMosaic Idealize.ShloMosaic.TcCoe Idealize.SL.Sem

variable (m : (ℓ : Loc nD τ sig) → Buf (Elt Ideal) ℓ) (c : Dev nD)

def a0 : FVec Ideal S10x8192x512 .bf16 := m ((c : Thread nD τ).loc main_arg0)
def a1 : FVec Ideal S8192x1024 .bf16 := m ((c : Thread nD τ).loc main_arg1)
def a2 : FVec Ideal S8192x8x64 .f32 := m ((c : Thread nD τ).loc main_arg2)
def a3 : FVec Ideal S8192x8 .f32 := m ((c : Thread nD τ).loc main_arg3)
def a4 : FVec Ideal S8192x8x64 .f32 := m ((c : Thread nD τ).loc main_arg4)
def a5 : FVec Ideal S8192x8 .f32 := m ((c : Thread nD τ).loc main_arg5)

theorem V_v119 : (V m c main_v119 : FVec Ideal S3x512x8192 .bf16)
    = shapeCast S3x512x8192 (Host.slice S3x8192x512 ![2, 0, 0] ![3, 1, 1] (a0 m c) slicesBy_S10x8192x512_S3x8192x512_2s3_0s1_0s1)
        shapeCasts_S3x8192x512_S3x512x8192 := by
  unfold V
  after_reads_simp
  rfl

theorem V_v120 : (V m c main_v120 : FVec Ideal S512x16384 .bf16) = shapeCast S512x16384 (a1 m c) shapeCasts_S8192x1024_S512x16384 := by
  unfold V
  after_reads_simp
  rfl

/-- The three groups' shares before the division: `xe` is this group's log-denominator, `xo` its output. -/
def kMx (xe x3 x5 : FVec Ideal S8192x8 .f32) : FVec Ideal S8192x8 .f32 := maximumf (maximumf x3 x5) xe
def kEa (xe x3 x5 : FVec Ideal S8192x8 .f32) : FVec Ideal S8192x8 .f32 := Host.exp (subf x3 (kMx xe x3 x5))
def kEb (xe x3 x5 : FVec Ideal S8192x8 .f32) : FVec Ideal S8192x8 .f32 := Host.exp (subf x5 (kMx xe x3 x5))
def kEc (xe x3 x5 : FVec Ideal S8192x8 .f32) : FVec Ideal S8192x8 .f32 := Host.exp (subf xe (kMx xe x3 x5))
def kDen (xe x3 x5 : FVec Ideal S8192x8 .f32) : FVec Ideal S8192x8 .f32 := addf (addf (kEa xe x3 x5) (kEb xe x3 x5)) (kEc xe x3 x5)
/-- One number per token and head, repeated along the head's 64 numbers. -/
def spread (x : FVec Ideal S8192x8 .f32) : FVec Ideal S8192x8x64 .f32 :=
  broadcastInDim S8192x8x64 ![0, 1, 2] bcast_S8192x8x1_S8192x8x64_0_1_2 (broadcastInDim S8192x8x1 ![0, 1] bcast_S8192x8_S8192x8x1_0_1 x)
def kAttn (xe : FVec Ideal S8192x8 .f32) (xo x2 : FVec Ideal S8192x8x64 .f32) (x3 : FVec Ideal S8192x8 .f32) (x4 : FVec Ideal S8192x8x64 .f32)
    (x5 : FVec Ideal S8192x8 .f32) : FVec Ideal S8192x8x64 .f32 :=
  Host.divf (addf (addf (mulf (spread (kEa xe x3 x5)) x2) (mulf (spread (kEb xe x3 x5)) x4)) (mulf (spread (kEc xe x3 x5)) xo)) (spread (kDen xe x3 x5))

/-! The host operations in three stretches: the masked scores, this group's softmax, the merge of the three groups. -/

abbrev headOps : List (HloOp τ sig (Elt Ideal)) := hostOps0 ++ hostOps0_1 ++ hostOps0_2 ++ hostOps0_3
abbrev keyOps : List (HloOp τ sig (Elt Ideal)) := hostOps0_4.take 4
abbrev midOps : List (HloOp τ sig (Elt Ideal)) := hostOps0_4.drop 4 ++ hostOps0_5
abbrev valOps : List (HloOp τ sig (Elt Ideal)) := hostOps0_6.take 4
abbrev maskOps : List (HloOp τ sig (Elt Ideal)) := hostOps0_6.drop 4 ++ hostOps0_7
abbrev scoreOps : List (HloOp τ sig (Elt Ideal)) := headOps ++ keyOps ++ midOps ++ valOps ++ maskOps
abbrev softOps : List (HloOp τ sig (Elt Ideal)) := hostOps0_8.take 21
abbrev mergeOps : List (HloOp τ sig (Elt Ideal)) := hostOps0_8.drop 21 ++ hostOps0_9 ++ hostOps0_10

theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

variable (W : Valuation τ sig (Elt Ideal))

section Score

theorem head_v15 : StableHlo.after headOps W (Proc.devRef .tc main_v15) = Cert.ReferenceIdeal.Read.val_main_v18  (F := Ideal) (W (Proc.devRef .tc main_arg0)) := by
  after_reads_simp
  simp -implicitDefEqProofs only [StableHlo.TRef.toBuf, StableHlo.TRef.ofBuf, cast_cast, cast_eq]
  rfl

theorem head_v19 : StableHlo.after headOps W (Proc.devRef .tc main_v19) = Cert.ReferenceIdeal.Read.val_main_v22_0 (F := Ideal) (W (Proc.devRef .tc main_arg0)) := by
  after_reads_simp
  rfl

theorem head_v11 : StableHlo.after headOps W (Proc.devRef .tc main_v11) = Cert.ReferenceIdeal.Read.val_main_v11 (F := Ideal) (W (Proc.devRef .tc main_arg0)) := by
  after_reads_simp
  rfl

theorem head_v16 : StableHlo.after headOps W (Proc.devRef .tc main_v16) = Cert.ReferenceIdeal.Read.val_main_v19 (F := Ideal) := by
  after_reads_simp
  rfl

theorem key_v22 (x0 : FVec Ideal S10x8192x512 .bf16) (h0 : W (Proc.devRef .tc main_v16) = Cert.ReferenceIdeal.Read.val_main_v19 (F := Ideal)) (h1 : W (Proc.devRef .tc main_v19) = Cert.ReferenceIdeal.Read.val_main_v22_0 (F := Ideal) x0) :
    StableHlo.after keyOps W (Proc.devRef .tc main_v22) = Cert.ReferenceIdeal.Read.val_main_v26 (F := Ideal) x0 := by
  after_reads_simp
  rw [show StableHlo.upto keyOps W 0 (Proc.devRef .tc main_v16) = W (Proc.devRef .tc main_v16) from rfl, show StableHlo.upto keyOps W 0 (Proc.devRef .tc main_v19) = W (Proc.devRef .tc main_v19) from rfl, h0, h1]
  rfl

theorem key_v23 (x0 : FVec Ideal S10x8192x512 .bf16) (h0 : W (Proc.devRef .tc main_v16) = Cert.ReferenceIdeal.Read.val_main_v19 (F := Ideal)) (h1 : W (Proc.devRef .tc main_v19) = Cert.ReferenceIdeal.Read.val_main_v22_0 (F := Ideal) x0) :
    StableHlo.after keyOps W (Proc.devRef .tc main_v23) = Cert.ReferenceIdeal.Read.val_main_v27 (F := Ideal) x0 := by
  after_reads_simp
  rw [show StableHlo.upto keyOps W 0 (Proc.devRef .tc main_v16) = W (Proc.devRef .tc main_v16) from rfl, show StableHlo.upto keyOps W 0 (Proc.devRef .tc main_v19) = W (Proc.devRef .tc main_v19) from rfl, h0, h1]
  rfl

theorem key_v15 : StableHlo.after keyOps W (Proc.devRef .tc main_v15) = W (Proc.devRef .tc main_v15) := by after_reads_simp
theorem key_v11 : StableHlo.after keyOps W (Proc.devRef .tc main_v11) = W (Proc.devRef .tc main_v11) := by after_reads_simp

theorem mid_v24 (x0 : FVec Ideal S10x8192x512 .bf16) (h0 : W (Proc.devRef .tc main_v22) = Cert.ReferenceIdeal.Read.val_main_v26 (F := Ideal) x0) (h1 : W (Proc.devRef .tc main_v23) = Cert.ReferenceIdeal.Read.val_main_v27 (F := Ideal) x0) :
    StableHlo.after midOps W (Proc.devRef .tc main_v24) = Cert.ReferenceIdeal.Read.val_main_v28 (F := Ideal) x0 := by
  after_reads_simp
  rw [show StableHlo.upto midOps W 0 (Proc.devRef .tc main_v22) = W (Proc.devRef .tc main_v22) from rfl, show StableHlo.upto midOps W 0 (Proc.devRef .tc main_v23) = W (Proc.devRef .tc main_v23) from rfl, h0, h1]
  rfl

theorem mid_v28 (x0 : FVec Ideal S10x8192x512 .bf16) (h0 : W (Proc.devRef .tc main_v11) = Cert.ReferenceIdeal.Read.val_main_v11 (F := Ideal) x0) :
    StableHlo.after midOps W (Proc.devRef .tc main_v28) = Cert.ReferenceIdeal.Read.val_main_v32_0 (F := Ideal) x0 := by
  after_reads_simp
  rw [h0]
  rfl

theorem mid_v25 : StableHlo.after midOps W (Proc.devRef .tc main_v25) = Cert.ReferenceIdeal.Read.val_main_v29 (F := Ideal) := by
  after_reads_simp
  rfl

theorem mid_v15 : StableHlo.after midOps W (Proc.devRef .tc main_v15) = W (Proc.devRef .tc main_v15) := by after_reads_simp

theorem val_v31 (x0 : FVec Ideal S10x8192x512 .bf16) (h0 : W (Proc.devRef .tc main_v25) = Cert.ReferenceIdeal.Read.val_main_v29 (F := Ideal)) (h1 : W (Proc.devRef .tc main_v28) = Cert.ReferenceIdeal.Read.val_main_v32_0 (F := Ideal) x0) :
    StableHlo.after valOps W (Proc.devRef .tc main_v31) = Cert.ReferenceIdeal.Read.val_main_v36 (F := Ideal) x0 := by
  after_reads_simp
  rw [show StableHlo.upto valOps W 0 (Proc.devRef .tc main_v25) = W (Proc.devRef .tc main_v25) from rfl, show StableHlo.upto valOps W 0 (Proc.devRef .tc main_v28) = W (Proc.devRef .tc main_v28) from rfl, h0, h1]
  rfl

theorem val_v32 (x0 : FVec Ideal S10x8192x512 .bf16) (h0 : W (Proc.devRef .tc main_v25) = Cert.ReferenceIdeal.Read.val_main_v29 (F := Ideal)) (h1 : W (Proc.devRef .tc main_v28) = Cert.ReferenceIdeal.Read.val_main_v32_0 (F := Ideal) x0) :
    StableHlo.after valOps W (Proc.devRef .tc main_v32) = Cert.ReferenceIdeal.Read.val_main_v37 (F := Ideal) x0 := by
  after_reads_simp
  rw [show StableHlo.upto valOps W 0 (Proc.devRef .tc main_v25) = W (Proc.devRef .tc main_v25) from rfl, show StableHlo.upto valOps W 0 (Proc.devRef .tc main_v28) = W (Proc.devRef .tc main_v28) from rfl, h0, h1]
  rfl

theorem val_v15 : StableHlo.after valOps W (Proc.devRef .tc main_v15) = W (Proc.devRef .tc main_v15) := by after_reads_simp
theorem val_v24 : StableHlo.after valOps W (Proc.devRef .tc main_v24) = W (Proc.devRef .tc main_v24) := by after_reads_simp

theorem mask_v33 (x0 : FVec Ideal S10x8192x512 .bf16) (h0 : W (Proc.devRef .tc main_v31) = Cert.ReferenceIdeal.Read.val_main_v36 (F := Ideal) x0) (h1 : W (Proc.devRef .tc main_v32) = Cert.ReferenceIdeal.Read.val_main_v37 (F := Ideal) x0) :
    StableHlo.after maskOps W (Proc.devRef .tc main_v33) = Cert.ReferenceIdeal.Read.val_main_v38 (F := Ideal) x0 := by
  after_reads_simp
  rw [show StableHlo.upto maskOps W 0 (Proc.devRef .tc main_v31) = W (Proc.devRef .tc main_v31) from rfl, show StableHlo.upto maskOps W 0 (Proc.devRef .tc main_v32) = W (Proc.devRef .tc main_v32) from rfl, h0, h1]
  rfl

theorem mask_v67 (x0 : FVec Ideal S10x8192x512 .bf16) (h0 : W (Proc.devRef .tc main_v15) = Cert.ReferenceIdeal.Read.val_main_v18 (F := Ideal) x0) (h1 : W (Proc.devRef .tc main_v24) = Cert.ReferenceIdeal.Read.val_main_v28 (F := Ideal) x0) :
    StableHlo.after maskOps W (Proc.devRef .tc main_v67) = Cert.ReferenceIdeal.Read.val_main_v72_0 (F := Ideal) x0 := by
  after_reads_simp
  rw [h0, h1]
  rfl

theorem score_v33 : StableHlo.after scoreOps W (Proc.devRef .tc main_v33) = Cert.ReferenceIdeal.Read.val_main_v38 (F := Ideal) (W (Proc.devRef .tc main_arg0)) := by
  have e0 : StableHlo.after scoreOps W = StableHlo.after maskOps (StableHlo.after valOps (StableHlo.after midOps
      (StableHlo.after keyOps (StableHlo.after headOps W)))) := by
    rw [after_app (headOps ++ keyOps ++ midOps ++ valOps) maskOps, after_app (headOps ++ keyOps ++ midOps) valOps,
      after_app (headOps ++ keyOps) midOps, after_app headOps keyOps]
  rw [e0]
  have a1 := head_v11 W
  generalize W (Proc.devRef .tc main_arg0) = x0 at a1 ⊢
  generalize StableHlo.after headOps W = W1 at a1 ⊢
  have b1 := (key_v11 W1).trans a1
  generalize StableHlo.after keyOps W1 = W2 at b1 ⊢
  have c1 := mid_v28 W2 x0 b1
  have c2 := mid_v25 W2
  generalize StableHlo.after midOps W2 = W3 at c1 c2 ⊢
  have d1 := val_v31 W3 x0 c2 c1
  have d2 := val_v32 W3 x0 c2 c1
  generalize StableHlo.after valOps W3 = W4 at d1 d2 ⊢
  exact mask_v33 W4 x0 d1 d2

theorem score_v67 : StableHlo.after scoreOps W (Proc.devRef .tc main_v67) = Cert.ReferenceIdeal.Read.val_main_v72_0 (F := Ideal) (W (Proc.devRef .tc main_arg0)) := by
  have e0 : StableHlo.after scoreOps W = StableHlo.after maskOps (StableHlo.after valOps (StableHlo.after midOps
      (StableHlo.after keyOps (StableHlo.after headOps W)))) := by
    rw [after_app (headOps ++ keyOps ++ midOps ++ valOps) maskOps, after_app (headOps ++ keyOps ++ midOps) valOps,
      after_app (headOps ++ keyOps) midOps, after_app headOps keyOps]
  rw [e0]
  have a1 := head_v15 W
  have a2 := head_v16 W
  have a3 := head_v19 W
  generalize W (Proc.devRef .tc main_arg0) = x0 at a1 a3 ⊢
  generalize StableHlo.after headOps W = W1 at a1 a2 a3 ⊢
  have b1 := (key_v15 W1).trans a1
  have b2 := key_v22 W1 x0 a2 a3
  have b3 := key_v23 W1 x0 a2 a3
  generalize StableHlo.after keyOps W1 = W2 at b1 b2 b3 ⊢
  have c1 := (mid_v15 W2).trans b1
  have c2 := mid_v24 W2 x0 b2 b3
  generalize StableHlo.after midOps W2 = W3 at c1 c2 ⊢
  have d1 := (val_v15 W3).trans c1
  have d2 := (val_v24 W3).trans c2
  generalize StableHlo.after valOps W3 = W4 at d1 d2 ⊢
  exact mask_v67 W4 x0 d1 d2

theorem score_arg2 : StableHlo.after scoreOps W (Proc.devRef .tc main_arg2) = W (Proc.devRef .tc main_arg2) := by after_reads_simp
theorem score_arg3 : StableHlo.after scoreOps W (Proc.devRef .tc main_arg3) = W (Proc.devRef .tc main_arg3) := by after_reads_simp
theorem score_arg4 : StableHlo.after scoreOps W (Proc.devRef .tc main_arg4) = W (Proc.devRef .tc main_arg4) := by after_reads_simp
theorem score_arg5 : StableHlo.after scoreOps W (Proc.devRef .tc main_arg5) = W (Proc.devRef .tc main_arg5) := by after_reads_simp

end Score

section Soft

theorem soft_v86 (x0 : FVec Ideal S10x8192x512 .bf16)
    (h : W (Proc.devRef .tc main_v67) = Cert.ReferenceIdeal.Read.val_main_v72_0 (F := Ideal) x0) :
    StableHlo.after softOps W (Proc.devRef .tc main_v86) = Cert.ReferenceIdeal.Read.val_main_v99 (F := Ideal) x0 := by
  after_reads_simp
  rw [h]
  rfl

theorem soft_v83 (x0 : FVec Ideal S10x8192x512 .bf16)
    (h : W (Proc.devRef .tc main_v67) = Cert.ReferenceIdeal.Read.val_main_v72_0 (F := Ideal) x0)
    (h' : W (Proc.devRef .tc main_v33) = Cert.ReferenceIdeal.Read.val_main_v38 (F := Ideal) x0) :
    StableHlo.after softOps W (Proc.devRef .tc main_v83) = Cert.ReferenceIdeal.Read.val_main_v96 (F := Ideal) x0 := by
  after_reads_simp
  rw [h, h']
  rfl

theorem soft_arg2 : StableHlo.after softOps W (Proc.devRef .tc main_arg2) = W (Proc.devRef .tc main_arg2) := by after_reads_simp
theorem soft_arg3 : StableHlo.after softOps W (Proc.devRef .tc main_arg3) = W (Proc.devRef .tc main_arg3) := by after_reads_simp
theorem soft_arg4 : StableHlo.after softOps W (Proc.devRef .tc main_arg4) = W (Proc.devRef .tc main_arg4) := by after_reads_simp
theorem soft_arg5 : StableHlo.after softOps W (Proc.devRef .tc main_arg5) = W (Proc.devRef .tc main_arg5) := by after_reads_simp

end Soft

section Merge

theorem merge_v122 : StableHlo.after mergeOps W (Proc.devRef .tc main_v122)
    = shapeCast S512x8192 (shapeCast S8192x512 (broadcastInDim S8192x8x64 ![0, 1] bcast_S8192x8_S8192x8x64_0_1
        (addf (kMx (W (Proc.devRef .tc main_v86)) (W (Proc.devRef .tc main_arg3)) (W (Proc.devRef .tc main_arg5)))
          (Host.log (kDen (W (Proc.devRef .tc main_v86)) (W (Proc.devRef .tc main_arg3)) (W (Proc.devRef .tc main_arg5)))))) shapeCasts_S8192x8x64_S8192x512)
        shapeCasts_S8192x512_S512x8192 := by
  after_reads_simp
  rfl

theorem merge_v121 : StableHlo.after mergeOps W (Proc.devRef .tc main_v121)
    = shapeCast S512x16384 (pad S8192x1024 ![0, 0] ![0, 512] ![0, 0] (truncf .bf16 (shapeCast S8192x512
          (kAttn (W (Proc.devRef .tc main_v86)) (W (Proc.devRef .tc main_v83)) (W (Proc.devRef .tc main_arg2)) (W (Proc.devRef .tc main_arg3))
            (W (Proc.devRef .tc main_arg4)) (W (Proc.devRef .tc main_arg5))) shapeCasts_S8192x8x64_S8192x512) bitsLt_bf16_f32)
        (sitofp .bf16 (constantI S_ 32 0#32)) pads_S8192x512_S8192x1024_000_05120 h_S_) shapeCasts_S8192x1024_S512x16384 := by
  after_reads_simp
  simp -implicitDefEqProofs only [StableHlo.TRef.toBuf, StableHlo.TRef.ofBuf, cast_cast, cast_eq]
  rfl

end Merge

theorem V_split (b : Ref sig .tc) : V m c b
    = StableHlo.after mergeOps (StableHlo.after softOps (StableHlo.after scoreOps (fun b => m (c, b)))) (Proc.devRef .tc b) := by
  rw [← after_app, ← after_app]
  rfl

end Cert.AttnGrad
-- ==== Proof.Words.lean ====
/- The band of keys a query sees, and the word arithmetic both programs decide it by. -/
module

public import Idealize.ShloMosaic.Lib.Pointwise

@[expose] public section

noncomputable section

namespace Cert.AttnGrad

open Idealize.ShloMosaic

/-- Query `i` of block `n` sees key `j` of its window: no later than itself, at most 128 back, not before the sequence. -/
def band (n : Fin 4) (i : Fin 128) (j : Fin 256) : Bool := decide (j.val ≤ i.val + 128 ∧ i.val ≤ j.val ∧ (128 ≤ j.val ∨ 0 < n.val))
/-- Query `i` of the block after `n` sees key `j` of block `n`. -/
def bandNext (n : Fin 4) (i j : Fin 128) : Bool := decide (i.val ≤ j.val ∧ n.val + 1 < 4)

theorem select_ofBool {α : Type} (b : Bool) (x y : α) : Scalar.select (BitVec.ofBool b) x y = if b then x else y := by
  cases b <;> rfl

/-- How far query `r` of a block lies after key `l` of its window, as the signed word the body computes. -/
theorem dist (r l : ℕ) (hr : r < 128) (hl : l < 256) :
    (IntOp.subi (IntOp.addi (BitVec.ofNat 32 r) 128#32) (BitVec.ofNat 32 l)).toInt = (r : ℤ) + 128 - l := by
  have h1 : (BitVec.ofNat 32 r).toInt = r := by rw [BitVec.toInt_eq_toNat_bmod, BitVec.toNat_ofNat, Int.bmod_def]; omega
  have h2 : (BitVec.ofNat 32 l).toInt = l := by rw [BitVec.toInt_eq_toNat_bmod, BitVec.toNat_ofNat, Int.bmod_def]; omega
  have h3 : (128#32).toInt = 128 := by decide
  unfold IntOp.subi IntOp.addi
  rw [BitVec.toInt_sub, BitVec.toInt_add, h1, h2, h3]
  simp only [Int.bmod_def]
  omega

theorem ofBool_and (a b : Bool) : IntOp.andi (BitVec.ofBool a) (BitVec.ofBool b) = BitVec.ofBool (a && b) := by
  cases a <;> cases b <;> rfl

theorem near (r l : ℕ) (hr : r < 128) (hl : l < 256) :
    IntOp.cmpi CmpIPredicate.sle (IntOp.subi (IntOp.addi (BitVec.ofNat 32 r) 128#32) (BitVec.ofNat 32 l)) 128#32 = BitVec.ofBool (decide (r ≤ l)) := by
  have h0 : (128#32).toInt = 128 := by decide
  simp only [IntOp.cmpi, BitVec.sle, dist r l hr hl, h0]
  congr 1
  exact decide_eq_decide.2 (by omega)

theorem notAfter (r l : ℕ) (hr : r < 128) (hl : l < 256) :
    IntOp.cmpi CmpIPredicate.sge (IntOp.subi (IntOp.addi (BitVec.ofNat 32 r) 128#32) (BitVec.ofNat 32 l)) 0#32
      = BitVec.ofBool (decide (l ≤ r + 128)) := by
  have h0 : (0#32).toInt = 0 := by decide
  simp only [IntOp.cmpi, BitVec.sle, dist r l hr hl, h0]
  congr 1
  exact decide_eq_decide.2 (by omega)

/-- Key `j` of block `n`'s window lies inside the sequence. -/
theorem inside (n : Fin 4) (j : Fin 256) :
    IntOp.cmpi CmpIPredicate.sge (IntOp.addi (IntOp.subi (IntOp.muli (BitVec.ofNat 32 n.val) 128#32) 128#32) (BitVec.ofNat 32 j.val)) 0#32
      = BitVec.ofBool (decide (128 ≤ j.val ∨ 0 < n.val)) := by
  revert n j
  decide +kernel

end Cert.AttnGrad
-- ==== Proof.RefLayout.lean ====
/- The reference's queries, and its mask, read at an index. -/
module

public import proofs.«01_k».proof.Proof.Gen.ReferenceIdeal.Read
public import proofs.«01_k».proof.Proof.Words

@[expose] public section

set_option maxRecDepth 16384

noncomputable section

namespace Cert.AttnGrad

open Cert.ReferenceIdeal Cert.ReferenceIdeal.Gen Cert.ReferenceIdeal.Read Idealize.ShloMosaic

/-- Token of place `i` of block `n` of phase `d`. -/
def tok (d : Fin 16) (n : Fin 4) (i : Fin 128) : Fin 8192 := ⟨(n.val * 128 + i.val) * 16 + d.val, by omega⟩
/-- Token of key `j` of the window of block `n` (of no meaning for the places before the sequence). -/
def ktok (d : Fin 16) (n : Fin 4) (j : Fin 256) : Fin 8192 := ⟨(n.val * 128 + j.val - 128) * 16 + d.val, by omega⟩
/-- Lane of `e` in head `h`. -/
def hl (h : Fin 8) (e : Fin 64) : Fin 512 := ⟨h.val * 64 + e.val, by omega⟩

/-- Key or value `j` of block `n`'s window, of slab `s`: zero before the sequence. -/
def kv (x0 : FVec Ideal S10x8192x512 .bf16) (s : Fin 10) (d : Fin 16) (h : Fin 8) (n : Fin 4) (j : Fin 256) (e : Fin 64) : Ideal .f32 :=
  if n.val * 128 + j.val < 128 then 0 else x0 (ix3 s (ktok d n j) (hl h e))

theorem ix3_congr {a b c : ℕ} {i i' : Fin a} {j j' : Fin b} {k k' : Fin c} (hi : i.val = i'.val) (hj : j.val = j'.val) (hk : k.val = k'.val) :
    ix3 i j k = ix3 i' j' k' := by
  rw [Fin.ext hi, Fin.ext hj, Fin.ext hk]

theorem v3_apply (x0 : FVec Ideal S10x8192x512 .bf16) (t : Fin 8192) (h : Fin 8) (e : Fin 64) :
    val_main_v3 (F := Ideal) x0 (ix3 t h e) = x0 (ix3 2 t (hl h e)) := by
  have a1 : val_main_v3 (F := Ideal) x0 (ix3 t h e) = val_main_v2 (F := Ideal) x0 (ix2 t (hl h e)) := by
    pointwise [val_main_v3]
    rfl
  have a2 : val_main_v1 (F := Ideal) x0 (ix2 t (hl h e)) = val_main_v0 (F := Ideal) x0 (ix3 0 t (hl h e)) := by
    pointwise [val_main_v1]
  have a3 : val_main_v0 (F := Ideal) x0 (ix3 0 t (hl h e)) = x0 (ix3 2 t (hl h e)) := by
    pointwise [val_main_v0]
  rw [a1, ← a3, ← a2]
  rfl

theorem v18_apply (x0 : FVec Ideal S10x8192x512 .bf16) (d : Fin 16) (h : Fin 8) (n : Fin 4) (i : Fin 128) (e : Fin 64) :
    val_main_v18 (F := Ideal) x0 (ix5 d h n i e) = x0 (ix3 2 (tok d n i) (hl h e)) := by
  have a1 : val_main_v18 (F := Ideal) x0 (ix5 d h n i e) = val_main_v17_0 (F := Ideal) x0 (ix4 d h ⟨n.val * 128 + i.val, by omega⟩ e) := by
    pointwise [val_main_v18]
  have a2 : ∀ p : Fin 512, val_main_v17_0 (F := Ideal) x0 (ix4 d h p e) = val_main_v16 (F := Ideal) x0 (ix4 d h p e) := fun p => by
    pointwise [val_main_v17_0]
  have a3 : ∀ p : Fin 512, val_main_v16 (F := Ideal) x0 (ix4 d h p e) = val_main_v15 (F := Ideal) x0 (ix4 p d h e) := fun p => by
    pointwise [val_main_v16]
  have a4 : ∀ p : Fin 512, val_main_v15 (F := Ideal) x0 (ix4 p d h e) = val_main_v3 (F := Ideal) x0 (ix3 ⟨p.val * 16 + d.val, by omega⟩ h e) := fun p => by
    pointwise [val_main_v15]
  rw [a1, a2, a3, a4, v3_apply]
  rfl

theorem v14_apply (x1 : FVec Ideal S8192x1024 .bf16) (t : Fin 8192) (h : Fin 8) (e : Fin 64) :
    val_main_v14 (F := Ideal) x1 (ix3 t h e) = x1 (ix2 t ⟨h.val * 64 + e.val, by omega⟩) := by
  have a1 : val_main_v14 (F := Ideal) x1 (ix3 t h e) = val_main_v13 (F := Ideal) x1 (ix2 t (hl h e)) := by
    pointwise [val_main_v14]
    rfl
  rw [a1]
  pointwise [val_main_v13, val_main_v12]
  rfl

theorem v72_1_apply (d : Fin 16) (h : Fin 8) (n : Fin 4) (i : Fin 128) (j : Fin 256) :
    val_main_v72_1 (F := Ideal) (ix5 d h n i j) = BitVec.ofBool (band n i j) := by
  pointwise [val_main_v72_1, val_main_v71, val_main_v70, val_main_v69, val_main_v68, val_main_v67, val_main_v66, val_main_v65, val_main_v64, val_main_v63,
    val_main_v62, val_main_v61, val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43, val_main_v42, val_main_c_6,
    val_main_c_7, val_main_c_8, val_main_c_9, val_main_c_10, val_main_c_11]
  rw [near _ _ i.isLt j.isLt, notAfter _ _ i.isLt j.isLt, inside n j, ofBool_and, ofBool_and]
  unfold band
  simp only [Bool.decide_and, Bool.decide_or, Bool.and_assoc]

end Cert.AttnGrad
-- ==== Proof.RefKeys.lean ====
/- The reference's windows of keys and values read at an index. -/
module

public import proofs.«01_k».proof.Proof.Gen.ReferenceIdeal.Read
public import proofs.«01_k».proof.Proof.RefLayout

@[expose] public section

set_option maxRecDepth 16384

noncomputable section

namespace Cert.AttnGrad

open Cert.ReferenceIdeal Cert.ReferenceIdeal.Gen Cert.ReferenceIdeal.Read Idealize.ShloMosaic

theorem v7_apply (x0 : FVec Ideal S10x8192x512 .bf16) (t : Fin 8192) (h : Fin 8) (e : Fin 64) :
    val_main_v7 (F := Ideal) x0 (ix3 t h e) = x0 (ix3 5 t (hl h e)) := by
  have a1 : val_main_v7 (F := Ideal) x0 (ix3 t h e) = val_main_v6 (F := Ideal) x0 (ix2 t (hl h e)) := by
    pointwise [val_main_v7]
    rfl
  have a2 : val_main_v5 (F := Ideal) x0 (ix2 t (hl h e)) = val_main_v4 (F := Ideal) x0 (ix3 0 t (hl h e)) := by
    pointwise [val_main_v5]
  have a3 : val_main_v4 (F := Ideal) x0 (ix3 0 t (hl h e)) = x0 (ix3 5 t (hl h e)) := by
    pointwise [val_main_v4]
  rw [a1, ← a3, ← a2]
  rfl

theorem v21_apply (x0 : FVec Ideal S10x8192x512 .bf16) (d : Fin 16) (h : Fin 8) (p : Fin 512) (e : Fin 64) :
    val_main_v21 (F := Ideal) x0 (ix4 d h p e) = val_main_v7 (F := Ideal) x0 (ix3 ⟨p.val * 16 + d.val, by omega⟩ h e) := by
  have a1 : val_main_v21 (F := Ideal) x0 (ix4 d h p e) = val_main_v20 (F := Ideal) x0 (ix4 p d h e) := by
    pointwise [val_main_v21]
  rw [a1]
  pointwise [val_main_v20]

theorem v23_apply (x0 : FVec Ideal S10x8192x512 .bf16) (d : Fin 16) (h : Fin 8) (p : Fin 640) (e : Fin 64) :
    val_main_v23 (F := Ideal) x0 (ix4 d h p e) = if hp : p.val < 128 then 0 else val_main_v21 (F := Ideal) x0 (ix4 d h ⟨p.val - 128, by omega⟩ e) := by
  have a1 : ∀ p : Fin 512, val_main_v22_0 (F := Ideal) x0 (ix4 d h p e) = val_main_v21 (F := Ideal) x0 (ix4 d h p e) := fun p => by
    pointwise [val_main_v22_0]
  pointwise [val_main_v23, val_main_v19, val_main_cst]
  simp only [a1]

theorem v25_apply (x0 : FVec Ideal S10x8192x512 .bf16) (d : Fin 16) (h : Fin 8) (b : Fin 5) (i : Fin 128) (e : Fin 64) :
    val_main_v25 (F := Ideal) x0 (ix5 d h b i e) = val_main_v23 (F := Ideal) x0 (ix4 d h ⟨b.val * 128 + i.val, by omega⟩ e) := by
  pointwise [val_main_v25]

theorem v26_idx (x0 : FVec Ideal S10x8192x512 .bf16) (d : Fin 16) (h : Fin 8) (n : Fin 4) (j : Fin 128) (e : Fin 64) :
    val_main_v26 (F := Ideal) x0 (ix5 d h n j e) = val_main_v25 (F := Ideal) x0 (ix5 d h ⟨n.val, by omega⟩ j e) := by
  rw [val_main_v26_apply]
  congr 1
  funext a
  match a with
  | ⟨0, _⟩ => rfl
  | ⟨1, _⟩ => rfl
  | ⟨2, _⟩ => rfl
  | ⟨3, _⟩ => rfl
  | ⟨4, _⟩ => rfl

theorem v27_idx (x0 : FVec Ideal S10x8192x512 .bf16) (d : Fin 16) (h : Fin 8) (n : Fin 4) (j : Fin 128) (e : Fin 64) :
    val_main_v27 (F := Ideal) x0 (ix5 d h n j e) = val_main_v25 (F := Ideal) x0 (ix5 d h ⟨1 + n.val, by omega⟩ j e) := by
  rw [val_main_v27_apply]
  congr 1
  funext a
  match a with
  | ⟨0, _⟩ => rfl
  | ⟨1, _⟩ => rfl
  | ⟨2, _⟩ => rfl
  | ⟨3, _⟩ => rfl
  | ⟨4, _⟩ => rfl

theorem v28_cut (x0 : FVec Ideal S10x8192x512 .bf16) (d : Fin 16) (h : Fin 8) (n : Fin 4) (j : Fin 256) (e : Fin 64) :
    val_main_v28 (F := Ideal) x0 (ix5 d h n j e) = if hj : j.val < 128 then val_main_v25 (F := Ideal) x0 (ix5 d h ⟨n.val, by omega⟩ ⟨j.val, hj⟩ e)
      else val_main_v25 (F := Ideal) x0 (ix5 d h ⟨1 + n.val, by omega⟩ ⟨j.val - 128, by omega⟩ e) := by
  have a1 : val_main_v28 (F := Ideal) x0 (ix5 d h n j e) = if hj : j.val < 128 then val_main_v26 (F := Ideal) x0 (ix5 d h n ⟨j.val, hj⟩ e)
      else val_main_v27 (F := Ideal) x0 (ix5 d h n ⟨j.val - 128, by omega⟩ e) := by
    pointwise [val_main_v28]
  simp only [v26_idx, v27_idx] at a1
  exact a1

theorem v28_apply (x0 : FVec Ideal S10x8192x512 .bf16) (d : Fin 16) (h : Fin 8) (n : Fin 4) (j : Fin 256) (e : Fin 64) :
    val_main_v28 (F := Ideal) x0 (ix5 d h n j e) = kv x0 5 d h n j e := by
  rw [v28_cut]
  unfold kv
  by_cases hj : j.val < 128
  · rw [dif_pos hj, v25_apply, v23_apply]
    by_cases hb : n.val * 128 + j.val < 128
    · rw [dif_pos hb, if_pos hb]
    · rw [dif_neg hb, if_neg hb, v21_apply, v7_apply]; rfl
  · rw [dif_neg hj, v25_apply, v23_apply, dif_neg (show ¬(1 + n.val) * 128 + (j.val - 128) < 128 by omega), if_neg (by omega), v21_apply, v7_apply]
    apply congrArg x0
    refine ix3_congr rfl ?_ rfl
    show ((1 + n.val) * 128 + (j.val - 128) - 128) * 16 + d.val = (n.val * 128 + j.val - 128) * 16 + d.val
    omega

theorem v11_apply (x0 : FVec Ideal S10x8192x512 .bf16) (t : Fin 8192) (h : Fin 8) (e : Fin 64) :
    val_main_v11 (F := Ideal) x0 (ix3 t h e) = x0 (ix3 8 t (hl h e)) := by
  have a1 : val_main_v11 (F := Ideal) x0 (ix3 t h e) = val_main_v10 (F := Ideal) x0 (ix2 t (hl h e)) := by
    pointwise [val_main_v11]
    rfl
  have a2 : val_main_v9 (F := Ideal) x0 (ix2 t (hl h e)) = val_main_v8 (F := Ideal) x0 (ix3 0 t (hl h e)) := by
    pointwise [val_main_v9]
  have a3 : val_main_v8 (F := Ideal) x0 (ix3 0 t (hl h e)) = x0 (ix3 8 t (hl h e)) := by
    pointwise [val_main_v8]
  rw [a1, ← a3, ← a2]
  rfl

theorem v31_apply (x0 : FVec Ideal S10x8192x512 .bf16) (d : Fin 16) (h : Fin 8) (p : Fin 512) (e : Fin 64) :
    val_main_v31 (F := Ideal) x0 (ix4 d h p e) = val_main_v11 (F := Ideal) x0 (ix3 ⟨p.val * 16 + d.val, by omega⟩ h e) := by
  have a1 : val_main_v31 (F := Ideal) x0 (ix4 d h p e) = val_main_v30 (F := Ideal) x0 (ix4 p d h e) := by
    pointwise [val_main_v31]
  rw [a1]
  pointwise [val_main_v30]

theorem v33_apply (x0 : FVec Ideal S10x8192x512 .bf16) (d : Fin 16) (h : Fin 8) (p : Fin 640) (e : Fin 64) :
    val_main_v33 (F := Ideal) x0 (ix4 d h p e) = if hp : p.val < 128 then 0 else val_main_v31 (F := Ideal) x0 (ix4 d h ⟨p.val - 128, by omega⟩ e) := by
  have a1 : ∀ p : Fin 512, val_main_v32_0 (F := Ideal) x0 (ix4 d h p e) = val_main_v31 (F := Ideal) x0 (ix4 d h p e) := fun p => by
    pointwise [val_main_v32_0]
  pointwise [val_main_v33, val_main_v29, val_main_cst_2]
  simp only [a1]

theorem v35_apply (x0 : FVec Ideal S10x8192x512 .bf16) (d : Fin 16) (h : Fin 8) (b : Fin 5) (i : Fin 128) (e : Fin 64) :
    val_main_v35 (F := Ideal) x0 (ix5 d h b i e) = val_main_v33 (F := Ideal) x0 (ix4 d h ⟨b.val * 128 + i.val, by omega⟩ e) := by
  pointwise [val_main_v35]

theorem v36_idx (x0 : FVec Ideal S10x8192x512 .bf16) (d : Fin 16) (h : Fin 8) (n : Fin 4) (j : Fin 128) (e : Fin 64) :
    val_main_v36 (F := Ideal) x0 (ix5 d h n j e) = val_main_v35 (F := Ideal) x0 (ix5 d h ⟨n.val, by omega⟩ j e) := by
  rw [val_main_v36_apply]
  congr 1
  funext a
  match a with
  | ⟨0, _⟩ => rfl
  | ⟨1, _⟩ => rfl
  | ⟨2, _⟩ => rfl
  | ⟨3, _⟩ => rfl
  | ⟨4, _⟩ => rfl

theorem v37_idx (x0 : FVec Ideal S10x8192x512 .bf16) (d : Fin 16) (h : Fin 8) (n : Fin 4) (j : Fin 128) (e : Fin 64) :
    val_main_v37 (F := Ideal) x0 (ix5 d h n j e) = val_main_v35 (F := Ideal) x0 (ix5 d h ⟨1 + n.val, by omega⟩ j e) := by
  rw [val_main_v37_apply]
  congr 1
  funext a
  match a with
  | ⟨0, _⟩ => rfl
  | ⟨1, _⟩ => rfl
  | ⟨2, _⟩ => rfl
  | ⟨3, _⟩ => rfl
  | ⟨4, _⟩ => rfl

theorem v38_cut (x0 : FVec Ideal S10x8192x512 .bf16) (d : Fin 16) (h : Fin 8) (n : Fin 4) (j : Fin 256) (e : Fin 64) :
    val_main_v38 (F := Ideal) x0 (ix5 d h n j e) = if hj : j.val < 128 then val_main_v35 (F := Ideal) x0 (ix5 d h ⟨n.val, by omega⟩ ⟨j.val, hj⟩ e)
      else val_main_v35 (F := Ideal) x0 (ix5 d h ⟨1 + n.val, by omega⟩ ⟨j.val - 128, by omega⟩ e) := by
  have a1 : val_main_v38 (F := Ideal) x0 (ix5 d h n j e) = if hj : j.val < 128 then val_main_v36 (F := Ideal) x0 (ix5 d h n ⟨j.val, hj⟩ e)
      else val_main_v37 (F := Ideal) x0 (ix5 d h n ⟨j.val - 128, by omega⟩ e) := by
    pointwise [val_main_v38]
  simp only [v36_idx, v37_idx] at a1
  exact a1

theorem v38_apply (x0 : FVec Ideal S10x8192x512 .bf16) (d : Fin 16) (h : Fin 8) (n : Fin 4) (j : Fin 256) (e : Fin 64) :
    val_main_v38 (F := Ideal) x0 (ix5 d h n j e) = kv x0 8 d h n j e := by
  rw [v38_cut]
  unfold kv
  by_cases hj : j.val < 128
  · rw [dif_pos hj, v35_apply, v33_apply]
    by_cases hb : n.val * 128 + j.val < 128
    · rw [dif_pos hb, if_pos hb]
    · rw [dif_neg hb, if_neg hb, v31_apply, v11_apply]; rfl
  · rw [dif_neg hj, v35_apply, v33_apply, dif_neg (show ¬(1 + n.val) * 128 + (j.val - 128) < 128 by omega), if_neg (by omega), v31_apply, v11_apply]
    apply congrArg x0
    refine ix3_congr rfl ?_ rfl
    show ((1 + n.val) * 128 + (j.val - 128) - 128) * 16 + d.val = (n.val * 128 + j.val - 128) * 16 + d.val
    omega

end Cert.AttnGrad
-- ==== Proof.Real.lean ====
/- The mathematics of the gradient, over the real numbers and for one query row: a head's query `q`, its window of
   256 keys and values, the window's mask, the incoming gradient `ct`, and what the two other groups computed
   (outputs `oa`, `ob`, log-denominators `la`, `lb`). `M` and `mx` are the two numbers subtracted before the two
   exponentials are taken; nothing below depends on which numbers they are. -/
module

public import Idealize.ShloMosaic.PureOps.Ideal.Laws

@[expose] public section

noncomputable section

namespace Cert.AttnGrad

structure Row where
  q : Fin 64 → ℝ
  k : Fin 256 → Fin 64 → ℝ
  v : Fin 256 → Fin 64 → ℝ
  ok : Fin 256 → Bool
  ct : Fin 64 → ℝ
  oa : Fin 64 → ℝ
  ob : Fin 64 → ℝ
  la : ℝ
  lb : ℝ
  M : ℝ
  mx : ℝ

namespace Row

variable (r : Row)

/-- The scaled score of key `j`. -/
def S (j : Fin 256) : ℝ := (∑ e, r.q e * r.k j e) * (1 / 8)
/-- The unnormalised weight of key `j`. -/
def E (j : Fin 256) : ℝ := if r.ok j then Real.exp (r.S j - r.M) else 0
def D : ℝ := ∑ j, r.E j
/-- The attention probability of key `j` inside this group. -/
def P (j : Fin 256) : ℝ := r.E j * (1 / r.D)
def o (e : Fin 64) : ℝ := ∑ j, r.P j * r.v j e
def lse : ℝ := r.M + Real.log r.D
/-- The three groups' unnormalised shares, their sum, and this group's share. -/
def ea : ℝ := Real.exp (r.la - r.mx)
def eb : ℝ := Real.exp (r.lb - r.mx)
def ec : ℝ := Real.exp (r.lse - r.mx)
def den : ℝ := r.ea + r.eb + r.ec
def w : ℝ := r.ec * (1 / r.den)
/-- The log-denominator of the whole row, over the three groups. -/
def lseTot : ℝ := r.mx + Real.log r.den
def attn (e : Fin 64) : ℝ := (r.ea * r.oa e + r.eb * r.ob e + r.ec * r.o e) * (1 / r.den)
/-- The gradient's inner product with the merged output. -/
def A : ℝ := ∑ e, r.ct e * r.attn e
def dp (j : Fin 256) : ℝ := ∑ e, r.ct e * r.v j e
/-- The probability of key `j` among the keys of the three groups, in one exponential. -/
def pr (j : Fin 256) : ℝ := if r.ok j then Real.exp (r.S j - r.lseTot) else 0
/-- The gradient of the score of key `j`. -/
def ds (j : Fin 256) : ℝ := r.pr j * (r.dp j - r.A)

/-! The reference differentiates the two softmaxes one after the other. -/

def ca : ℝ := ∑ e, r.ct e * r.oa e
def cb : ℝ := ∑ e, r.ct e * r.ob e
def cc : ℝ := ∑ e, r.ct e * r.o e
def i2 : ℝ := 1 / (r.den * r.den)
/-- The gradient of this group's log-denominator. -/
def gl : ℝ := (r.cc * (1 / r.den) + -(r.ca * r.i2 * r.ea + r.cb * r.i2 * r.eb + r.cc * r.i2 * r.ec)) * r.ec
def X (j : Fin 256) : ℝ := ∑ e, (r.w * r.ct e) * r.v j e
def refDs (j : Fin 256) : ℝ :=
  (r.X j * (1 / r.D) + (r.gl * (1 / r.D) + -∑ j', r.X j' * (1 / (r.D * r.D)) * r.E j')) * r.E j

theorem E_nonneg (j : Fin 256) : 0 ≤ r.E j := by
  unfold E; split
  · exact (Real.exp_pos _).le
  · exact le_rfl

theorem D_pos (h : ∃ j, r.ok j = true) : 0 < r.D := by
  obtain ⟨j, hj⟩ := h
  refine Finset.sum_pos' (fun j _ => r.E_nonneg j) ⟨j, Finset.mem_univ _, ?_⟩
  simp only [E, hj, if_true]
  exact Real.exp_pos _

theorem ea_pos : 0 < r.ea := Real.exp_pos _
theorem eb_pos : 0 < r.eb := Real.exp_pos _
theorem ec_pos : 0 < r.ec := Real.exp_pos _
theorem den_pos : 0 < r.den := add_pos (add_pos r.ea_pos r.eb_pos) r.ec_pos

theorem pr_eq (h : ∃ j, r.ok j = true) (j : Fin 256) : r.pr j = r.w * r.P j := by
  have hD := r.D_pos h
  have hd := r.den_pos
  unfold pr w P E
  split
  · have h1 : Real.exp (r.S j - r.lseTot) = Real.exp (r.S j - r.M) * Real.exp r.M / Real.exp r.mx / r.den := by
      rw [lseTot, Real.exp_sub, Real.exp_sub, Real.exp_add, Real.exp_log hd]
      field_simp
    have h2 : r.ec = Real.exp r.M * r.D / Real.exp r.mx := by
      rw [ec, lse, Real.exp_sub, Real.exp_add, Real.exp_log hD]
    rw [h1, h2]
    field_simp
  · simp

theorem sum_P (h : ∃ j, r.ok j = true) : ∑ j, r.P j = 1 := by
  have hD := r.D_pos h
  unfold P
  rw [← Finset.sum_mul]
  change r.D * (1 / r.D) = 1
  field_simp

theorem A_eq : r.A = (r.ea * r.ca + r.eb * r.cb + r.ec * r.cc) * (1 / r.den) := by
  unfold A attn ca cb cc
  simp only [Finset.mul_sum, ← Finset.sum_add_distrib, Finset.sum_mul]
  exact Finset.sum_congr rfl fun e _ => by ring

theorem gl_eq : r.gl = r.w * (r.cc - r.A) := by
  have hd := r.den_pos
  rw [A_eq]
  unfold gl w i2
  field_simp
  ring

theorem X_eq (j : Fin 256) : r.X j = r.w * r.dp j := by
  unfold X dp
  rw [Finset.mul_sum]
  exact Finset.sum_congr rfl fun e _ => by ring

theorem sum_P_dp : ∑ j, r.P j * r.dp j = r.cc := by
  unfold dp cc o
  simp only [Finset.mul_sum]
  rw [Finset.sum_comm]
  exact Finset.sum_congr rfl fun e _ => Finset.sum_congr rfl fun j _ => by ring

theorem sum_X : ∑ j', r.X j' * (1 / (r.D * r.D)) * r.E j' = r.w * r.cc * (1 / r.D) := by
  rw [← sum_P_dp]
  simp only [X_eq, P, Finset.mul_sum, Finset.sum_mul]
  exact Finset.sum_congr rfl fun j _ => by simp only [one_div, mul_inv]; ring

/-- The two gradients of a score agree. -/
theorem refDs_eq (h : ∃ j, r.ok j = true) (j : Fin 256) : r.refDs j = r.ds j := by
  unfold refDs ds
  rw [sum_X, gl_eq, X_eq, pr_eq r h]
  unfold P
  ring

/-- Nothing is left for the row's maximum: the scores' gradients sum to the log-denominator's. -/
theorem gl_sub_sum (h : ∃ j, r.ok j = true) : r.gl + ∑ j, -r.refDs j = 0 := by
  simp only [refDs_eq r h, ds, pr_eq r h]
  have h1 : ∑ j, -(r.w * r.P j * (r.dp j - r.A)) = -(r.w * ∑ j, r.P j * r.dp j) + r.w * r.A * ∑ j, r.P j := by
    simp only [Finset.mul_sum, ← Finset.sum_neg_distrib, ← Finset.sum_add_distrib]
    exact Finset.sum_congr rfl fun j _ => by ring
  rw [h1, sum_P_dp, sum_P r h, gl_eq]
  ring

theorem ds_of_not_ok (j : Fin 256) (h : r.ok j = false) : r.ds j = 0 := by simp [ds, pr, h]

end Row

/-! ## Finite sums, products and quotients of real numbers among the extended reals -/

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_sum_of_eq {ι : Type*} (s : Finset ι) (g : ι → EReal) (f : ι → ℝ) (h : ∀ i, g i = (f i : EReal)) :
    ∑ i ∈ s, g i = ((∑ i ∈ s, f i : ℝ) : EReal) := by
  rw [← coe_sum]; exact Finset.sum_congr rfl fun i _ => h i

end Cert.AttnGrad
-- ==== Proof.RefScore.lean ====
/- The reference's stages inside the group, up to its output and its log-denominator, as the real numbers of `Row`. -/
module

public import proofs.«01_k».proof.Proof.RefKeys
public import proofs.«01_k».proof.Proof.Real

@[expose] public section

set_option maxRecDepth 16384

noncomputable section

namespace Cert.AttnGrad

open Cert.ReferenceIdeal Cert.ReferenceIdeal.Gen Cert.ReferenceIdeal.Read Idealize.ShloMosaic

/-- Every element is a real number. -/
def AllReal {s : Shape} {φ : FTy} (x : FVec Ideal s φ) : Prop := ∀ i, x i = ((x i : EReal).toReal : EReal)

theorem fold_max_attained {ι : Type} (s : Finset ι) (f : ι → EReal) : s.fold max ⊥ f = ⊥ ∨ ∃ i ∈ s, s.fold max ⊥ f = f i := by
  classical
  induction s using Finset.induction_on with
  | empty => left; rfl
  | insert a s ha ih =>
    rw [Finset.fold_insert ha]
    rcases le_total (f a) (s.fold max ⊥ f) with hle | hle
    · rw [max_eq_right hle]
      rcases ih with h | ⟨i, hi, h⟩
      · exact Or.inl h
      · exact Or.inr ⟨i, Finset.mem_insert_of_mem hi, h⟩
    · rw [max_eq_left hle]
      exact Or.inr ⟨a, Finset.mem_insert_self _ _, rfl⟩

theorem le_fold_max' {ι : Type} [Fintype ι] (f : ι → EReal) (i : ι) : f i ≤ Finset.univ.fold max ⊥ f :=
  (Finset.le_fold_max _).2 (Or.inr ⟨i, Finset.mem_univ _, le_rfl⟩)

/-- The greatest of finitely many numbers, none `⊤` and one of them real, is a real number and is attained. -/
theorem fold_max_real {ι : Type} [Fintype ι] (f : ι → EReal) (hT : ∀ i, f i ≠ ⊤) (i0 : ι) (h0 : f i0 ≠ ⊥) :
    Finset.univ.fold max ⊥ f = ((Finset.univ.fold max ⊥ f).toReal : EReal) ∧ ∃ i, f i = Finset.univ.fold max ⊥ f := by
  have hb : Finset.univ.fold max ⊥ f ≠ ⊥ := fun h => h0 (le_bot_iff.1 (h ▸ le_fold_max' f i0))
  rcases fold_max_attained Finset.univ f with h | ⟨i, -, h⟩
  · exact absurd h hb
  · exact ⟨(EReal.coe_toReal (h ▸ hT i) hb).symm, i, h.symm⟩

theorem ofBits_neg_inf' : Ideal.ofBits .f32 0xFF800000#32 = ⊥ := by simp [Ideal.ofBits, Ideal.ieee]
theorem ofBits_eighth' : Ideal.ofBits .f32 0x3E000000#32 = ((1 / 8 : ℝ) : EReal) := by
  simp [Ideal.ofBits, Ideal.ieee, -EReal.coe_mul]
  norm_num

theorem div_real (x y : ℝ) (hy : y ≠ 0) : Ideal.div (x : EReal) (y : EReal) = ((x * (1 / y) : ℝ) : EReal) := by
  rw [Ideal.div_coe hy, ← EReal.coe_mul]

variable (x0 : FVec Ideal S10x8192x512 .bf16) (x1 : FVec Ideal S8192x1024 .bf16) (x2 : FVec Ideal S8192x8x64 .f32) (x3 : FVec Ideal S8192x8 .f32)
  (x4 : FVec Ideal S8192x8x64 .f32) (x5 : FVec Ideal S8192x8 .f32)
variable (d : Fin 16) (h : Fin 8) (n : Fin 4) (i : Fin 128) (j : Fin 256) (e : Fin 64)

/-- The real numbers of one query's row. -/
def row : Row where
  q e := (x0 (ix3 2 (tok d n i) (hl h e)) : EReal).toReal
  k j e := (kv x0 5 d h n j e : EReal).toReal
  v j e := (kv x0 8 d h n j e : EReal).toReal
  ok j := band n i j
  ct e := (x1 (ix2 (tok d n i) ⟨h.val * 64 + e.val, by omega⟩) : EReal).toReal
  oa e := (x2 (ix3 (tok d n i) h e) : EReal).toReal
  ob e := (x4 (ix3 (tok d n i) h e) : EReal).toReal
  la := (x3 (ix2 (tok d n i) h) : EReal).toReal
  lb := (x5 (ix2 (tok d n i) h) : EReal).toReal
  M := (val_main_v73 (F := Ideal) x0 (ix4 d h n i) : EReal).toReal
  mx := (val_main_v113 (F := Ideal) x0 x3 x5 (ix2 (tok d n i) h) : EReal).toReal

theorem row_M : (row x0 x1 x2 x3 x4 x5 d h n i).M = (val_main_v73 (F := Ideal) x0 (ix4 d h n i) : EReal).toReal := by
  rw [row]

/-- A query always sees itself. -/
theorem row_ok : ∃ j, (row x0 x1 x2 x3 x4 x5 d h n i).ok j = true :=
  ⟨⟨i.val + 128, by omega⟩, by simp only [row, band, decide_eq_true_eq]; omega⟩

variable {x0} (h0 : AllReal x0)

include h0 in
theorem kv_real (s : Fin 10) : kv x0 s d h n j e = ((kv x0 s d h n j e : EReal).toReal : EReal) := by
  unfold kv
  split
  · simp
  · exact h0 _

theorem v41_read : val_main_v41 (F := Ideal) x0 (ix5 d h n i j)
    = (∑ x, val_main_v18 (F := Ideal) x0 (ix5 d h n i x) * val_main_v28 (F := Ideal) x0 (ix5 d h n j x)) * Ideal.ofBits .f32 0x3E000000#32 := by
  have a1 : val_main_v39 (F := Ideal) x0 (ix5 d h n i j) = ∑ x, val_main_v18 (F := Ideal) x0 (ix5 d h n i x) * val_main_v28 (F := Ideal) x0 (ix5 d h n j x) := by
    pointwise [val_main_v39]
  rw [val_main_v41_apply, val_main_v40_apply, a1]
  rfl

include h0 in
theorem v41_row : val_main_v41 (F := Ideal) x0 (ix5 d h n i j) = ((row x0 x1 x2 x3 x4 x5 d h n i).S j : EReal) := by
  rw [v41_read, ofBits_eighth', coe_sum_of_eq _ _ (fun e => (row x0 x1 x2 x3 x4 x5 d h n i).q e * (row x0 x1 x2 x3 x4 x5 d h n i).k j e) (fun e => ?_), ← EReal.coe_mul]
  · rfl
  · rw [v18_apply, v28_apply, h0 (ix3 2 _ _), kv_real d h n j e h0 5, EReal.coe_mul]; rfl

include h0 in
theorem v72_row : val_main_v72_0 (F := Ideal) x0 (ix5 d h n i j) = if (row x0 x1 x2 x3 x4 x5 d h n i).ok j then ((row x0 x1 x2 x3 x4 x5 d h n i).S j : EReal) else ⊥ := by
  rw [val_main_v72_0_apply, v72_1_apply, select_ofBool, v41_row x1 x2 x3 x4 x5 d h n i j h0]
  have : val_main_call3_v2 (F := Ideal) (ix5 d h n i j) = (⊥ : EReal) := by
    rw [val_main_call3_v2_apply]
    exact ofBits_neg_inf'
  rw [this]; rfl

theorem v73_read : val_main_v73 (F := Ideal) x0 (ix4 d h n i) = Finset.univ.fold max ⊥ (fun x => val_main_v72_0 (F := Ideal) x0 (ix5 d h n i x)) := by
  pointwise [val_main_v73, val_main_cst_13]
  rw [ofBits_neg_inf']

include h0 in
theorem v73_row : val_main_v73 (F := Ideal) x0 (ix4 d h n i) = ((row x0 x1 x2 x3 x4 x5 d h n i).M : EReal)
    ∧ ∃ j, val_main_v72_0 (F := Ideal) x0 (ix5 d h n i j) = val_main_v73 (F := Ideal) x0 (ix4 d h n i) := by
  have hrow := v72_row x1 x2 x3 x4 x5 d h n i (h0 := h0)
  obtain ⟨j0, hj0⟩ := row_ok x0 x1 x2 x3 x4 x5 d h n i
  have := fold_max_real (fun x => val_main_v72_0 (F := Ideal) x0 (ix5 d h n i x))
    (fun j => by
      show val_main_v72_0 (F := Ideal) x0 (ix5 d h n i j) ≠ (⊤ : EReal)
      rw [hrow]; split
      · exact EReal.coe_ne_top _
      · exact bot_ne_top) j0
    (by
      show val_main_v72_0 (F := Ideal) x0 (ix5 d h n i j0) ≠ (⊥ : EReal)
      rw [hrow, if_pos hj0]; exact EReal.coe_ne_bot _)
  rw [← v73_read] at this
  exact ⟨this.1.trans (congrArg _ (row_M x0 x1 x2 x3 x4 x5 d h n i).symm), this.2⟩

theorem v79_idx : val_main_v79 (F := Ideal) x0 (ix5 d h n i 0) = val_main_v73 (F := Ideal) x0 (ix4 d h n i) := by
  rw [val_main_v79_apply]
  congr 1
  funext a
  match a with
  | ⟨0, _⟩ => rfl
  | ⟨1, _⟩ => rfl
  | ⟨2, _⟩ => rfl
  | ⟨3, _⟩ => rfl

theorem v80_idx : val_main_v80 (F := Ideal) x0 (ix5 d h n i j) = val_main_v73 (F := Ideal) x0 (ix4 d h n i) := by
  rw [val_main_v80_apply, val_main_v79_apply]
  congr 1
  funext a
  match a with
  | ⟨0, _⟩ => rfl
  | ⟨1, _⟩ => rfl
  | ⟨2, _⟩ => rfl
  | ⟨3, _⟩ => rfl

theorem v85_idx : val_main_v85 (F := Ideal) x0 (ix5 d h n i j) = val_main_v84 (F := Ideal) x0 (ix5 d h n i 0) := by
  rw [val_main_v85_apply]
  congr 1
  funext a
  match a with
  | ⟨0, _⟩ => rfl
  | ⟨1, _⟩ => rfl
  | ⟨2, _⟩ => rfl
  | ⟨3, _⟩ => rfl
  | ⟨4, _⟩ => rfl

include h0 in
theorem v82_row : val_main_v82 (F := Ideal) x0 (ix5 d h n i j) = ((row x0 x1 x2 x3 x4 x5 d h n i).E j : EReal) := by
  have e1 : val_main_v80 (F := Ideal) x0 (ix5 d h n i j) = ((row x0 x1 x2 x3 x4 x5 d h n i).M : EReal) := by
    rw [v80_idx, (v73_row x1 x2 x3 x4 x5 d h n i h0).1]
  rw [val_main_v82_apply, val_main_v81_apply, e1, v72_row x1 x2 x3 x4 x5 d h n i j h0]
  unfold Row.E
  show Ideal.exp ((if (row x0 x1 x2 x3 x4 x5 d h n i).ok j then ((row x0 x1 x2 x3 x4 x5 d h n i).S j : EReal) else ⊥) - _) = _
  split
  · rw [← EReal.coe_sub]; exact Ideal.exp_coe _
  · rw [sub_eq_add_neg, EReal.bot_add]; rfl

theorem v84_read : val_main_v84 (F := Ideal) x0 (ix5 d h n i 0) = ∑ x, val_main_v82 (F := Ideal) x0 (ix5 d h n i x) := by
  pointwise [val_main_v84, val_main_v83, val_main_cst_15]

include h0 in
theorem v84_row : val_main_v84 (F := Ideal) x0 (ix5 d h n i 0) = ((row x0 x1 x2 x3 x4 x5 d h n i).D : EReal) := by
  rw [v84_read]
  exact coe_sum_of_eq _ _ _ fun j => v82_row x1 x2 x3 x4 x5 d h n i j h0

theorem D_ne : (row x0 x1 x2 x3 x4 x5 d h n i).D ≠ 0 := ((row x0 x1 x2 x3 x4 x5 d h n i).D_pos (row_ok _ _ _ _ _ _ _ _ _ _)).ne'

include h0 in
theorem v86_row : val_main_v86 (F := Ideal) x0 (ix5 d h n i j) = ((row x0 x1 x2 x3 x4 x5 d h n i).P j : EReal) := by
  have e1 : val_main_v85 (F := Ideal) x0 (ix5 d h n i j) = ((row x0 x1 x2 x3 x4 x5 d h n i).D : EReal) := by
    rw [v85_idx, v84_row x1 x2 x3 x4 x5 d h n i h0]
  rw [val_main_v86_apply, e1, v82_row x1 x2 x3 x4 x5 d h n i j h0]
  exact div_real _ _ (D_ne _ _ _ _ _ _ _ _ _)

theorem v90_read : val_main_v90 (F := Ideal) x0 (ix5 d h n i e)
    = ∑ x, val_main_v86 (F := Ideal) x0 (ix5 d h n i x) * val_main_v38 (F := Ideal) x0 (ix5 d h n x e) := by
  pointwise [val_main_v90]

include h0 in
theorem v90_row : val_main_v90 (F := Ideal) x0 (ix5 d h n i e) = ((row x0 x1 x2 x3 x4 x5 d h n i).o e : EReal) := by
  rw [v90_read]
  exact coe_sum_of_eq _ _ _ fun j => by
    rw [v86_row x1 x2 x3 x4 x5 d h n i j h0, v38_apply, kv_real d h n j e h0 8, EReal.coe_mul]; rfl

include h0 in
theorem v92_row : val_main_v92 (F := Ideal) x0 (ix5 d h n i 0) = ((row x0 x1 x2 x3 x4 x5 d h n i).lse : EReal) := by
  have e1 : val_main_v79 (F := Ideal) x0 (ix5 d h n i 0) = ((row x0 x1 x2 x3 x4 x5 d h n i).M : EReal) := by
    rw [v79_idx, (v73_row x1 x2 x3 x4 x5 d h n i h0).1]
  rw [val_main_v92_apply, val_main_v91_apply, e1, v84_row x1 x2 x3 x4 x5 d h n i h0]
  have hD := (row x0 x1 x2 x3 x4 x5 d h n i).D_pos (row_ok _ _ _ _ _ _ _ _ _ _)
  show ((row x0 x1 x2 x3 x4 x5 d h n i).M : EReal) + Ideal.log ((row x0 x1 x2 x3 x4 x5 d h n i).D : EReal) = _
  have : Ideal.log ((row x0 x1 x2 x3 x4 x5 d h n i).D : EReal) = (Real.log (row x0 x1 x2 x3 x4 x5 d h n i).D : EReal) := by
    simp only [Ideal.log_coe, if_neg (not_le.2 hD)]
  rw [this, ← EReal.coe_add]; rfl

theorem v93_idx : val_main_v93 (F := Ideal) x0 (ix4 d h n i) = val_main_v92 (F := Ideal) x0 (ix5 d h n i 0) := by
  pointwise [val_main_v93]

/-- Place of a token in its phase's sequence. -/
def plc (n : Fin 4) (i : Fin 128) : Fin 512 := ⟨n.val * 128 + i.val, by omega⟩

theorem v97_idx : val_main_v97 (F := Ideal) x0 (ix3 d h (plc n i)) = val_main_v93 (F := Ideal) x0 (ix4 d h n i) := by
  have a1 : ∀ p : Fin 512, val_main_v97 (F := Ideal) x0 (ix3 d h p)
      = val_main_v93 (F := Ideal) x0 (ix4 d h ⟨p.val / 128, by omega⟩ ⟨p.val % 128, by omega⟩) := fun p => by
    pointwise [val_main_v97]
  rw [a1]
  have e1 : (⟨(plc n i).val / 128, by omega⟩ : Fin 4) = n := Fin.ext (by simp only [plc]; omega)
  have e2 : (⟨(plc n i).val % 128, by omega⟩ : Fin 128) = i := Fin.ext (by simp only [plc]; omega)
  rw [e1, e2]

theorem v98_idx (p : Fin 512) : val_main_v98 (F := Ideal) x0 (ix3 p d h) = val_main_v97 (F := Ideal) x0 (ix3 d h p) := by
  pointwise [val_main_v98]

theorem tok_div : (⟨(tok d n i).val / 16, by omega⟩ : Fin 512) = plc n i := Fin.ext (by simp only [tok, plc]; omega)
theorem tok_mod : (⟨(tok d n i).val % 16, by omega⟩ : Fin 16) = d := Fin.ext (by simp only [tok]; omega)

theorem v99_idx : val_main_v99 (F := Ideal) x0 (ix2 (tok d n i) h) = val_main_v93 (F := Ideal) x0 (ix4 d h n i) := by
  have a1 : ∀ t : Fin 8192, val_main_v99 (F := Ideal) x0 (ix2 t h)
      = val_main_v98 (F := Ideal) x0 (ix3 ⟨t.val / 16, by omega⟩ ⟨t.val % 16, by omega⟩ h) := fun t => by
    pointwise [val_main_v99]
  rw [a1, tok_div, tok_mod, v98_idx, v97_idx]

theorem v94_idx : val_main_v94 (F := Ideal) x0 (ix4 d h (plc n i) e) = val_main_v90 (F := Ideal) x0 (ix5 d h n i e) := by
  have a1 : ∀ p : Fin 512, val_main_v94 (F := Ideal) x0 (ix4 d h p e)
      = val_main_v90 (F := Ideal) x0 (ix5 d h ⟨p.val / 128, by omega⟩ ⟨p.val % 128, by omega⟩ e) := fun p => by
    pointwise [val_main_v94]
  rw [a1]
  have e1 : (⟨(plc n i).val / 128, by omega⟩ : Fin 4) = n := Fin.ext (by simp only [plc]; omega)
  have e2 : (⟨(plc n i).val % 128, by omega⟩ : Fin 128) = i := Fin.ext (by simp only [plc]; omega)
  rw [e1, e2]

theorem v95_idx (p : Fin 512) : val_main_v95 (F := Ideal) x0 (ix4 p d h e) = val_main_v94 (F := Ideal) x0 (ix4 d h p e) := by
  pointwise [val_main_v95]

theorem v96_idx : val_main_v96 (F := Ideal) x0 (ix3 (tok d n i) h e) = val_main_v90 (F := Ideal) x0 (ix5 d h n i e) := by
  have a1 : ∀ t : Fin 8192, val_main_v96 (F := Ideal) x0 (ix3 t h e)
      = val_main_v95 (F := Ideal) x0 (ix4 ⟨t.val / 16, by omega⟩ ⟨t.val % 16, by omega⟩ h e) := fun t => by
    pointwise [val_main_v96]
  rw [a1, tok_div, tok_mod, v95_idx, v94_idx]

include h0 in
theorem v99_row : val_main_v99 (F := Ideal) x0 (ix2 (tok d n i) h) = ((row x0 x1 x2 x3 x4 x5 d h n i).lse : EReal) := by
  rw [v99_idx, v93_idx, v92_row x1 x2 x3 x4 x5 d h n i h0]

include h0 in
theorem v96_row : val_main_v96 (F := Ideal) x0 (ix3 (tok d n i) h e) = ((row x0 x1 x2 x3 x4 x5 d h n i).o e : EReal) := by
  rw [v96_idx, v90_row x1 x2 x3 x4 x5 d h n i e h0]

end Cert.AttnGrad
-- ==== Proof.RefMerge.lean ====
/- The reference's merge of the three groups, and its gradient down to this group's output and log-denominator. -/
module

public import proofs.«01_k».proof.Proof.RefScore

@[expose] public section

set_option maxRecDepth 16384

noncomputable section

namespace Cert.AttnGrad

open Cert.ReferenceIdeal Cert.ReferenceIdeal.Gen Cert.ReferenceIdeal.Read Idealize.ShloMosaic

variable (x0 : FVec Ideal S10x8192x512 .bf16) (x1 : FVec Ideal S8192x1024 .bf16) (x2 : FVec Ideal S8192x8x64 .f32) (x3 : FVec Ideal S8192x8 .f32)
  (x4 : FVec Ideal S8192x8x64 .f32) (x5 : FVec Ideal S8192x8 .f32)

/-- Every argument holds real numbers. -/
structure Reals : Prop where
  h0 : AllReal x0
  h1 : AllReal x1
  h2 : AllReal x2
  h3 : AllReal x3
  h4 : AllReal x4
  h5 : AllReal x5

theorem coe_one_f32 : Ideal.ofBits .f32 0x3F800000#32 = ((1 : ℝ) : EReal) := by
  rw [Ideal.ofBits_one_f32]; rfl

/-! The layout steps. -/

theorem v100_idx (t : Fin 8192) (h : Fin 8) :
    val_main_v100 (F := Ideal) x3 (ix3 0 t h)
      = x3 (ix2 t h) := by
  rw [val_main_v100_apply]
  congr 1
  funext a
  match a with
  | ⟨0, _⟩ => rfl
  | ⟨1, _⟩ => rfl

theorem v101_idx (t : Fin 8192) (h : Fin 8) :
    val_main_v101 (F := Ideal) x5 (ix3 0 t h)
      = x5 (ix2 t h) := by
  rw [val_main_v101_apply]
  congr 1
  funext a
  match a with
  | ⟨0, _⟩ => rfl
  | ⟨1, _⟩ => rfl

theorem v102_idx (t : Fin 8192) (h : Fin 8) :
    val_main_v102 (F := Ideal) x0 (ix3 0 t h)
      = val_main_v99 (F := Ideal) x0 (ix2 t h) := by
  rw [val_main_v102_apply]
  congr 1
  funext a
  match a with
  | ⟨0, _⟩ => rfl
  | ⟨1, _⟩ => rfl

theorem v103_0 (t : Fin 8192) (h : Fin 8) :
    val_main_v103 (F := Ideal) x0 x3 x5 (ix3 0 t h)
      = val_main_v100 (F := Ideal) x3 (ix3 0 t h) := by
  pointwise [val_main_v103]
theorem v103_1 (t : Fin 8192) (h : Fin 8) :
    val_main_v103 (F := Ideal) x0 x3 x5 (ix3 1 t h)
      = val_main_v101 (F := Ideal) x5 (ix3 0 t h) := by
  pointwise [val_main_v103]
theorem v103_2 (t : Fin 8192) (h : Fin 8) :
    val_main_v103 (F := Ideal) x0 x3 x5 (ix3 2 t h)
      = val_main_v102 (F := Ideal) x0 (ix3 0 t h) := by
  pointwise [val_main_v103]
theorem v106_read (t : Fin 8192) (h : Fin 8) :
    val_main_v106 (F := Ideal) x0 x3 x5 (ix2 t h)
      = Finset.univ.fold max (Ideal.ofBits .f32 0xFF800000#32) (fun s => val_main_v103 (F := Ideal) x0 x3 x5 (ix3 s t h)) := by
  pointwise [val_main_v106, val_main_cst_19]
theorem v124_idx (s : Fin 3) (t : Fin 8192) (h : Fin 8) :
    val_main_v124 (F := Ideal) x0 x3 x5 (ix3 s t h)
      = val_main_v113 (F := Ideal) x0 x3 x5 (ix2 t h) := by
  rw [val_main_v124_apply, val_main_v123_apply]
  congr 1
  funext a
  match a with
  | ⟨0, _⟩ => rfl
  | ⟨1, _⟩ => rfl

theorem v127_read (t : Fin 8192) (h : Fin 8) :
    val_main_v127 (F := Ideal) x0 x3 x5 (ix2 t h)
      = ∑ s, val_main_v126 (F := Ideal) x0 x3 x5 (ix3 s t h) := by
  pointwise [val_main_v127, val_main_cst_27]
theorem v128_idx (t : Fin 8192) (h : Fin 8) :
    val_main_v128 (F := Ideal) x0 x3 x5 (ix3 0 t h)
      = val_main_v127 (F := Ideal) x0 x3 x5 (ix2 t h) := by
  rw [val_main_v128_apply]
  congr 1
  funext a
  match a with
  | ⟨0, _⟩ => rfl
  | ⟨1, _⟩ => rfl

theorem v129_idx (s : Fin 3) (t : Fin 8192) (h : Fin 8) :
    val_main_v129 (F := Ideal) x0 x3 x5 (ix3 s t h)
      = val_main_v127 (F := Ideal) x0 x3 x5 (ix2 t h) := by
  rw [val_main_v129_apply, val_main_v128_apply]
  congr 1
  funext a
  match a with
  | ⟨0, _⟩ => rfl
  | ⟨1, _⟩ => rfl

theorem v163_idx (s : Fin 3) (t : Fin 8192) (h : Fin 8) :
    val_main_v163 (F := Ideal) x0 x3 x5 (ix3 s t h)
      = val_main_v127 (F := Ideal) x0 x3 x5 (ix2 t h) := by
  rw [val_main_v163_apply, val_main_v128_apply]
  congr 1
  funext a
  match a with
  | ⟨0, _⟩ => rfl
  | ⟨1, _⟩ => rfl

theorem v145_idx (s : Fin 3) (t : Fin 8192) (h : Fin 8) (e : Fin 64) :
    val_main_v145 (F := Ideal) x0 x3 x5 (ix4 s t h e)
      = val_main_v130 (F := Ideal) x0 x3 x5 (ix3 s t h) := by
  rw [val_main_v145_apply, val_main_v134_apply]
  congr 1
  funext a
  match a with
  | ⟨0, _⟩ => rfl
  | ⟨1, _⟩ => rfl
  | ⟨2, _⟩ => rfl

theorem v135_idx (t : Fin 8192) (h : Fin 8) (e : Fin 64) :
    val_main_v135 (F := Ideal) x2 (ix4 0 t h e)
      = x2 (ix3 t h e) := by
  rw [val_main_v135_apply]
  congr 1
  funext a
  match a with
  | ⟨0, _⟩ => rfl
  | ⟨1, _⟩ => rfl
  | ⟨2, _⟩ => rfl

theorem v136_idx (t : Fin 8192) (h : Fin 8) (e : Fin 64) :
    val_main_v136 (F := Ideal) x4 (ix4 0 t h e)
      = x4 (ix3 t h e) := by
  rw [val_main_v136_apply]
  congr 1
  funext a
  match a with
  | ⟨0, _⟩ => rfl
  | ⟨1, _⟩ => rfl
  | ⟨2, _⟩ => rfl

theorem v137_idx (t : Fin 8192) (h : Fin 8) (e : Fin 64) :
    val_main_v137 (F := Ideal) x0 (ix4 0 t h e)
      = val_main_v96 (F := Ideal) x0 (ix3 t h e) := by
  rw [val_main_v137_apply]
  congr 1
  funext a
  match a with
  | ⟨0, _⟩ => rfl
  | ⟨1, _⟩ => rfl
  | ⟨2, _⟩ => rfl

theorem v138_0 (t : Fin 8192) (h : Fin 8) (e : Fin 64) :
    val_main_v138 (F := Ideal) x0 x2 x4 (ix4 0 t h e)
      = val_main_v135 (F := Ideal) x2 (ix4 0 t h e) := by
  pointwise [val_main_v138]
theorem v138_1 (t : Fin 8192) (h : Fin 8) (e : Fin 64) :
    val_main_v138 (F := Ideal) x0 x2 x4 (ix4 1 t h e)
      = val_main_v136 (F := Ideal) x4 (ix4 0 t h e) := by
  pointwise [val_main_v138]
theorem v138_2 (t : Fin 8192) (h : Fin 8) (e : Fin 64) :
    val_main_v138 (F := Ideal) x0 x2 x4 (ix4 2 t h e)
      = val_main_v137 (F := Ideal) x0 (ix4 0 t h e) := by
  pointwise [val_main_v138]
theorem v144_idx (s : Fin 3) (t : Fin 8192) (h : Fin 8) (e : Fin 64) :
    val_main_v144 (F := Ideal) x1 (ix4 s t h e)
      = val_main_v14 (F := Ideal) x1 (ix3 t h e) := by
  rw [val_main_v144_apply]
  congr 1
  funext a
  match a with
  | ⟨0, _⟩ => rfl
  | ⟨1, _⟩ => rfl
  | ⟨2, _⟩ => rfl

theorem v148_read (s : Fin 3) (t : Fin 8192) (h : Fin 8) :
    val_main_v148 (F := Ideal) x0 x1 x2 x4 (ix3 s t h)
      = ∑ e, val_main_v147 (F := Ideal) x0 x1 x2 x4 (ix4 s t h e) := by
  pointwise [val_main_v148, val_main_cst_32]
theorem v149_read (s : Fin 3) (t : Fin 8192) (h : Fin 8) :
    val_main_v149 (F := Ideal) x0 x1 x2 x4 (ix4 s t h 0)
      = val_main_v148 (F := Ideal) x0 x1 x2 x4 (ix3 s t h) := by
  pointwise [val_main_v149]
theorem v156_read (s : Fin 3) (t : Fin 8192) (h : Fin 8) :
    val_main_v156 (F := Ideal) x0 x1 x2 x4 (ix3 s t h)
      = val_main_v149 (F := Ideal) x0 x1 x2 x4 (ix4 s t h 0) := by
  pointwise [val_main_v156, val_main_cst_33]
  exact Fin.sum_univ_one _

theorem v157_idx (s : Fin 3) (t : Fin 8192) (h : Fin 8) :
    val_main_v157 (F := Ideal) x0 x3 x5 (ix3 s t h)
      = val_main_v133 (F := Ideal) x0 x3 x5 (ix3 0 t h) := by
  rw [val_main_v157_apply]
  congr 1
  funext a
  match a with
  | ⟨0, _⟩ => rfl
  | ⟨1, _⟩ => rfl
  | ⟨2, _⟩ => rfl

theorem v160_read (t : Fin 8192) (h : Fin 8) :
    val_main_v160 (F := Ideal) x0 x1 x2 x3 x4 x5 (ix2 t h)
      = ∑ s, val_main_v159 (F := Ideal) x0 x1 x2 x3 x4 x5 (ix3 s t h) := by
  pointwise [val_main_v160, val_main_cst_34]
theorem v161_read (t : Fin 8192) (h : Fin 8) :
    val_main_v161 (F := Ideal) x0 x1 x2 x3 x4 x5 (ix3 0 t h)
      = val_main_v160 (F := Ideal) x0 x1 x2 x3 x4 x5 (ix2 t h) := by
  pointwise [val_main_v161]
theorem v165_read (t : Fin 8192) (h : Fin 8) :
    val_main_v165 (F := Ideal) x0 x1 x2 x3 x4 x5 (ix2 t h)
      = val_main_v162 (F := Ideal) x0 x1 x2 x3 x4 x5 (ix3 0 t h) := by
  pointwise [val_main_v165, val_main_cst_35]
  exact Fin.sum_univ_one _

theorem v166_idx (s : Fin 3) (t : Fin 8192) (h : Fin 8) :
    val_main_v166 (F := Ideal) x0 x1 x2 x3 x4 x5 (ix3 s t h)
      = val_main_v165 (F := Ideal) x0 x1 x2 x3 x4 x5 (ix2 t h) := by
  rw [val_main_v166_apply]
  congr 1
  funext a
  match a with
  | ⟨0, _⟩ => rfl
  | ⟨1, _⟩ => rfl

theorem v173_idx (t : Fin 8192) (h : Fin 8) :
    val_main_v173 (F := Ideal) x0 x1 x2 x3 x4 x5 (ix3 0 t h)
      = val_main_v168 (F := Ideal) x0 x1 x2 x3 x4 x5 (ix3 2 t h) := by
  rw [val_main_v173_apply]
  congr 1
  funext a
  match a with
  | ⟨0, _⟩ => rfl
  | ⟨1, _⟩ => rfl
  | ⟨2, _⟩ => rfl

theorem v174_read (t : Fin 8192) (h : Fin 8) :
    val_main_v174 (F := Ideal) x0 x1 x2 x3 x4 x5 (ix2 t h)
      = val_main_v173 (F := Ideal) x0 x1 x2 x3 x4 x5 (ix3 0 t h) := by
  pointwise [val_main_v174]
theorem v154_idx (t : Fin 8192) (h : Fin 8) (e : Fin 64) :
    val_main_v154 (F := Ideal) x0 x1 x3 x5 (ix4 0 t h e)
      = val_main_v146 (F := Ideal) x0 x1 x3 x5 (ix4 2 t h e) := by
  rw [val_main_v154_apply]
  congr 1
  funext a
  match a with
  | ⟨0, _⟩ => rfl
  | ⟨1, _⟩ => rfl
  | ⟨2, _⟩ => rfl
  | ⟨3, _⟩ => rfl

theorem v155_read (t : Fin 8192) (h : Fin 8) (e : Fin 64) :
    val_main_v155 (F := Ideal) x0 x1 x3 x5 (ix3 t h e)
      = val_main_v154 (F := Ideal) x0 x1 x3 x5 (ix4 0 t h e) := by
  pointwise [val_main_v155]

/-! The numbers, at the token of place `i` of block `n` of phase `d`. -/

variable (d : Fin 16) (h : Fin 8) (n : Fin 4) (i : Fin 128) (e : Fin 64)
variable {x0 x1 x2 x3 x4 x5} (H : Reals x0 x1 x2 x3 x4 x5)

theorem row_mx : (row x0 x1 x2 x3 x4 x5 d h n i).mx = (val_main_v113 (F := Ideal) x0 x3 x5 (ix2 (tok d n i) h) : EReal).toReal := by
  rw [row]

include H

theorem v103_0r : val_main_v103 (F := Ideal) x0 x3 x5 (ix3 0 (tok d n i) h) = ((row x0 x1 x2 x3 x4 x5 d h n i).la : EReal) := by
  rw [v103_0, v100_idx, H.h3]; rfl
theorem v103_1r : val_main_v103 (F := Ideal) x0 x3 x5 (ix3 1 (tok d n i) h) = ((row x0 x1 x2 x3 x4 x5 d h n i).lb : EReal) := by
  rw [v103_1, v101_idx, H.h5]; rfl
theorem v103_2r : val_main_v103 (F := Ideal) x0 x3 x5 (ix3 2 (tok d n i) h) = ((row x0 x1 x2 x3 x4 x5 d h n i).lse : EReal) := by
  rw [v103_2, v102_idx, v99_row x1 x2 x3 x4 x5 d h n i H.h0]

omit H in
theorem v113_max (t : Fin 8192) : val_main_v113 (F := Ideal) x0 x3 x5 (ix2 t h) = val_main_v106 (F := Ideal) x0 x3 x5 (ix2 t h) := by
  rw [val_main_v113_apply, val_main_v112_apply]
  show max (Ideal.ofBits .f32 0xFF800000#32) _ = _
  rw [ofBits_neg_inf']
  exact max_eq_right bot_le

theorem v113_row : val_main_v113 (F := Ideal) x0 x3 x5 (ix2 (tok d n i) h) = ((row x0 x1 x2 x3 x4 x5 d h n i).mx : EReal) := by
  rw [row_mx, v113_max, v106_read, ofBits_neg_inf']
  have key : ∀ s : Fin 3, ∃ z : ℝ, val_main_v103 (F := Ideal) x0 x3 x5 (ix3 s (tok d n i) h) = (z : EReal) := fun s => by
    fin_cases s
    · exact ⟨_, v103_0r d h n i H⟩
    · exact ⟨_, v103_1r d h n i H⟩
    · exact ⟨_, v103_2r d h n i H⟩
  refine (fold_max_real _ (fun s => ?_) 0 ?_).1
  · obtain ⟨z, hz⟩ := key s
    rw [hz]; exact EReal.coe_ne_top _
  · obtain ⟨z, hz⟩ := key 0
    rw [hz]; exact EReal.coe_ne_bot _

theorem v126_0r : val_main_v126 (F := Ideal) x0 x3 x5 (ix3 0 (tok d n i) h) = ((row x0 x1 x2 x3 x4 x5 d h n i).ea : EReal) := by
  rw [val_main_v126_apply, val_main_v125_apply, v103_0r d h n i H, v124_idx, v113_row d h n i H]
  show Ideal.exp (((row x0 x1 x2 x3 x4 x5 d h n i).la : EReal) - ((row x0 x1 x2 x3 x4 x5 d h n i).mx : EReal)) = _
  rw [← EReal.coe_sub]; exact Ideal.exp_coe _
theorem v126_1r : val_main_v126 (F := Ideal) x0 x3 x5 (ix3 1 (tok d n i) h) = ((row x0 x1 x2 x3 x4 x5 d h n i).eb : EReal) := by
  rw [val_main_v126_apply, val_main_v125_apply, v103_1r d h n i H, v124_idx, v113_row d h n i H]
  show Ideal.exp (((row x0 x1 x2 x3 x4 x5 d h n i).lb : EReal) - ((row x0 x1 x2 x3 x4 x5 d h n i).mx : EReal)) = _
  rw [← EReal.coe_sub]; exact Ideal.exp_coe _
theorem v126_2r : val_main_v126 (F := Ideal) x0 x3 x5 (ix3 2 (tok d n i) h) = ((row x0 x1 x2 x3 x4 x5 d h n i).ec : EReal) := by
  rw [val_main_v126_apply, val_main_v125_apply, v103_2r d h n i H, v124_idx, v113_row d h n i H]
  show Ideal.exp (((row x0 x1 x2 x3 x4 x5 d h n i).lse : EReal) - ((row x0 x1 x2 x3 x4 x5 d h n i).mx : EReal)) = _
  rw [← EReal.coe_sub]; exact Ideal.exp_coe _
theorem v127_row : val_main_v127 (F := Ideal) x0 x3 x5 (ix2 (tok d n i) h) = ((row x0 x1 x2 x3 x4 x5 d h n i).den : EReal) := by
  rw [v127_read, Fin.sum_univ_three, v126_0r d h n i H, v126_1r d h n i H, v126_2r d h n i H, ← EReal.coe_add, ← EReal.coe_add]; rfl

theorem v130_row : val_main_v130 (F := Ideal) x0 x3 x5 (ix3 2 (tok d n i) h) = ((row x0 x1 x2 x3 x4 x5 d h n i).w : EReal) := by
  rw [val_main_v130_apply, v129_idx, v126_2r d h n i H, v127_row d h n i H]
  exact div_real _ _ (row x0 x1 x2 x3 x4 x5 d h n i).den_pos.ne'

theorem v133_row : val_main_v133 (F := Ideal) x0 x3 x5 (ix3 0 (tok d n i) h) = ((row x0 x1 x2 x3 x4 x5 d h n i).i2 : EReal) := by
  rw [val_main_v133_apply, val_main_v131_apply, val_main_v132_apply, v128_idx, v127_row d h n i H]
  show Ideal.div (Ideal.ofBits .f32 0x3F800000#32) (((row x0 x1 x2 x3 x4 x5 d h n i).den : EReal) * ((row x0 x1 x2 x3 x4 x5 d h n i).den : EReal)) = _
  rw [coe_one_f32, ← EReal.coe_mul, div_real _ _ (mul_pos (row x0 x1 x2 x3 x4 x5 d h n i).den_pos (row x0 x1 x2 x3 x4 x5 d h n i).den_pos).ne', one_mul]; rfl

theorem ct_row : val_main_v14 (F := Ideal) x1 (ix3 (tok d n i) h e) = ((row x0 x1 x2 x3 x4 x5 d h n i).ct e : EReal) := by
  rw [v14_apply, H.h1]; rfl

/-- The gradient of this group's output. -/
theorem v155_row : val_main_v155 (F := Ideal) x0 x1 x3 x5 (ix3 (tok d n i) h e) = (((row x0 x1 x2 x3 x4 x5 d h n i).w * (row x0 x1 x2 x3 x4 x5 d h n i).ct e : ℝ) : EReal) := by
  rw [v155_read, v154_idx, val_main_v146_apply, v145_idx, v144_idx, v130_row d h n i H, ct_row d h n i e H, EReal.coe_mul]; rfl

theorem v156_0r : val_main_v156 (F := Ideal) x0 x1 x2 x4 (ix3 0 (tok d n i) h) = ((row x0 x1 x2 x3 x4 x5 d h n i).ca : EReal) := by
  rw [v156_read, v149_read, v148_read]
  exact coe_sum_of_eq _ _ _ fun e => by
    rw [val_main_v147_apply, v144_idx, ct_row d h n i e H, v138_0, v135_idx, H.h2, EReal.coe_mul]; rfl
theorem v159_0r : val_main_v159 (F := Ideal) x0 x1 x2 x3 x4 x5 (ix3 0 (tok d n i) h) = (((row x0 x1 x2 x3 x4 x5 d h n i).ca * (row x0 x1 x2 x3 x4 x5 d h n i).i2 * (row x0 x1 x2 x3 x4 x5 d h n i).ea : ℝ) : EReal) := by
  rw [val_main_v159_apply, val_main_v158_apply, v156_0r d h n i H, v157_idx, v133_row d h n i H, v126_0r d h n i H, EReal.coe_mul, EReal.coe_mul]; rfl
theorem v156_1r : val_main_v156 (F := Ideal) x0 x1 x2 x4 (ix3 1 (tok d n i) h) = ((row x0 x1 x2 x3 x4 x5 d h n i).cb : EReal) := by
  rw [v156_read, v149_read, v148_read]
  exact coe_sum_of_eq _ _ _ fun e => by
    rw [val_main_v147_apply, v144_idx, ct_row d h n i e H, v138_1, v136_idx, H.h4, EReal.coe_mul]; rfl
theorem v159_1r : val_main_v159 (F := Ideal) x0 x1 x2 x3 x4 x5 (ix3 1 (tok d n i) h) = (((row x0 x1 x2 x3 x4 x5 d h n i).cb * (row x0 x1 x2 x3 x4 x5 d h n i).i2 * (row x0 x1 x2 x3 x4 x5 d h n i).eb : ℝ) : EReal) := by
  rw [val_main_v159_apply, val_main_v158_apply, v156_1r d h n i H, v157_idx, v133_row d h n i H, v126_1r d h n i H, EReal.coe_mul, EReal.coe_mul]; rfl
theorem v156_2r : val_main_v156 (F := Ideal) x0 x1 x2 x4 (ix3 2 (tok d n i) h) = ((row x0 x1 x2 x3 x4 x5 d h n i).cc : EReal) := by
  rw [v156_read, v149_read, v148_read]
  exact coe_sum_of_eq _ _ _ fun e => by
    rw [val_main_v147_apply, v144_idx, ct_row d h n i e H, v138_2, v137_idx, v96_row x1 x2 x3 x4 x5 d h n i e H.h0, EReal.coe_mul]; rfl
theorem v159_2r : val_main_v159 (F := Ideal) x0 x1 x2 x3 x4 x5 (ix3 2 (tok d n i) h) = (((row x0 x1 x2 x3 x4 x5 d h n i).cc * (row x0 x1 x2 x3 x4 x5 d h n i).i2 * (row x0 x1 x2 x3 x4 x5 d h n i).ec : ℝ) : EReal) := by
  rw [val_main_v159_apply, val_main_v158_apply, v156_2r d h n i H, v157_idx, v133_row d h n i H, v126_2r d h n i H, EReal.coe_mul, EReal.coe_mul]; rfl
/-- The gradient of this group's log-denominator. -/
theorem v174_row : val_main_v174 (F := Ideal) x0 x1 x2 x3 x4 x5 (ix2 (tok d n i) h) = ((row x0 x1 x2 x3 x4 x5 d h n i).gl : EReal) := by
  have a1 : val_main_v165 (F := Ideal) x0 x1 x2 x3 x4 x5 (ix2 (tok d n i) h)
      = ((-((row x0 x1 x2 x3 x4 x5 d h n i).ca * (row x0 x1 x2 x3 x4 x5 d h n i).i2 * (row x0 x1 x2 x3 x4 x5 d h n i).ea + (row x0 x1 x2 x3 x4 x5 d h n i).cb * (row x0 x1 x2 x3 x4 x5 d h n i).i2 * (row x0 x1 x2 x3 x4 x5 d h n i).eb + (row x0 x1 x2 x3 x4 x5 d h n i).cc * (row x0 x1 x2 x3 x4 x5 d h n i).i2 * (row x0 x1 x2 x3 x4 x5 d h n i).ec) : ℝ) : EReal) := by
    rw [v165_read, val_main_v162_apply, v161_read, v160_read, Fin.sum_univ_three, v159_0r d h n i H, v159_1r d h n i H, v159_2r d h n i H,
      ← EReal.coe_add, ← EReal.coe_add]
    rfl
  have a2 : val_main_v164 (F := Ideal) x0 x1 x2 x3 x4 x5 (ix3 2 (tok d n i) h) = (((row x0 x1 x2 x3 x4 x5 d h n i).cc * (1 / (row x0 x1 x2 x3 x4 x5 d h n i).den) : ℝ) : EReal) := by
    rw [val_main_v164_apply, v156_2r d h n i H, v163_idx, v127_row d h n i H]
    exact div_real _ _ (row x0 x1 x2 x3 x4 x5 d h n i).den_pos.ne'
  rw [v174_read, v173_idx, val_main_v168_apply, val_main_v167_apply, v126_2r d h n i H, v166_idx, a1, a2]
  show ((_ : EReal) + _) * _ = _
  rw [← EReal.coe_add, ← EReal.coe_mul]; rfl

end Cert.AttnGrad
-- ==== Proof.RefGrad.lean ====
/- The reference: the gradients of the scores, of the queries, of the keys and of the values, window by window. -/
module

public import proofs.«01_k».proof.Proof.RefMerge

@[expose] public section

set_option maxRecDepth 16384

noncomputable section

namespace Cert.AttnGrad

open Cert.ReferenceIdeal Cert.ReferenceIdeal.Gen Cert.ReferenceIdeal.Read Idealize.ShloMosaic

variable (x0 : FVec Ideal S10x8192x512 .bf16) (x1 : FVec Ideal S8192x1024 .bf16) (x2 : FVec Ideal S8192x8x64 .f32) (x3 : FVec Ideal S8192x8 .f32)
  (x4 : FVec Ideal S8192x8x64 .f32) (x5 : FVec Ideal S8192x8 .f32)

/-! The reading of each operation. -/

theorem v175_read (p : Fin 512) (d : Fin 16) (h : Fin 8) :
    val_main_v175 (F := Ideal) x0 x1 x2 x3 x4 x5 (ix3 p d h)
      = val_main_v174 (F := Ideal) x0 x1 x2 x3 x4 x5 (ix2 ⟨p.val * 16 + d.val, by omega⟩ h) := by
  pointwise [val_main_v175]

theorem v176_read (p : Fin 512) (d : Fin 16) (h : Fin 8) :
    val_main_v176 (F := Ideal) x0 x1 x2 x3 x4 x5 (ix3 d h p)
      = val_main_v175 (F := Ideal) x0 x1 x2 x3 x4 x5 (ix3 p d h) := by
  pointwise [val_main_v176]

theorem v177_read (d : Fin 16) (h : Fin 8) (n : Fin 4) (i : Fin 128) :
    val_main_v177 (F := Ideal) x0 x1 x2 x3 x4 x5 (ix4 d h n i)
      = val_main_v176 (F := Ideal) x0 x1 x2 x3 x4 x5 (ix3 d h (plc n i)) := by
  pointwise [val_main_v177]
  rfl

theorem v178_read (p : Fin 512) (d : Fin 16) (h : Fin 8) (e : Fin 64) :
    val_main_v178 (F := Ideal) x0 x1 x3 x5 (ix4 p d h e)
      = val_main_v155 (F := Ideal) x0 x1 x3 x5 (ix3 ⟨p.val * 16 + d.val, by omega⟩ h e) := by
  pointwise [val_main_v178]

theorem v179_read (p : Fin 512) (d : Fin 16) (h : Fin 8) (e : Fin 64) :
    val_main_v179 (F := Ideal) x0 x1 x3 x5 (ix4 d h p e)
      = val_main_v178 (F := Ideal) x0 x1 x3 x5 (ix4 p d h e) := by
  pointwise [val_main_v179]

theorem v180_read (d : Fin 16) (h : Fin 8) (n : Fin 4) (i : Fin 128) (e : Fin 64) :
    val_main_v180 (F := Ideal) x0 x1 x3 x5 (ix5 d h n i e)
      = val_main_v179 (F := Ideal) x0 x1 x3 x5 (ix4 d h (plc n i) e) := by
  pointwise [val_main_v180]
  rfl

theorem v181_idx (d : Fin 16) (h : Fin 8) (n : Fin 4) (i : Fin 128) :
    val_main_v181 (F := Ideal) x0 x1 x2 x3 x4 x5 (ix5 d h n i 0)
      = val_main_v177 (F := Ideal) x0 x1 x2 x3 x4 x5 (ix4 d h n i) := by
  rw [val_main_v181_apply]
  congr 1
  funext a
  match a with
  | ⟨0, _⟩ => rfl
  | ⟨1, _⟩ => rfl
  | ⟨2, _⟩ => rfl
  | ⟨3, _⟩ => rfl

theorem v183_read (d : Fin 16) (h : Fin 8) (n : Fin 4) (j : Fin 256) (e : Fin 64) :
    val_main_v183 (F := Ideal) x0 x1 x3 x5 (ix5 d h n e j)
      = ∑ i, val_main_v180 (F := Ideal) x0 x1 x3 x5 (ix5 d h n i e) * val_main_v86 (F := Ideal) x0 (ix5 d h n i j) := by
  pointwise [val_main_v183]

theorem v184_read (d : Fin 16) (h : Fin 8) (n : Fin 4) (j : Fin 256) (e : Fin 64) :
    val_main_v184 (F := Ideal) x0 x1 x3 x5 (ix5 d h n j e)
      = val_main_v183 (F := Ideal) x0 x1 x3 x5 (ix5 d h n e j) := by
  pointwise [val_main_v184]

theorem v185_read (d : Fin 16) (h : Fin 8) (n : Fin 4) (i : Fin 128) (j : Fin 256) :
    val_main_v185 (F := Ideal) x0 x1 x3 x5 (ix5 d h n i j)
      = ∑ e, val_main_v180 (F := Ideal) x0 x1 x3 x5 (ix5 d h n i e) * val_main_v38 (F := Ideal) x0 (ix5 d h n j e) := by
  pointwise [val_main_v185]

theorem v186_idx (d : Fin 16) (h : Fin 8) (n : Fin 4) (i : Fin 128) (j : Fin 256) :
    val_main_v186 (F := Ideal) x0 (ix5 d h n i j)
      = val_main_v89 (F := Ideal) x0 (ix5 d h n i 0) := by
  rw [val_main_v186_apply]
  congr 1
  funext a
  match a with
  | ⟨0, _⟩ => rfl
  | ⟨1, _⟩ => rfl
  | ⟨2, _⟩ => rfl
  | ⟨3, _⟩ => rfl
  | ⟨4, _⟩ => rfl

theorem v189_read (d : Fin 16) (h : Fin 8) (n : Fin 4) (i : Fin 128) :
    val_main_v189 (F := Ideal) x0 x1 x3 x5 (ix4 d h n i)
      = ∑ j, val_main_v188 (F := Ideal) x0 x1 x3 x5 (ix5 d h n i j) := by
  pointwise [val_main_v189, val_main_cst_36]

theorem v190_read (d : Fin 16) (h : Fin 8) (n : Fin 4) (i : Fin 128) :
    val_main_v190 (F := Ideal) x0 x1 x3 x5 (ix5 d h n i 0)
      = val_main_v189 (F := Ideal) x0 x1 x3 x5 (ix4 d h n i) := by
  pointwise [val_main_v190]

theorem v193_idx (d : Fin 16) (h : Fin 8) (n : Fin 4) (i : Fin 128) (j : Fin 256) :
    val_main_v193 (F := Ideal) x0 (ix5 d h n i j)
      = val_main_v84 (F := Ideal) x0 (ix5 d h n i 0) := by
  rw [val_main_v193_apply]
  congr 1
  funext a
  match a with
  | ⟨0, _⟩ => rfl
  | ⟨1, _⟩ => rfl
  | ⟨2, _⟩ => rfl
  | ⟨3, _⟩ => rfl
  | ⟨4, _⟩ => rfl

theorem v195_read (d : Fin 16) (h : Fin 8) (n : Fin 4) (i : Fin 128) :
    val_main_v195 (F := Ideal) x0 x1 x2 x3 x4 x5 (ix4 d h n i)
      = val_main_v192 (F := Ideal) x0 x1 x2 x3 x4 x5 (ix5 d h n i 0) := by
  pointwise [val_main_v195, val_main_cst_37]
  exact Fin.sum_univ_one _

theorem v196_idx (d : Fin 16) (h : Fin 8) (n : Fin 4) (i : Fin 128) (j : Fin 256) :
    val_main_v196 (F := Ideal) x0 x1 x2 x3 x4 x5 (ix5 d h n i j)
      = val_main_v195 (F := Ideal) x0 x1 x2 x3 x4 x5 (ix4 d h n i) := by
  rw [val_main_v196_apply]
  congr 1
  funext a
  match a with
  | ⟨0, _⟩ => rfl
  | ⟨1, _⟩ => rfl
  | ⟨2, _⟩ => rfl
  | ⟨3, _⟩ => rfl

theorem v200_read (d : Fin 16) (h : Fin 8) (n : Fin 4) (i : Fin 128) :
    val_main_v200 (F := Ideal) x0 x1 x2 x3 x4 x5 (ix4 d h n i)
      = ∑ j, val_main_v199 (F := Ideal) x0 x1 x2 x3 x4 x5 (ix5 d h n i j) := by
  pointwise [val_main_v200, val_main_cst_38]

theorem v201_read (d : Fin 16) (h : Fin 8) (n : Fin 4) (i : Fin 128) :
    val_main_v201 (F := Ideal) x0 x1 x2 x3 x4 x5 (ix5 d h n i 0)
      = val_main_v200 (F := Ideal) x0 x1 x2 x3 x4 x5 (ix4 d h n i) := by
  pointwise [val_main_v201]

theorem v203_read (d : Fin 16) (h : Fin 8) (n : Fin 4) (i : Fin 128) :
    val_main_v203 (F := Ideal) x0 x1 x2 x3 x4 x5 (ix4 d h n i)
      = val_main_v202 (F := Ideal) x0 x1 x2 x3 x4 x5 (ix5 d h n i 0) := by
  pointwise [val_main_v203, val_main_cst_39]
  exact Fin.sum_univ_one _

theorem v205_idx (d : Fin 16) (h : Fin 8) (n : Fin 4) (i : Fin 128) (j : Fin 256) :
    val_main_v205 (F := Ideal) x0 x1 x2 x3 x4 x5 (ix5 d h n i j)
      = val_main_v204 (F := Ideal) x0 x1 x2 x3 x4 x5 (ix4 d h n i) := by
  rw [val_main_v205_apply]
  congr 1
  funext a
  match a with
  | ⟨0, _⟩ => rfl
  | ⟨1, _⟩ => rfl
  | ⟨2, _⟩ => rfl
  | ⟨3, _⟩ => rfl

theorem v74_read (d : Fin 16) (h : Fin 8) (n : Fin 4) (i : Fin 128) :
    val_main_v74 (F := Ideal) x0 (ix5 d h n i 0)
      = val_main_v73 (F := Ideal) x0 (ix4 d h n i) := by
  pointwise [val_main_v74]

theorem v75_idx (d : Fin 16) (h : Fin 8) (n : Fin 4) (i : Fin 128) (j : Fin 256) :
    val_main_v75 (F := Ideal) x0 (ix5 d h n i j)
      = val_main_v74 (F := Ideal) x0 (ix5 d h n i 0) := by
  rw [val_main_v75_apply]
  congr 1
  funext a
  match a with
  | ⟨0, _⟩ => rfl
  | ⟨1, _⟩ => rfl
  | ⟨2, _⟩ => rfl
  | ⟨3, _⟩ => rfl
  | ⟨4, _⟩ => rfl

theorem v78_read (d : Fin 16) (h : Fin 8) (n : Fin 4) (i : Fin 128) :
    val_main_v78 (F := Ideal) x0 (ix4 d h n i)
      = ∑ j, val_main_v77 (F := Ideal) x0 (ix5 d h n i j) := by
  pointwise [val_main_v78, val_main_cst_14]

theorem v211_read (d : Fin 16) (h : Fin 8) (n : Fin 4) (j : Fin 256) (e : Fin 64) :
    val_main_v211 (F := Ideal) x0 x1 x2 x3 x4 x5 (ix5 d h n j e)
      = ∑ i, val_main_v210 (F := Ideal) x0 x1 x2 x3 x4 x5 (ix5 d h n i j) * val_main_v18 (F := Ideal) x0 (ix5 d h n i e) := by
  pointwise [val_main_v211]

theorem v212_read (d : Fin 16) (h : Fin 8) (n : Fin 4) (i : Fin 128) (e : Fin 64) :
    val_main_v212 (F := Ideal) x0 x1 x2 x3 x4 x5 (ix5 d h n i e)
      = ∑ j, val_main_v210 (F := Ideal) x0 x1 x2 x3 x4 x5 (ix5 d h n i j) * val_main_v28 (F := Ideal) x0 (ix5 d h n j e) := by
  pointwise [val_main_v212]

/-! The numbers. -/

variable (d : Fin 16) (h : Fin 8) (n : Fin 4) (i : Fin 128) (j : Fin 256) (e : Fin 64)
variable {x0 x1 x2 x3 x4 x5} (H : Reals x0 x1 x2 x3 x4 x5)

include H

theorem v177_row : val_main_v177 (F := Ideal) x0 x1 x2 x3 x4 x5 (ix4 d h n i) = (((row x0 x1 x2 x3 x4 x5 d h n i).gl : ℝ) : EReal) := by
  rw [v177_read, v176_read, v175_read]
  exact v174_row d h n i H

theorem v180_row : val_main_v180 (F := Ideal) x0 x1 x3 x5 (ix5 d h n i e) = (((row x0 x1 x2 x3 x4 x5 d h n i).w * (row x0 x1 x2 x3 x4 x5 d h n i).ct e : ℝ) : EReal) := by
  rw [v180_read, v179_read, v178_read]
  exact v155_row d h n i e H

theorem v182_row : val_main_v182 (F := Ideal) x0 x1 x2 x3 x4 x5 (ix5 d h n i 0) = (((row x0 x1 x2 x3 x4 x5 d h n i).gl * (1 / (row x0 x1 x2 x3 x4 x5 d h n i).D) : ℝ) : EReal) := by
  rw [val_main_v182_apply, v181_idx, v177_row d h n i H, v84_row x1 x2 x3 x4 x5 d h n i H.h0]
  exact div_real _ _ (D_ne _ _ _ _ _ _ _ _ _)

/-- The values' gradient, summed over one window's queries. -/
theorem v184_row : val_main_v184 (F := Ideal) x0 x1 x3 x5 (ix5 d h n j e) = ((∑ i, (row x0 x1 x2 x3 x4 x5 d h n i).w * (row x0 x1 x2 x3 x4 x5 d h n i).ct e * (row x0 x1 x2 x3 x4 x5 d h n i).P j : ℝ) : EReal) := by
  rw [v184_read, v183_read]
  exact coe_sum_of_eq _ _ _ fun i => by
    rw [v180_row d h n i e H, v86_row x1 x2 x3 x4 x5 d h n i j H.h0, ← EReal.coe_mul]

theorem v185_row : val_main_v185 (F := Ideal) x0 x1 x3 x5 (ix5 d h n i j) = ((row x0 x1 x2 x3 x4 x5 d h n i).X j : EReal) := by
  rw [v185_read]
  exact coe_sum_of_eq _ _ _ fun e => by
    rw [v180_row d h n i e H, v38_apply, kv_real d h n j e H.h0 8, ← EReal.coe_mul]; rfl

theorem v89_row : val_main_v89 (F := Ideal) x0 (ix5 d h n i 0) = ((1 / ((row x0 x1 x2 x3 x4 x5 d h n i).D * (row x0 x1 x2 x3 x4 x5 d h n i).D) : ℝ) : EReal) := by
  rw [val_main_v89_apply, val_main_v88_apply, val_main_v87_apply, v84_row x1 x2 x3 x4 x5 d h n i H.h0]
  show Ideal.div (Ideal.ofBits .f32 0x3F800000#32) (((row x0 x1 x2 x3 x4 x5 d h n i).D : EReal) * ((row x0 x1 x2 x3 x4 x5 d h n i).D : EReal)) = _
  rw [coe_one_f32, ← EReal.coe_mul, div_real _ _ (mul_self_ne_zero.mpr (D_ne _ _ _ _ _ _ _ _ _)), one_mul]

theorem v188_row : val_main_v188 (F := Ideal) x0 x1 x3 x5 (ix5 d h n i j) = (((row x0 x1 x2 x3 x4 x5 d h n i).X j * (1 / ((row x0 x1 x2 x3 x4 x5 d h n i).D * (row x0 x1 x2 x3 x4 x5 d h n i).D)) * (row x0 x1 x2 x3 x4 x5 d h n i).E j : ℝ) : EReal) := by
  rw [val_main_v188_apply, val_main_v187_apply, v185_row d h n i j H, v186_idx, v89_row d h n i H,
    v82_row x1 x2 x3 x4 x5 d h n i j H.h0, EReal.coe_mul, EReal.coe_mul]; rfl

theorem v192_row : val_main_v192 (F := Ideal) x0 x1 x2 x3 x4 x5 (ix5 d h n i 0)
    = (((row x0 x1 x2 x3 x4 x5 d h n i).gl * (1 / (row x0 x1 x2 x3 x4 x5 d h n i).D) + -∑ j', (row x0 x1 x2 x3 x4 x5 d h n i).X j' * (1 / ((row x0 x1 x2 x3 x4 x5 d h n i).D * (row x0 x1 x2 x3 x4 x5 d h n i).D)) * (row x0 x1 x2 x3 x4 x5 d h n i).E j' : ℝ) : EReal) := by
  have a : val_main_v189 (F := Ideal) x0 x1 x3 x5 (ix4 d h n i) = ((∑ j', (row x0 x1 x2 x3 x4 x5 d h n i).X j' * (1 / ((row x0 x1 x2 x3 x4 x5 d h n i).D * (row x0 x1 x2 x3 x4 x5 d h n i).D)) * (row x0 x1 x2 x3 x4 x5 d h n i).E j' : ℝ) : EReal) := by
    rw [v189_read]
    exact coe_sum_of_eq _ _ _ fun j' => v188_row d h n i j' H
  rw [val_main_v192_apply, v182_row d h n i H, val_main_v191_apply, v190_read, a]
  show (_ : EReal) + -(_ : EReal) = _
  rw [← EReal.coe_neg, ← EReal.coe_add]

theorem v198_row : val_main_v198 (F := Ideal) x0 x1 x2 x3 x4 x5 (ix5 d h n i j) = ((row x0 x1 x2 x3 x4 x5 d h n i).refDs j : EReal) := by
  have a : val_main_v194 (F := Ideal) x0 x1 x3 x5 (ix5 d h n i j) = (((row x0 x1 x2 x3 x4 x5 d h n i).X j * (1 / (row x0 x1 x2 x3 x4 x5 d h n i).D) : ℝ) : EReal) := by
    rw [val_main_v194_apply, v185_row d h n i j H, v193_idx, v84_row x1 x2 x3 x4 x5 d h n i H.h0]
    exact div_real _ _ (D_ne _ _ _ _ _ _ _ _ _)
  rw [val_main_v198_apply, val_main_v197_apply, a, v196_idx, v195_read, v192_row d h n i H,
    v82_row x1 x2 x3 x4 x5 d h n i j H.h0]
  show ((_ : EReal) + _) * _ = _
  rw [← EReal.coe_add, ← EReal.coe_mul]; rfl

/-- What flows back into the row's maximum adds up to zero. -/
theorem v203_row : val_main_v203 (F := Ideal) x0 x1 x2 x3 x4 x5 (ix4 d h n i) = 0 := by
  have a : val_main_v200 (F := Ideal) x0 x1 x2 x3 x4 x5 (ix4 d h n i) = ((∑ j, -(row x0 x1 x2 x3 x4 x5 d h n i).refDs j : ℝ) : EReal) := by
    rw [v200_read]
    exact coe_sum_of_eq _ _ _ fun j => by
      rw [val_main_v199_apply, v198_row d h n i j H, EReal.coe_neg]; rfl
  rw [v203_read, val_main_v202_apply, v181_idx, v177_row d h n i H, v201_read, a]
  show (_ : EReal) + _ = _
  rw [← EReal.coe_add, Row.gl_sub_sum _ (row_ok _ _ _ _ _ _ _ _ _ _), EReal.coe_zero]

omit H in
theorem v77_real : ∃ c : ℝ, 0 ≤ c ∧ val_main_v77 (F := Ideal) x0 (ix5 d h n i j) = (c : EReal)
    ∧ (val_main_v72_0 (F := Ideal) x0 (ix5 d h n i j) = val_main_v73 (F := Ideal) x0 (ix4 d h n i) → c = 1) := by
  rw [val_main_v77_apply, val_main_v76_apply, v75_idx, v74_read]
  show ∃ c : ℝ, 0 ≤ c ∧ (((BitVec.ofBool (decide (val_main_v72_0 (F := Ideal) x0 (ix5 d h n i j) = val_main_v73 (F := Ideal) x0 (ix4 d h n i)))).toNat : ℝ) : EReal) = (c : EReal) ∧ _
  refine ⟨_, Nat.cast_nonneg _, rfl, fun h => ?_⟩
  rw [decide_eq_true h]; simp

theorem v78_row : ∃ c : ℝ, c ≠ 0 ∧ val_main_v78 (F := Ideal) x0 (ix4 d h n i) = (c : EReal) := by
  obtain ⟨j0, hj0⟩ := (v73_row x1 x2 x3 x4 x5 d h n i H.h0).2
  choose c hc he h1 using fun j => v77_real (x0 := x0) d h n i j
  refine ⟨∑ j, c j, (Finset.sum_pos' (fun j _ => hc j) ⟨j0, Finset.mem_univ _, by rw [h1 j0 hj0]; exact one_pos⟩).ne', ?_⟩
  rw [v78_read]
  exact coe_sum_of_eq _ _ _ he

theorem v206_row : val_main_v206 (F := Ideal) x0 x1 x2 x3 x4 x5 (ix5 d h n i j) = 0 := by
  obtain ⟨c, hc, e1⟩ := v78_row d h n i H
  obtain ⟨c', -, e2, -⟩ := v77_real (x0 := x0) d h n i j
  have a : val_main_v204 (F := Ideal) x0 x1 x2 x3 x4 x5 (ix4 d h n i) = ((0 : ℝ) : EReal) := by
    rw [val_main_v204_apply, v203_row d h n i H, e1, ← EReal.coe_zero]
    exact (div_real 0 c hc).trans (by rw [zero_mul])
  rw [val_main_v206_apply, v205_idx, a, e2]
  show (_ : EReal) * _ = _
  rw [← EReal.coe_mul, zero_mul, EReal.coe_zero]

/-- The gradient of a score. -/
theorem v208_row : val_main_v208 (F := Ideal) x0 x1 x2 x3 x4 x5 (ix5 d h n i j) = ((row x0 x1 x2 x3 x4 x5 d h n i).ds j : EReal) := by
  have z : val_main_call4_v0 (F := Ideal) (ix5 d h n i j) = ((0 : ℝ) : EReal) := by
    rw [val_main_call4_v0_apply]
    exact Ideal.ofBits_zero_f32
  have a : val_main_v207 (F := Ideal) x0 x1 x2 x3 x4 x5 (ix5 d h n i j) = ((row x0 x1 x2 x3 x4 x5 d h n i).ds j : EReal) := by
    rw [val_main_v207_apply, v198_row d h n i j H, v206_row d h n i j H, Row.refDs_eq _ (row_ok _ _ _ _ _ _ _ _ _ _)]
    exact add_zero _
  rw [val_main_v208_apply, v72_1_apply, select_ofBool, a, z]
  cases hb : band n i j with
  | true => rfl
  | false =>
    have hk : (row x0 x1 x2 x3 x4 x5 d h n i).ok j = false := hb
    rw [Row.ds_of_not_ok _ _ hk]; rfl

theorem v210_row : val_main_v210 (F := Ideal) x0 x1 x2 x3 x4 x5 (ix5 d h n i j) = (((row x0 x1 x2 x3 x4 x5 d h n i).ds j * (1 / 8) : ℝ) : EReal) := by
  have z : val_main_v209 (F := Ideal) (ix5 d h n i j) = ((1 / 8 : ℝ) : EReal) := by
    rw [val_main_v209_apply]
    exact ofBits_eighth'
  rw [val_main_v210_apply, v208_row d h n i j H, z, EReal.coe_mul]; rfl

/-- The keys' gradient, summed over one window's queries. -/
theorem v211_row : val_main_v211 (F := Ideal) x0 x1 x2 x3 x4 x5 (ix5 d h n j e) = ((∑ i, (row x0 x1 x2 x3 x4 x5 d h n i).ds j * (1 / 8) * (row x0 x1 x2 x3 x4 x5 d h n i).q e : ℝ) : EReal) := by
  rw [v211_read]
  exact coe_sum_of_eq _ _ _ fun i => by
    rw [v210_row d h n i j H, v18_apply, H.h0 (ix3 2 _ _), EReal.coe_mul]; rfl

/-- The queries' gradient. -/
theorem v212_row : val_main_v212 (F := Ideal) x0 x1 x2 x3 x4 x5 (ix5 d h n i e) = ((∑ j, (row x0 x1 x2 x3 x4 x5 d h n i).ds j * (1 / 8) * (row x0 x1 x2 x3 x4 x5 d h n i).k j e : ℝ) : EReal) := by
  rw [v212_read]
  exact coe_sum_of_eq _ _ _ fun j => by
    rw [v210_row d h n i j H, v28_apply, kv_real d h n j e H.h0 5, EReal.coe_mul]; rfl

end Cert.AttnGrad
-- ==== Proof.RefOut.lean ====
/- The reference: the windows' gradients added up token by token, and the order of the result. -/
module

public import proofs.«01_k».proof.Proof.RefGrad

@[expose] public section

set_option maxRecDepth 16384

noncomputable section

namespace Cert.AttnGrad

open Cert.ReferenceIdeal Cert.ReferenceIdeal.Gen Cert.ReferenceIdeal.Read Idealize.ShloMosaic

variable (x0 : FVec Ideal S10x8192x512 .bf16) (x1 : FVec Ideal S8192x1024 .bf16) (x2 : FVec Ideal S8192x8x64 .f32) (x3 : FVec Ideal S8192x8 .f32)
  (x4 : FVec Ideal S8192x8x64 .f32) (x5 : FVec Ideal S8192x8 .f32)

/-- Position `i` of the first and of the second half of a window. -/
def lo (i : Fin 128) : Fin 256 := ⟨i.val, by omega⟩
def hi (i : Fin 128) : Fin 256 := ⟨128 + i.val, by omega⟩
/-- Where head `h`'s number `e` of phase `d` stands in a row of the result. -/
def ln (d : Fin 16) (h : Fin 8) (e : Fin 64) : Fin 8192 := ⟨d.val * 512 + h.val * 64 + e.val, by omega⟩
/-- A token's share of two windows: the second half of its own block's window and the first half of the next block's. -/
def addNext (G : Fin 4 → Fin 256 → ℝ) (n : Fin 4) (i : Fin 128) : ℝ :=
  G n (hi i) + if hn : n.val + 1 < 4 then G ⟨n.val + 1, hn⟩ (lo i) else 0

theorem v213_idx (d : Fin 16) (h : Fin 8) (n : Fin 4) (i : Fin 128) (e : Fin 64) :
    val_main_v213 (F := Ideal) x0 x1 x3 x5 (ix5 d h n i e)
      = val_main_v184 (F := Ideal) x0 x1 x3 x5 (ix5 d h n (lo i) e) := by
  rw [val_main_v213_apply]
  congr 1
  funext a
  match a with
  | ⟨0, _⟩ => rfl
  | ⟨1, _⟩ => rfl
  | ⟨2, _⟩ => rfl
  | ⟨3, _⟩ => rfl
  | ⟨4, _⟩ => rfl

theorem v214_idx (d : Fin 16) (h : Fin 8) (n : Fin 4) (i : Fin 128) (e : Fin 64) :
    val_main_v214 (F := Ideal) x0 x1 x3 x5 (ix5 d h n i e)
      = val_main_v184 (F := Ideal) x0 x1 x3 x5 (ix5 d h n (hi i) e) := by
  rw [val_main_v214_apply]
  congr 1
  funext a
  match a with
  | ⟨0, _⟩ => rfl
  | ⟨1, _⟩ => rfl
  | ⟨2, _⟩ => rfl
  | ⟨3, _⟩ => rfl
  | ⟨4, _⟩ => rfl

theorem v215_read (d : Fin 16) (h : Fin 8) (m : Fin 5) (i : Fin 128) (e : Fin 64) :
    val_main_v215 (F := Ideal) x0 x1 x3 x5 (ix5 d h m i e)
      = if hm : 1 ≤ m.val ∧ m.val - 1 < 4 then val_main_v214 (F := Ideal) x0 x1 x3 x5 (ix5 d h ⟨m.val - 1, hm.2⟩ i e) else 0 := by
  pointwise [val_main_v215, val_main_cst_41]

theorem v216_read (d : Fin 16) (h : Fin 8) (m : Fin 5) (i : Fin 128) (e : Fin 64) :
    val_main_v216 (F := Ideal) x0 x1 x3 x5 (ix5 d h m i e)
      = if hm : m.val < 4 then val_main_v213 (F := Ideal) x0 x1 x3 x5 (ix5 d h ⟨m.val, hm⟩ i e) else 0 := by
  pointwise [val_main_v216, val_main_cst_42]

theorem v218_read (d : Fin 16) (h : Fin 8) (p : Fin 640) (e : Fin 64) :
    val_main_v218 (F := Ideal) x0 x1 x3 x5 (ix4 d h p e)
      = val_main_v217 (F := Ideal) x0 x1 x3 x5 (ix5 d h ⟨p.val / 128, by omega⟩ ⟨p.val % 128, by omega⟩ e) := by
  pointwise [val_main_v218]

theorem v220_read (d : Fin 16) (h : Fin 8) (p : Fin 512) (e : Fin 64) :
    val_main_v220 (F := Ideal) x0 x1 x3 x5 (ix4 d h p e)
      = val_main_v218 (F := Ideal) x0 x1 x3 x5 (ix4 d h ⟨128 + p.val, by omega⟩ e) := by
  pointwise [val_main_v220]

theorem v221_read (d : Fin 16) (h : Fin 8) (p : Fin 512) (e : Fin 64) :
    val_main_v221 (F := Ideal) x0 x1 x3 x5 (ix4 d h p e)
      = val_main_v220 (F := Ideal) x0 x1 x3 x5 (ix4 d h p e) := by
  have a1 : val_main_call5_v0 (F := Ideal) x0 x1 x3 x5 (ix4 d h p e) = val_main_v220 (F := Ideal) x0 x1 x3 x5 (ix4 d h p e) := by
    pointwise [val_main_call5_v0]
  rw [← a1]
  pointwise [val_main_v221]

theorem v222_read (d : Fin 16) (h : Fin 8) (p : Fin 512) (e : Fin 64) :
    val_main_v222 (F := Ideal) x0 x1 x3 x5 (ix4 p d h e)
      = val_main_v221 (F := Ideal) x0 x1 x3 x5 (ix4 d h p e) := by
  pointwise [val_main_v222]

theorem v223_read (t : Fin 8192) (h : Fin 8) (e : Fin 64) :
    val_main_v223 (F := Ideal) x0 x1 x3 x5 (ix3 t h e)
      = val_main_v222 (F := Ideal) x0 x1 x3 x5 (ix4 ⟨t.val / 16, by omega⟩ ⟨t.val % 16, by omega⟩ h e) := by
  pointwise [val_main_v223]

theorem v224_idx (d : Fin 16) (h : Fin 8) (n : Fin 4) (i : Fin 128) (e : Fin 64) :
    val_main_v224 (F := Ideal) x0 x1 x2 x3 x4 x5 (ix5 d h n i e)
      = val_main_v211 (F := Ideal) x0 x1 x2 x3 x4 x5 (ix5 d h n (lo i) e) := by
  rw [val_main_v224_apply]
  congr 1
  funext a
  match a with
  | ⟨0, _⟩ => rfl
  | ⟨1, _⟩ => rfl
  | ⟨2, _⟩ => rfl
  | ⟨3, _⟩ => rfl
  | ⟨4, _⟩ => rfl

theorem v225_idx (d : Fin 16) (h : Fin 8) (n : Fin 4) (i : Fin 128) (e : Fin 64) :
    val_main_v225 (F := Ideal) x0 x1 x2 x3 x4 x5 (ix5 d h n i e)
      = val_main_v211 (F := Ideal) x0 x1 x2 x3 x4 x5 (ix5 d h n (hi i) e) := by
  rw [val_main_v225_apply]
  congr 1
  funext a
  match a with
  | ⟨0, _⟩ => rfl
  | ⟨1, _⟩ => rfl
  | ⟨2, _⟩ => rfl
  | ⟨3, _⟩ => rfl
  | ⟨4, _⟩ => rfl

theorem v226_read (d : Fin 16) (h : Fin 8) (m : Fin 5) (i : Fin 128) (e : Fin 64) :
    val_main_v226 (F := Ideal) x0 x1 x2 x3 x4 x5 (ix5 d h m i e)
      = if hm : 1 ≤ m.val ∧ m.val - 1 < 4 then val_main_v225 (F := Ideal) x0 x1 x2 x3 x4 x5 (ix5 d h ⟨m.val - 1, hm.2⟩ i e) else 0 := by
  pointwise [val_main_v226, val_main_cst_43]

theorem v227_read (d : Fin 16) (h : Fin 8) (m : Fin 5) (i : Fin 128) (e : Fin 64) :
    val_main_v227 (F := Ideal) x0 x1 x2 x3 x4 x5 (ix5 d h m i e)
      = if hm : m.val < 4 then val_main_v224 (F := Ideal) x0 x1 x2 x3 x4 x5 (ix5 d h ⟨m.val, hm⟩ i e) else 0 := by
  pointwise [val_main_v227, val_main_cst_44]

theorem v229_read (d : Fin 16) (h : Fin 8) (p : Fin 640) (e : Fin 64) :
    val_main_v229 (F := Ideal) x0 x1 x2 x3 x4 x5 (ix4 d h p e)
      = val_main_v228 (F := Ideal) x0 x1 x2 x3 x4 x5 (ix5 d h ⟨p.val / 128, by omega⟩ ⟨p.val % 128, by omega⟩ e) := by
  pointwise [val_main_v229]

theorem v231_read (d : Fin 16) (h : Fin 8) (p : Fin 512) (e : Fin 64) :
    val_main_v231 (F := Ideal) x0 x1 x2 x3 x4 x5 (ix4 d h p e)
      = val_main_v229 (F := Ideal) x0 x1 x2 x3 x4 x5 (ix4 d h ⟨128 + p.val, by omega⟩ e) := by
  pointwise [val_main_v231]

theorem v232_read (d : Fin 16) (h : Fin 8) (p : Fin 512) (e : Fin 64) :
    val_main_v232 (F := Ideal) x0 x1 x2 x3 x4 x5 (ix4 d h p e)
      = val_main_v231 (F := Ideal) x0 x1 x2 x3 x4 x5 (ix4 d h p e) := by
  have a1 : val_main_call6_v0 (F := Ideal) x0 x1 x2 x3 x4 x5 (ix4 d h p e) = val_main_v231 (F := Ideal) x0 x1 x2 x3 x4 x5 (ix4 d h p e) := by
    pointwise [val_main_call6_v0]
  rw [← a1]
  pointwise [val_main_v232]

theorem v233_read (d : Fin 16) (h : Fin 8) (p : Fin 512) (e : Fin 64) :
    val_main_v233 (F := Ideal) x0 x1 x2 x3 x4 x5 (ix4 p d h e)
      = val_main_v232 (F := Ideal) x0 x1 x2 x3 x4 x5 (ix4 d h p e) := by
  pointwise [val_main_v233]

theorem v234_read (t : Fin 8192) (h : Fin 8) (e : Fin 64) :
    val_main_v234 (F := Ideal) x0 x1 x2 x3 x4 x5 (ix3 t h e)
      = val_main_v233 (F := Ideal) x0 x1 x2 x3 x4 x5 (ix4 ⟨t.val / 16, by omega⟩ ⟨t.val % 16, by omega⟩ h e) := by
  pointwise [val_main_v234]

theorem v235_read (d : Fin 16) (h : Fin 8) (p : Fin 512) (e : Fin 64) :
    val_main_v235 (F := Ideal) x0 x1 x2 x3 x4 x5 (ix4 d h p e)
      = val_main_v212 (F := Ideal) x0 x1 x2 x3 x4 x5 (ix5 d h ⟨p.val / 128, by omega⟩ ⟨p.val % 128, by omega⟩ e) := by
  pointwise [val_main_v235]

theorem v236_read (d : Fin 16) (h : Fin 8) (p : Fin 512) (e : Fin 64) :
    val_main_v236 (F := Ideal) x0 x1 x2 x3 x4 x5 (ix4 d h p e)
      = val_main_v235 (F := Ideal) x0 x1 x2 x3 x4 x5 (ix4 d h p e) := by
  have a1 : val_main_call7_v0 (F := Ideal) x0 x1 x2 x3 x4 x5 (ix4 d h p e) = val_main_v235 (F := Ideal) x0 x1 x2 x3 x4 x5 (ix4 d h p e) := by
    pointwise [val_main_call7_v0]
  rw [← a1]
  pointwise [val_main_v236]

theorem v237_read (d : Fin 16) (h : Fin 8) (p : Fin 512) (e : Fin 64) :
    val_main_v237 (F := Ideal) x0 x1 x2 x3 x4 x5 (ix4 p d h e)
      = val_main_v236 (F := Ideal) x0 x1 x2 x3 x4 x5 (ix4 d h p e) := by
  pointwise [val_main_v237]

theorem v238_read (t : Fin 8192) (h : Fin 8) (e : Fin 64) :
    val_main_v238 (F := Ideal) x0 x1 x2 x3 x4 x5 (ix3 t h e)
      = val_main_v237 (F := Ideal) x0 x1 x2 x3 x4 x5 (ix4 ⟨t.val / 16, by omega⟩ ⟨t.val % 16, by omega⟩ h e) := by
  pointwise [val_main_v238]

theorem v239_idx (t : Fin 8192) (h : Fin 8) (e : Fin 64) :
    val_main_v239 (F := Ideal) x0 x1 x2 x3 x4 x5 (ix4 0 t h e)
      = val_main_v238 (F := Ideal) x0 x1 x2 x3 x4 x5 (ix3 t h e) := by
  rw [val_main_v239_apply]
  congr 1
  funext a
  match a with
  | ⟨0, _⟩ => rfl
  | ⟨1, _⟩ => rfl
  | ⟨2, _⟩ => rfl

theorem v240_idx (t : Fin 8192) (h : Fin 8) (e : Fin 64) :
    val_main_v240 (F := Ideal) x0 x1 x2 x3 x4 x5 (ix4 0 t h e)
      = val_main_v234 (F := Ideal) x0 x1 x2 x3 x4 x5 (ix3 t h e) := by
  rw [val_main_v240_apply]
  congr 1
  funext a
  match a with
  | ⟨0, _⟩ => rfl
  | ⟨1, _⟩ => rfl
  | ⟨2, _⟩ => rfl

theorem v241_idx (t : Fin 8192) (h : Fin 8) (e : Fin 64) :
    val_main_v241 (F := Ideal) x0 x1 x3 x5 (ix4 0 t h e)
      = val_main_v223 (F := Ideal) x0 x1 x3 x5 (ix3 t h e) := by
  rw [val_main_v241_apply]
  congr 1
  funext a
  match a with
  | ⟨0, _⟩ => rfl
  | ⟨1, _⟩ => rfl
  | ⟨2, _⟩ => rfl

theorem v242_0 (t : Fin 8192) (h : Fin 8) (e : Fin 64) :
    val_main_v242 (F := Ideal) x0 x1 x2 x3 x4 x5 (ix4 0 t h e)
      = val_main_v239 (F := Ideal) x0 x1 x2 x3 x4 x5 (ix4 0 t h e) := by
  pointwise [val_main_v242]

theorem v242_1 (t : Fin 8192) (h : Fin 8) (e : Fin 64) :
    val_main_v242 (F := Ideal) x0 x1 x2 x3 x4 x5 (ix4 1 t h e)
      = val_main_v240 (F := Ideal) x0 x1 x2 x3 x4 x5 (ix4 0 t h e) := by
  pointwise [val_main_v242]

theorem v242_2 (t : Fin 8192) (h : Fin 8) (e : Fin 64) :
    val_main_v242 (F := Ideal) x0 x1 x2 x3 x4 x5 (ix4 2 t h e)
      = val_main_v241 (F := Ideal) x0 x1 x3 x5 (ix4 0 t h e) := by
  pointwise [val_main_v242]

theorem v244_read (s : Fin 3) (d : Fin 16) (h : Fin 8) (n : Fin 4) (i : Fin 128) (e : Fin 64) :
    val_main_v244 (F := Ideal) x0 x1 x2 x3 x4 x5 (ix3 s (plc n i) (ln d h e))
      = val_main_v242 (F := Ideal) x0 x1 x2 x3 x4 x5 (ix4 s (tok d n i) h e) := by
  rw [val_main_v244_apply]
  show val_main_v243 (F := Ideal) x0 x1 x2 x3 x4 x5 (ix3 s (plc n i) (ln d h e)) = _
  rw [val_main_v243_apply]
  congr 1
  funext a
  match a with
  | ⟨0, _⟩ => exact Fin.ext (by
      show ((s.val * 512 + (n.val * 128 + i.val)) * 8192 + (d.val * 512 + h.val * 64 + e.val)) / 4194304 = s.val
      omega)
  | ⟨1, _⟩ => exact Fin.ext (by
      show ((s.val * 512 + (n.val * 128 + i.val)) * 8192 + (d.val * 512 + h.val * 64 + e.val)) / 512 % 8192 = (n.val * 128 + i.val) * 16 + d.val
      omega)
  | ⟨2, _⟩ => exact Fin.ext (by
      show ((s.val * 512 + (n.val * 128 + i.val)) * 8192 + (d.val * 512 + h.val * 64 + e.val)) / 64 % 8 = h.val
      omega)
  | ⟨3, _⟩ => exact Fin.ext (by
      show ((s.val * 512 + (n.val * 128 + i.val)) * 8192 + (d.val * 512 + h.val * 64 + e.val)) % 64 = e.val
      omega)

theorem plc_div (n : Fin 4) (i : Fin 128) : (⟨(plc n i).val / 128, by omega⟩ : Fin 4) = n := Fin.ext (by simp only [plc]; omega)
theorem plc_mod (n : Fin 4) (i : Fin 128) : (⟨(plc n i).val % 128, by omega⟩ : Fin 128) = i := Fin.ext (by simp only [plc]; omega)
theorem plc_div' (n : Fin 4) (i : Fin 128) : (⟨(128 + (plc n i).val) / 128, by omega⟩ : Fin 5) = ⟨n.val + 1, by omega⟩ := Fin.ext (by simp only [plc]; omega)
theorem plc_mod' (n : Fin 4) (i : Fin 128) : (⟨(128 + (plc n i).val) % 128, by omega⟩ : Fin 128) = i := Fin.ext (by simp only [plc]; omega)

variable (d : Fin 16) (h : Fin 8) (n : Fin 4) (i : Fin 128) (e : Fin 64)

/-- A window's sums for its values and for its keys. -/
def refDv (n : Fin 4) (j : Fin 256) : ℝ := ∑ i, (row x0 x1 x2 x3 x4 x5 d h n i).w * (row x0 x1 x2 x3 x4 x5 d h n i).ct e * (row x0 x1 x2 x3 x4 x5 d h n i).P j
def refDk (n : Fin 4) (j : Fin 256) : ℝ := ∑ i, (row x0 x1 x2 x3 x4 x5 d h n i).ds j * (1 / 8) * (row x0 x1 x2 x3 x4 x5 d h n i).q e
def refDq : ℝ := ∑ j, (row x0 x1 x2 x3 x4 x5 d h n i).ds j * (1 / 8) * (row x0 x1 x2 x3 x4 x5 d h n i).k j e

variable {x0 x1 x2 x3 x4 x5} (H : Reals x0 x1 x2 x3 x4 x5)

include H

theorem v223_row : val_main_v223 (F := Ideal) x0 x1 x3 x5 (ix3 (tok d n i) h e) = ((addNext (refDv x0 x1 x2 x3 x4 x5 d h e) n i : ℝ) : EReal) := by
  have a1 : val_main_v215 (F := Ideal) x0 x1 x3 x5 (ix5 d h ⟨n.val + 1, by omega⟩ i e) = ((refDv x0 x1 x2 x3 x4 x5 d h e n (hi i) : ℝ) : EReal) := by
    rw [v215_read, dif_pos (show 1 ≤ n.val + 1 ∧ n.val + 1 - 1 < 4 by omega), v214_idx]
    exact v184_row d h n (hi i) e H
  have a2 : val_main_v216 (F := Ideal) x0 x1 x3 x5 (ix5 d h ⟨n.val + 1, by omega⟩ i e)
      = ((if hn : n.val + 1 < 4 then refDv x0 x1 x2 x3 x4 x5 d h e ⟨n.val + 1, hn⟩ (lo i) else 0 : ℝ) : EReal) := by
    rw [v216_read]
    by_cases hn : n.val + 1 < 4
    · rw [dif_pos hn, dif_pos hn, v213_idx]
      exact v184_row d h ⟨n.val + 1, hn⟩ (lo i) e H
    · rw [dif_neg hn, dif_neg hn, EReal.coe_zero]
  rw [v223_read, tok_div, tok_mod, v222_read, v221_read, v220_read, v218_read, plc_div', plc_mod', val_main_v217_apply, a1, a2]
  exact (EReal.coe_add _ _).symm

theorem v234_row : val_main_v234 (F := Ideal) x0 x1 x2 x3 x4 x5 (ix3 (tok d n i) h e) = ((addNext (refDk x0 x1 x2 x3 x4 x5 d h e) n i : ℝ) : EReal) := by
  have a1 : val_main_v226 (F := Ideal) x0 x1 x2 x3 x4 x5 (ix5 d h ⟨n.val + 1, by omega⟩ i e) = ((refDk x0 x1 x2 x3 x4 x5 d h e n (hi i) : ℝ) : EReal) := by
    rw [v226_read, dif_pos (show 1 ≤ n.val + 1 ∧ n.val + 1 - 1 < 4 by omega), v225_idx]
    exact v211_row d h n (hi i) e H
  have a2 : val_main_v227 (F := Ideal) x0 x1 x2 x3 x4 x5 (ix5 d h ⟨n.val + 1, by omega⟩ i e)
      = ((if hn : n.val + 1 < 4 then refDk x0 x1 x2 x3 x4 x5 d h e ⟨n.val + 1, hn⟩ (lo i) else 0 : ℝ) : EReal) := by
    rw [v227_read]
    by_cases hn : n.val + 1 < 4
    · rw [dif_pos hn, dif_pos hn, v224_idx]
      exact v211_row d h ⟨n.val + 1, hn⟩ (lo i) e H
    · rw [dif_neg hn, dif_neg hn, EReal.coe_zero]
  rw [v234_read, tok_div, tok_mod, v233_read, v232_read, v231_read, v229_read, plc_div', plc_mod', val_main_v228_apply, a1, a2]
  exact (EReal.coe_add _ _).symm

theorem v238_row : val_main_v238 (F := Ideal) x0 x1 x2 x3 x4 x5 (ix3 (tok d n i) h e) = ((refDq x0 x1 x2 x3 x4 x5 d h n i e : ℝ) : EReal) := by
  rw [v238_read, tok_div, tok_mod, v237_read, v236_read, v235_read, plc_div, plc_mod]
  exact v212_row d h n i e H

/-- The reference's three results: the gradients of the queries, of the keys and of the values. -/
theorem ref_dq : val_main_v244 (F := Ideal) x0 x1 x2 x3 x4 x5 (ix3 0 (plc n i) (ln d h e)) = ((refDq x0 x1 x2 x3 x4 x5 d h n i e : ℝ) : EReal) := by
  rw [v244_read, v242_0, v239_idx, v238_row d h n i e H]

theorem ref_dk : val_main_v244 (F := Ideal) x0 x1 x2 x3 x4 x5 (ix3 1 (plc n i) (ln d h e)) = ((addNext (refDk x0 x1 x2 x3 x4 x5 d h e) n i : ℝ) : EReal) := by
  rw [v244_read, v242_1, v240_idx, v234_row d h n i e H]

theorem ref_dv : val_main_v244 (F := Ideal) x0 x1 x2 x3 x4 x5 (ix3 2 (plc n i) (ln d h e)) = ((addNext (refDv x0 x1 x2 x3 x4 x5 d h e) n i : ℝ) : EReal) := by
  rw [v244_read, v242_2, v241_idx, v223_row d h n i e H]

end Cert.AttnGrad
-- ==== Proof.HostRow.lean ====
/- The kernel's four argument arrays at an index, as the numbers of the rows. -/
module

public import proofs.«01_k».proof.Proof.HostRead
public import proofs.«01_k».proof.Proof.RefOut
public import Idealize.ShloMosaic.Lib.Pointwise

@[expose] public section

set_option maxRecDepth 16384

noncomputable section

namespace Cert.AttnGrad

open Cert.KernelIdeal Cert.KernelIdeal.Gen Idealize.ShloMosaic Idealize.ShloMosaic.TcCoe Idealize.SL.Sem

theorem fold_max_three (f : Fin 3 → EReal) : Finset.univ.fold max ⊥ f = max (max (f 0) (f 1)) (f 2) := by
  apply le_antisymm
  · refine (Finset.fold_max_le _).2 ⟨bot_le, fun s _ => ?_⟩
    fin_cases s
    · exact le_max_of_le_left (le_max_left _ _)
    · exact le_max_of_le_left (le_max_right _ _)
    · exact le_max_right _ _
  · exact max_le (max_le (le_fold_max' f 0) (le_fold_max' f 1)) (le_fold_max' f 2)

section Merge

variable {x2 : FVec Ideal S8192x8x64 .f32} {x3 : FVec Ideal S8192x8 .f32} {x4 : FVec Ideal S8192x8x64 .f32} {x5 : FVec Ideal S8192x8 .f32}
  {xe : FVec Ideal S8192x8 .f32} {xo : FVec Ideal S8192x8x64 .f32}
variable {t : Fin 8192} {h : Fin 8} (e : Fin 64) {r : Row}

theorem kMx_row (ha : x3 (ix2 t h) = (r.la : EReal)) (hb : x5 (ix2 t h) = (r.lb : EReal)) (hc : xe (ix2 t h) = (r.lse : EReal))
    (hm : (r.mx : EReal) = max (max (r.la : EReal) (r.lb : EReal)) (r.lse : EReal)) : kMx xe x3 x5 (ix2 t h) = (r.mx : EReal) := by
  show max (max (x3 (ix2 t h)) (x5 (ix2 t h))) (xe (ix2 t h)) = _
  rw [ha, hb, hc, hm]

section
variable (ha : x3 (ix2 t h) = (r.la : EReal)) (hb : x5 (ix2 t h) = (r.lb : EReal)) (hc : xe (ix2 t h) = (r.lse : EReal))
  (hM : kMx xe x3 x5 (ix2 t h) = (r.mx : EReal))
include hM

include ha in
theorem kEa_row : kEa xe x3 x5 (ix2 t h) = (r.ea : EReal) := by
  show Ideal.exp (x3 (ix2 t h) - kMx xe x3 x5 (ix2 t h)) = _
  rw [hM, ha, ← EReal.coe_sub]
  exact Ideal.exp_coe _
include hb in
theorem kEb_row : kEb xe x3 x5 (ix2 t h) = (r.eb : EReal) := by
  show Ideal.exp (x5 (ix2 t h) - kMx xe x3 x5 (ix2 t h)) = _
  rw [hM, hb, ← EReal.coe_sub]
  exact Ideal.exp_coe _
include hc in
theorem kEc_row : kEc xe x3 x5 (ix2 t h) = (r.ec : EReal) := by
  show Ideal.exp (xe (ix2 t h) - kMx xe x3 x5 (ix2 t h)) = _
  rw [hM, hc, ← EReal.coe_sub]
  exact Ideal.exp_coe _

include ha hb hc

theorem kDen_row : kDen xe x3 x5 (ix2 t h) = (r.den : EReal) := by
  show kEa xe x3 x5 (ix2 t h) + kEb xe x3 x5 (ix2 t h) + kEc xe x3 x5 (ix2 t h) = _
  rw [kEa_row ha hM, kEb_row hb hM, kEc_row hc hM, ← EReal.coe_add, ← EReal.coe_add]
  rfl

theorem kLse_row : addf (kMx xe x3 x5) (Host.log (kDen xe x3 x5)) (ix2 t h) = (r.lseTot : EReal) := by
  show kMx xe x3 x5 (ix2 t h) + Ideal.log (kDen xe x3 x5 (ix2 t h)) = _
  rw [hM, kDen_row ha hb hc hM, Ideal.log_coe, if_neg (not_le.2 (Row.den_pos _)), ← EReal.coe_add]
  rfl

omit ha hb hc hM in
theorem spread_apply (x : FVec Ideal S8192x8 .f32) : spread x (ix3 t h e) = x (ix2 t h) := by
  pointwise [spread]

theorem kAttn_row (h2 : x2 (ix3 t h e) = (r.oa e : EReal)) (h4 : x4 (ix3 t h e) = (r.ob e : EReal)) (ho : xo (ix3 t h e) = (r.o e : EReal)) :
    kAttn xe xo x2 x3 x4 x5 (ix3 t h e) = (r.attn e : EReal) := by
  show Ideal.div (spread (kEa xe x3 x5) (ix3 t h e) * x2 (ix3 t h e) + spread (kEb xe x3 x5) (ix3 t h e) * x4 (ix3 t h e)
    + spread (kEc xe x3 x5) (ix3 t h e) * xo (ix3 t h e)) (spread (kDen xe x3 x5) (ix3 t h e)) = _
  rw [spread_apply, spread_apply, spread_apply, spread_apply, kEa_row ha hM, kEb_row hb hM, kEc_row hc hM, kDen_row ha hb hc hM,
    ho, h2, h4, ← EReal.coe_mul, ← EReal.coe_mul, ← EReal.coe_mul, ← EReal.coe_add, ← EReal.coe_add, div_real _ _ (Row.den_pos _).ne']
  rfl

end

end Merge

section Rows

variable {x0 : FVec Ideal S10x8192x512 .bf16} {x1 : FVec Ideal S8192x1024 .bf16} {x2 : FVec Ideal S8192x8x64 .f32} {x3 : FVec Ideal S8192x8 .f32}
  {x4 : FVec Ideal S8192x8x64 .f32} {x5 : FVec Ideal S8192x8 .f32}
variable (d : Fin 16) (h : Fin 8) (n : Fin 4) (i : Fin 128) (e : Fin 64)
variable (H : Reals x0 x1 x2 x3 x4 x5)
include H

/-- The number subtracted before the three shares are taken is the greatest of the three log-denominators. -/
theorem mx_eq : ((row x0 x1 x2 x3 x4 x5 d h n i).mx : EReal)
    = max (max ((row x0 x1 x2 x3 x4 x5 d h n i).la : EReal) ((row x0 x1 x2 x3 x4 x5 d h n i).lb : EReal)) ((row x0 x1 x2 x3 x4 x5 d h n i).lse : EReal) := by
  rw [← v113_row d h n i H, v113_max, v106_read, ofBits_neg_inf', fold_max_three, v103_0r d h n i H, v103_1r d h n i H, v103_2r d h n i H]

end Rows

section Windows

variable (d : Fin 16) (h : Fin 8) (n : Fin 4) (i : Fin 128) (e : Fin 64)

/-- Lane `h * 64 + e` of phase `d` in the windows whose tokens are 1024 lanes wide. -/
def lnw (d : Fin 16) (h : Fin 8) (e : Fin 64) : Fin 16384 := ⟨d.val * 1024 + h.val * 64 + e.val, by omega⟩

theorem plc_tok512 : (⟨(plc n i).val * 16 + (ln d h e).val / 512, by omega⟩ : Fin 8192) = tok d n i := Fin.ext (by simp only [plc, ln, tok]; omega)
theorem plc_lane512 : (⟨(ln d h e).val % 512, by omega⟩ : Fin 512) = hl h e := Fin.ext (by simp only [ln, hl]; omega)
theorem plc_tok1024 : (⟨(plc n i).val * 16 + (lnw d h e).val / 1024, by omega⟩ : Fin 8192) = tok d n i := Fin.ext (by simp only [plc, lnw, tok]; omega)
theorem plc_lane1024 : (⟨(lnw d h e).val % 1024, by omega⟩ : Fin 1024) = ⟨h.val * 64 + e.val, by omega⟩ := Fin.ext (by simp only [lnw]; omega)

theorem cast119 (y : FVec Ideal S3x8192x512 .bf16) (s : Fin 3) :
    shapeCast S3x512x8192 y shapeCasts_S3x8192x512_S3x512x8192 (ix3 s (plc n i) (ln d h e)) = y (ix3 s (tok d n i) (hl h e)) := by
  pointwise []
  rw [plc_tok512, plc_lane512]
theorem slice119 (y : FVec Ideal S10x8192x512 .bf16) (s : Fin 3) (t : Fin 8192) (l : Fin 512) :
    Host.slice S3x8192x512 ![2, 0, 0] ![3, 1, 1] y slicesBy_S10x8192x512_S3x8192x512_2s3_0s1_0s1 (ix3 s t l) = y (ix3 ⟨2 + 3 * s.val, by omega⟩ t l) := by
  pointwise []
theorem cast120 (y : FVec Ideal S8192x1024 .bf16) :
    shapeCast S512x16384 y shapeCasts_S8192x1024_S512x16384 (ix2 (plc n i) (lnw d h e)) = y (ix2 (tok d n i) ⟨h.val * 64 + e.val, by omega⟩) := by
  pointwise []
  rw [plc_tok1024, plc_lane1024]
theorem pad121 (y : FVec Ideal S8192x8x64 .f32) (z : FVec Ideal S_ .bf16) (t : Fin 8192) :
    pad S8192x1024 ![0, 0] ![0, 512] ![0, 0] (truncf .bf16 (shapeCast S8192x512 y shapeCasts_S8192x8x64_S8192x512) bitsLt_bf16_f32) z
      pads_S8192x512_S8192x1024_000_05120 h_S_ (ix2 t ⟨h.val * 64 + e.val, by omega⟩) = y (ix3 t h e) := by
  pointwise []
  rw [dif_pos (by omega)]
theorem cast122 (y : FVec Ideal S8192x512 .f32) :
    shapeCast S512x8192 y shapeCasts_S8192x512_S512x8192 (ix2 (plc n i) (ln d h e)) = y (ix2 (tok d n i) (hl h e)) := by
  pointwise []
  rw [plc_tok512, plc_lane512]
theorem repeat122 (y : FVec Ideal S8192x8 .f32) (t : Fin 8192) :
    shapeCast S8192x512 (broadcastInDim S8192x8x64 ![0, 1] bcast_S8192x8_S8192x8x64_0_1 y) shapeCasts_S8192x8x64_S8192x512 (ix2 t (hl h e)) = y (ix2 t h) := by
  pointwise []
  rw [show (⟨(hl h e).val / 64, by omega⟩ : Fin 8) = h from Fin.ext (by simp only [hl]; omega)]

variable (m : (ℓ : Loc nD τ sig) → Buf (Elt Ideal) ℓ) (c : Dev nD)

/-- What the first two stretches leave, on the launch's buffers. -/
structure Found (W : Valuation τ sig (Elt Ideal)) : Prop where
  lse : W (Proc.devRef .tc main_v86) = Cert.ReferenceIdeal.Read.val_main_v99 (F := Ideal) (a0 m c)
  out : W (Proc.devRef .tc main_v83) = Cert.ReferenceIdeal.Read.val_main_v96 (F := Ideal) (a0 m c)
  arg2 : W (Proc.devRef .tc main_arg2) = a2 m c
  arg3 : W (Proc.devRef .tc main_arg3) = a3 m c
  arg4 : W (Proc.devRef .tc main_arg4) = a4 m c
  arg5 : W (Proc.devRef .tc main_arg5) = a5 m c

theorem found (W : Valuation τ sig (Elt Ideal)) (h0 : W (Proc.devRef .tc main_arg0) = a0 m c) (h2 : W (Proc.devRef .tc main_arg2) = a2 m c)
    (h3 : W (Proc.devRef .tc main_arg3) = a3 m c) (h4 : W (Proc.devRef .tc main_arg4) = a4 m c) (h5 : W (Proc.devRef .tc main_arg5) = a5 m c) :
    Found m c (StableHlo.after softOps (StableHlo.after scoreOps W)) := by
  have s1 := score_v67 W
  have s2 := score_v33 W
  rw [h0] at s1 s2
  have b2 := (score_arg2 W).trans h2
  have b3 := (score_arg3 W).trans h3
  have b4 := (score_arg4 W).trans h4
  have b5 := (score_arg5 W).trans h5
  generalize StableHlo.after scoreOps W = W1 at s1 s2 b2 b3 b4 b5 ⊢
  exact ⟨soft_v86 W1 _ s1, soft_v83 W1 _ s1 s2, (soft_arg2 W1).trans b2, (soft_arg3 W1).trans b3, (soft_arg4 W1).trans b4, (soft_arg5 W1).trans b5⟩

theorem found_launch : Found m c (StableHlo.after softOps (StableHlo.after scoreOps (fun b => m (c, b)))) :=
  found m c (fun b => m (c, b)) rfl rfl rfl rfl rfl

theorem V_v121 : (V m c main_v121 : FVec Ideal S512x16384 .bf16)
    = shapeCast S512x16384 (pad S8192x1024 ![0, 0] ![0, 512] ![0, 0] (truncf .bf16 (shapeCast S8192x512
          (kAttn (Cert.ReferenceIdeal.Read.val_main_v99 (F := Ideal) (a0 m c)) (Cert.ReferenceIdeal.Read.val_main_v96 (F := Ideal) (a0 m c))
            (a2 m c) (a3 m c) (a4 m c) (a5 m c)) shapeCasts_S8192x8x64_S8192x512) bitsLt_bf16_f32)
        (sitofp .bf16 (constantI S_ 32 0#32)) pads_S8192x512_S8192x1024_000_05120 h_S_) shapeCasts_S8192x1024_S512x16384 := by
  rw [V_split]
  have K := found_launch m c
  generalize StableHlo.after softOps (StableHlo.after scoreOps (fun b => m (c, b))) = W at K ⊢
  rw [merge_v121, K.lse, K.out, K.arg2, K.arg3, K.arg4, K.arg5]

theorem V_v122 : (V m c main_v122 : FVec Ideal S512x8192 .f32)
    = shapeCast S512x8192 (shapeCast S8192x512 (broadcastInDim S8192x8x64 ![0, 1] bcast_S8192x8_S8192x8x64_0_1
        (addf (kMx (Cert.ReferenceIdeal.Read.val_main_v99 (F := Ideal) (a0 m c)) (a3 m c) (a5 m c))
          (Host.log (kDen (Cert.ReferenceIdeal.Read.val_main_v99 (F := Ideal) (a0 m c)) (a3 m c) (a5 m c))))) shapeCasts_S8192x8x64_S8192x512)
        shapeCasts_S8192x512_S512x8192 := by
  rw [V_split]
  have K := found_launch m c
  generalize StableHlo.after softOps (StableHlo.after scoreOps (fun b => m (c, b))) = W at K ⊢
  rw [merge_v122, K.lse, K.arg3, K.arg5]

/-- The row of the run's own arguments. -/
abbrev mrow (d : Fin 16) (h : Fin 8) (n : Fin 4) (i : Fin 128) : Row := row (a0 m c) (a1 m c) (a2 m c) (a3 m c) (a4 m c) (a5 m c) d h n i

theorem v119_apply (s : Fin 3) : (V m c main_v119 : FVec Ideal S3x512x8192 .bf16) (ix3 s (plc n i) (ln d h e))
    = a0 m c (ix3 ⟨2 + 3 * s.val, by omega⟩ (tok d n i) (hl h e)) := by
  rw [V_v119, cast119, slice119]
theorem v120_apply : (V m c main_v120 : FVec Ideal S512x16384 .bf16) (ix2 (plc n i) (lnw d h e))
    = a1 m c (ix2 (tok d n i) ⟨h.val * 64 + e.val, by omega⟩) := by
  rw [V_v120, cast120]

variable (H : Reals (a0 m c) (a1 m c) (a2 m c) (a3 m c) (a4 m c) (a5 m c))
include H

theorem la_row : a3 m c (ix2 (tok d n i) h) = ((mrow m c d h n i).la : EReal) := by rw [H.h3]; rfl
theorem lb_row : a5 m c (ix2 (tok d n i) h) = ((mrow m c d h n i).lb : EReal) := by rw [H.h5]; rfl
theorem oa_row : a2 m c (ix3 (tok d n i) h e) = ((mrow m c d h n i).oa e : EReal) := by rw [H.h2]; rfl
theorem ob_row : a4 m c (ix3 (tok d n i) h e) = ((mrow m c d h n i).ob e : EReal) := by rw [H.h4]; rfl

theorem v121_apply : (V m c main_v121 : FVec Ideal S512x16384 .bf16) (ix2 (plc n i) (lnw d h e)) = ((mrow m c d h n i).attn e : EReal) := by
  have hc := v99_row (x0 := a0 m c) (a1 m c) (a2 m c) (a3 m c) (a4 m c) (a5 m c) d h n i H.h0
  rw [V_v121, cast120, pad121]
  exact kAttn_row e (la_row d h n i m c H) (lb_row d h n i m c H) hc (kMx_row (la_row d h n i m c H) (lb_row d h n i m c H) hc (mx_eq d h n i H))
    (oa_row d h n i e m c H) (ob_row d h n i e m c H) (v96_row (x0 := a0 m c) (a1 m c) (a2 m c) (a3 m c) (a4 m c) (a5 m c) d h n i e H.h0)

theorem v122_apply : (V m c main_v122 : FVec Ideal S512x8192 .f32) (ix2 (plc n i) (ln d h e)) = ((mrow m c d h n i).lseTot : EReal) := by
  have hc := v99_row (x0 := a0 m c) (a1 m c) (a2 m c) (a3 m c) (a4 m c) (a5 m c) d h n i H.h0
  rw [V_v122, cast122, repeat122]
  exact kLse_row (la_row d h n i m c H) (lb_row d h n i m c H) hc (kMx_row (la_row d h n i m c H) (lb_row d h n i m c H) hc (mx_eq d h n i H))

end Windows

end Cert.AttnGrad
-- ==== Proof.Block.lean ====
/- The kernel's body, one pair of heads at a time. A pair is 128 lanes: head 0 on lanes 0 … 63, head 1 on lanes
   64 … 127. Every definition below is the body's own text with the loaded tiles as arguments; `out_eq` says that what
   the body stores is these definitions at the twelve loads of each pair. -/
module

public import proofs.«01_k».proof.Proof.Gen.KernelIdeal.Frame

@[expose] public section

noncomputable section

namespace Cert.AttnGrad

open Cert.KernelIdeal Cert.KernelIdeal.Gen Idealize.ShloMosaic

abbrev B128 := FVec Ideal S128x128 .bf16
abbrev F128 := FVec Ideal S128x128 .f32

/-- A tile with the other head's lanes set to zero. -/
def sel (m : IVec S128x128 1) (t : B128) : B128 := select m t (broadcast S128x128 (Scalar.ofBits .bf16 0x0000#16))
def sel256 (m : IVec S256x128 1) (t : FVec Ideal S256x128 .bf16) : FVec Ideal S256x128 .bf16 :=
  select m t (broadcast S256x128 (Scalar.ofBits .bf16 0x0000#16))

/-- Two tiles of keys (or values), one above the other. -/
def stack (a b : B128) : FVec Ideal S256x128 .bf16 :=
  concatenate S256x128 0 [⟨S128x128, a⟩, ⟨S128x128, b⟩] concatenates_S128x128_S128x128_S256x128_d0

/-- Per row: the incoming gradient's inner product with the merged output, over one head's lanes. -/
def delta (m : IVec S128x128 1) (d a : B128) : FVec Ideal S128x1 .f32 :=
  shapeCast S128x1 (multiReduction .add [1] S128
    (select m (mulf (extf .f32 d bitsLt_bf16_f32) (extf .f32 a bitsLt_bf16_f32)) (broadcast S128x128 (Scalar.ofBits .f32 0x00000000#32)))
    0x00000000#32 reduces_S128x128_S128 (.inl rfl) rfl) shapeCasts_S128_S128x1

/-- Per row: one head's log-denominator, which its lanes repeat. -/
def lseCol (m : IVec S128x128 1) (l : F128) : FVec Ideal S128x1 .f32 :=
  shapeCast S128x1 (multiReduction .maximumf [1] S128
    (select m l (broadcast S128x128 (Named.named κ "mask" 0xF149F2CA#32)))
    0xFF800000#32 reduces_S128x128_S128 (.inl rfl) rfl) shapeCasts_S128_S128x1

/-- The probabilities of a block's queries over its window of 256 keys. -/
def pr256 (ok : IVec S128x256 1) (m : IVec S128x128 1) (q : B128) (k2 : FVec Ideal S256x128 .bf16) (l : F128) : FVec Ideal S128x256 .f32 :=
  exp (subf (select ok (mulf (matmul dot_S128x128_S256x128_S128x256_1_1_0_0_n_n none (sel m q) k2 (constant S128x256 .f32 0x00000000#32))
      (broadcast S128x256 (Scalar.ofBits .f32 0x3E000000#32))) (broadcast S128x256 (Named.named κ "mask" 0xF149F2CA#32)))
    (broadcastTo S128x256 (lseCol m l) broadcasts_S128x1_S128x256))

/-- The gradients of those scores. -/
def ds256 (ok : IVec S128x256 1) (m : IVec S128x128 1) (q : B128) (k2 v2 : FVec Ideal S256x128 .bf16) (d a : B128) (l : F128) :
    FVec Ideal S128x256 .bf16 :=
  truncf .bf16 (mulf (pr256 ok m q k2 l)
    (subf (matmul dot_S128x128_S256x128_S128x256_1_1_0_0_n_n none (sel m d) v2 (constant S128x256 .f32 0x00000000#32))
      (broadcastTo S128x256 (delta m d a) broadcasts_S128x1_S128x256))) bitsLt_bf16_f32

/-- The probabilities of the NEXT block's queries over this block's 128 keys. -/
def pr128 (ok : IVec S128x128 1) (m : IVec S128x128 1) (q k : B128) (l : F128) : F128 :=
  exp (subf (select ok (mulf (matmul dot_S128x128_S128x128_S128x128_1_1_0_0_n_n none (sel m q) k (constant S128x128 .f32 0x00000000#32))
      (broadcast S128x128 (Scalar.ofBits .f32 0x3E000000#32))) (broadcast S128x128 (Named.named κ "mask" 0xF149F2CA#32)))
    (broadcastTo S128x128 (lseCol m l) broadcasts_S128x1_S128x128))

def ds128 (ok : IVec S128x128 1) (m : IVec S128x128 1) (q k v d a : B128) (l : F128) : B128 :=
  truncf .bf16 (mulf (pr128 ok m q k l)
    (subf (matmul dot_S128x128_S128x128_S128x128_1_1_0_0_n_n none (sel m d) v (constant S128x128 .f32 0x00000000#32))
      (broadcastTo S128x128 (delta m d a) broadcasts_S128x1_S128x128))) bitsLt_bf16_f32

/-- One head's addition to the pair's dq, dk, dv. -/
def addDq (ok : IVec S128x256 1) (m : IVec S128x128 1) (mk : IVec S256x128 1) (q : B128) (k2 v2 : FVec Ideal S256x128 .bf16) (d a : B128) (l : F128)
    (acc : F128) : F128 :=
  addf acc (matmul dot_S128x256_S256x128_S128x128_1_0_0_1_n_n none (ds256 ok m q k2 v2 d a l) (sel256 mk k2) (constant S128x128 .f32 0x00000000#32))

def addDk (ok : IVec S128x256 1) (okn : IVec S128x128 1) (m : IVec S128x128 1) (q : B128) (k2 v2 : FVec Ideal S256x128 .bf16) (d a : B128) (l : F128)
    (kc vc qn dn an : B128) (ln : F128) (acc : F128) : F128 :=
  addf (addf acc (matmul dot_S128x128_S128x128_S128x128_0_0_1_1_n_n none
      (extractStridedSlice S128x128 ![0, 128] (ds256 ok m q k2 v2 d a l) slices_S128x256_o0_128_S128x128) (sel m q) (constant S128x128 .f32 0x00000000#32)))
    (matmul dot_S128x128_S128x128_S128x128_0_0_1_1_n_n none (ds128 okn m qn kc vc dn an ln) (sel m qn) (constant S128x128 .f32 0x00000000#32))

def addDv (ok : IVec S128x256 1) (okn : IVec S128x128 1) (m : IVec S128x128 1) (q : B128) (k2 : FVec Ideal S256x128 .bf16) (d : B128) (l : F128)
    (kc qn dn : B128) (ln : F128) (acc : F128) : F128 :=
  addf (addf acc (matmul dot_S128x128_S128x128_S128x128_0_0_1_1_n_n none
      (truncf .bf16 (extractStridedSlice S128x128 ![0, 128] (pr256 ok m q k2 l) slices_S128x256_o0_128_S128x128) bitsLt_bf16_f32) (sel m d)
      (constant S128x128 .f32 0x00000000#32)))
    (matmul dot_S128x128_S128x128_S128x128_0_0_1_1_n_n none (truncf .bf16 (pr128 okn m qn kc ln) bitsLt_bf16_f32) (sel m dn)
      (constant S128x128 .f32 0x00000000#32))

def zero128 : F128 := broadcast S128x128 (Scalar.ofBits .f32 0x00000000#32)
def eighth : F128 := broadcast S128x128 (Scalar.ofBits .f32 0x3E000000#32)

/-- A pair's masks: which lanes are head `h`'s, and which (query, key) places are inside the band. -/
structure Masks where
  ok : IVec S128x256 1
  okn : IVec S128x128 1
  m0 : IVec S128x128 1
  m1 : IVec S128x128 1
  k0 : IVec S256x128 1
  k1 : IVec S256x128 1

/-- A pair's loaded tiles. -/
structure Tiles where
  qc : B128
  qn : B128
  kp : B128
  kc : B128
  vp : B128
  vc : B128
  dc : B128
  dn : B128
  ac : B128
  an : B128
  lc : F128
  ln : F128

def pairDq (M : Masks) (T : Tiles) : F128 :=
  mulf (addDq M.ok M.m1 M.k1 T.qc (stack T.kp T.kc) (stack T.vp T.vc) T.dc T.ac T.lc
    (addDq M.ok M.m0 M.k0 T.qc (stack T.kp T.kc) (stack T.vp T.vc) T.dc T.ac T.lc zero128)) eighth

def pairDk (M : Masks) (T : Tiles) : F128 :=
  mulf (addDk M.ok M.okn M.m1 T.qc (stack T.kp T.kc) (stack T.vp T.vc) T.dc T.ac T.lc T.kc T.vc T.qn T.dn T.an T.ln
    (addDk M.ok M.okn M.m0 T.qc (stack T.kp T.kc) (stack T.vp T.vc) T.dc T.ac T.lc T.kc T.vc T.qn T.dn T.an T.ln zero128)) eighth

def pairDv (M : Masks) (T : Tiles) : F128 :=
  addDv M.ok M.okn M.m1 T.qc (stack T.kp T.kc) T.dc T.lc T.kc T.qn T.dn T.ln
    (addDv M.ok M.okn M.m0 T.qc (stack T.kp T.kc) T.dc T.lc T.kc T.qn T.dn T.ln zero128)

/-- As the body stores a pair's result. -/
def store (x : F128) : FVec Ideal S1x128x128 .bf16 :=
  shapeCast S1x128x128 (truncf .bf16 x bitsLt_bf16_f32) shapeCasts_S128x128_S1x128x128

section Body

variable (i : grid0.Coords) (x0 x1 x2 x3 x4 x5 : Vec Ideal S1x128x512 .bf16) (x6 x7 x8 x9 : Vec Ideal S128x512 .bf16) (x10 x11 : Vec Ideal S128x512 .f32)

/-- The body's masks at a grid point. -/
def masks : Masks where
  ok := k0_pay2 i
  okn := k0_pay3 i
  m0 := k0_pay6 (iota .tc S128x128 32 [1] iota_S128x128_d1_w32) 64#32 k0_pay4 k0_pay5
  m1 := k0_pay7 (iota .tc S128x128 32 [1] iota_S128x128_d1_w32)
  k0 := k0_pay10 (iota .tc S256x128 32 [1] iota_S256x128_d1_w32) 64#32 k0_pay8 k0_pay9
  k1 := k0_pay11 (iota .tc S256x128 32 [1] iota_S256x128_d1_w32)

/-- A slab window's load and a token window's load, as the body casts them. -/
def tile3 (x : Vec Ideal S1x128x128 .bf16) : B128 := shapeCast S128x128 x shapeCasts_S1x128x128_S128x128
def tile2 (x : Vec Ideal S128x128 .bf16) : B128 := shapeCast S128x128 x shapeCasts_S128x128_S128x128
def tile2f (x : Vec Ideal S128x128 .f32) : F128 := shapeCast S128x128 x shapeCasts_S128x128_S128x128

/-- The tiles of pair 0: lanes 0 … 127 of every window's block. -/
def tiles0 : Tiles where
  qc := tile3 (View.ld x0 r0_0)
  qn := tile3 (View.ld x1 r0_0)
  kp := tile3 (View.ld x2 r0_0)
  kc := tile3 (View.ld x3 r0_0)
  vp := tile3 (View.ld x4 r0_0)
  vc := tile3 (View.ld x5 r0_0)
  dc := tile2 (View.ld x6 r0_1)
  dn := tile2 (View.ld x7 r0_1)
  ac := tile2 (View.ld x8 r0_1)
  an := tile2 (View.ld x9 r0_1)
  lc := tile2f (View.ld x10 r0_1)
  ln := tile2f (View.ld x11 r0_1)

/-- The tiles of pair 1: lanes 128 … 255 of every window's block. -/
def tiles1 : Tiles where
  qc := tile3 (View.ld x0 r0_5)
  qn := tile3 (View.ld x1 r0_5)
  kp := tile3 (View.ld x2 r0_5)
  kc := tile3 (View.ld x3 r0_5)
  vp := tile3 (View.ld x4 r0_5)
  vc := tile3 (View.ld x5 r0_5)
  dc := tile2 (View.ld x6 r0_6)
  dn := tile2 (View.ld x7 r0_6)
  ac := tile2 (View.ld x8 r0_6)
  an := tile2 (View.ld x9 r0_6)
  lc := tile2f (View.ld x10 r0_6)
  ln := tile2f (View.ld x11 r0_6)

/-- The tiles of pair 2: lanes 256 … 383 of every window's block. -/
def tiles2 : Tiles where
  qc := tile3 (View.ld x0 r0_10)
  qn := tile3 (View.ld x1 r0_10)
  kp := tile3 (View.ld x2 r0_10)
  kc := tile3 (View.ld x3 r0_10)
  vp := tile3 (View.ld x4 r0_10)
  vc := tile3 (View.ld x5 r0_10)
  dc := tile2 (View.ld x6 r0_11)
  dn := tile2 (View.ld x7 r0_11)
  ac := tile2 (View.ld x8 r0_11)
  an := tile2 (View.ld x9 r0_11)
  lc := tile2f (View.ld x10 r0_11)
  ln := tile2f (View.ld x11 r0_11)

/-- The tiles of pair 3: lanes 384 … 511 of every window's block. -/
def tiles3 : Tiles where
  qc := tile3 (View.ld x0 r0_15)
  qn := tile3 (View.ld x1 r0_15)
  kp := tile3 (View.ld x2 r0_15)
  kc := tile3 (View.ld x3 r0_15)
  vp := tile3 (View.ld x4 r0_15)
  vc := tile3 (View.ld x5 r0_15)
  dc := tile2 (View.ld x6 r0_16)
  dn := tile2 (View.ld x7 r0_16)
  ac := tile2 (View.ld x8 r0_16)
  an := tile2 (View.ld x9 r0_16)
  lc := tile2f (View.ld x10 r0_16)
  ln := tile2f (View.ld x11 r0_16)

/-- What the body leaves in the output window's block: for each pair its dq, dk and dv. -/
theorem out_eq : out0_12 i x0 x1 x2 x3 x4 x5 x6 x7 x8 x9 x10 x11 = View.canon [
    ⟨r0_19, store (pairDv (masks i) (tiles3 x0 x1 x2 x3 x4 x5 x6 x7 x8 x9 x10 x11))⟩,
    ⟨r0_18, store (pairDk (masks i) (tiles3 x0 x1 x2 x3 x4 x5 x6 x7 x8 x9 x10 x11))⟩,
    ⟨r0_17, store (pairDq (masks i) (tiles3 x0 x1 x2 x3 x4 x5 x6 x7 x8 x9 x10 x11))⟩,
    ⟨r0_14, store (pairDv (masks i) (tiles2 x0 x1 x2 x3 x4 x5 x6 x7 x8 x9 x10 x11))⟩,
    ⟨r0_13, store (pairDk (masks i) (tiles2 x0 x1 x2 x3 x4 x5 x6 x7 x8 x9 x10 x11))⟩,
    ⟨r0_12, store (pairDq (masks i) (tiles2 x0 x1 x2 x3 x4 x5 x6 x7 x8 x9 x10 x11))⟩,
    ⟨r0_9, store (pairDv (masks i) (tiles1 x0 x1 x2 x3 x4 x5 x6 x7 x8 x9 x10 x11))⟩,
    ⟨r0_8, store (pairDk (masks i) (tiles1 x0 x1 x2 x3 x4 x5 x6 x7 x8 x9 x10 x11))⟩,
    ⟨r0_7, store (pairDq (masks i) (tiles1 x0 x1 x2 x3 x4 x5 x6 x7 x8 x9 x10 x11))⟩,
    ⟨r0_4, store (pairDv (masks i) (tiles0 x0 x1 x2 x3 x4 x5 x6 x7 x8 x9 x10 x11))⟩,
    ⟨r0_3, store (pairDk (masks i) (tiles0 x0 x1 x2 x3 x4 x5 x6 x7 x8 x9 x10 x11))⟩,
    ⟨r0_2, store (pairDq (masks i) (tiles0 x0 x1 x2 x3 x4 x5 x6 x7 x8 x9 x10 x11))⟩] := by
  rfl

end Body

end Cert.AttnGrad
-- ==== Proof.BlockRead.lean ====
/- The body's definitions (Block.lean) read at an index, as real numbers: given that the loaded tiles hold real numbers,
   a pair's dq, dk and dv are sums of `prR` and `dsR`, one (query, key) place's probability and score gradient. -/
module

public import proofs.«01_k».proof.Proof.Block
public import proofs.«01_k».proof.Proof.Real
public import proofs.«01_k».proof.Proof.Words
public import Idealize.ShloMosaic.Lib.Pointwise

@[expose] public section

set_option maxRecDepth 16384

noncomputable section

namespace Cert.AttnGrad

open Cert.KernelIdeal Cert.KernelIdeal.Gen Idealize.ShloMosaic

/-- One place of the band, from a query's and a key's row. -/
def prR (b : Bool) (q k : Fin 64 → ℝ) (L : ℝ) : ℝ := if b then Real.exp ((∑ e, q e * k e) * (1 / 8) - L) else 0
def dsR (b : Bool) (q k v c a : Fin 64 → ℝ) (L : ℝ) : ℝ := prR b q k L * ((∑ e, c e * v e) - ∑ e, c e * a e)

/-- Lane `e` of head `h` of a pair. -/
def lane (h : Fin 2) (e : Fin 64) : Fin 128 := ⟨h.val * 64 + e.val, by omega⟩

theorem lane_div (h : Fin 2) (e : Fin 64) : (lane h e).val / 64 = h.val := by
  unfold lane; simp only; omega

/-- A sum over a pair's lanes that keeps one head's. -/
theorem sum_lane (h : Fin 2) (f : Fin 128 → EReal) : (∑ l, if l.val / 64 = h.val then f l else 0) = ∑ e, f (lane h e) := by
  rw [← Finset.sum_filter]
  symm
  refine Finset.sum_bij (fun e _ => lane h e) (fun e _ => ?_) (fun a _ b _ hab => ?_) (fun l hl => ?_) (fun _ _ => rfl)
  · simp only [Finset.mem_filter, Finset.mem_univ, true_and]; exact lane_div h e
  · have := congrArg Fin.val hab; simp only [lane] at this; exact Fin.ext (by omega)
  · simp only [Finset.mem_filter, Finset.mem_univ, true_and] at hl
    exact ⟨⟨l.val % 64, by omega⟩, Finset.mem_univ _, Fin.ext (by simp only [lane]; omega)⟩

theorem fold_max_eq {ι : Type} [Fintype ι] (f : ι → EReal) (L : EReal) (hle : ∀ i, f i ≤ L) (hex : ∃ i, f i = L) :
    Finset.univ.fold max ⊥ f = L := by
  apply le_antisymm
  · exact (Finset.fold_max_le _).2 ⟨bot_le, fun i _ => hle i⟩
  · obtain ⟨i, hi⟩ := hex
    exact (Finset.le_fold_max _).2 (Or.inr ⟨i, Finset.mem_univ _, hi.ge⟩)

theorem ofBits_neg_inf : Ideal.ofBits .f32 0xFF800000#32 = ⊥ := by simp [Ideal.ofBits, Ideal.ieee]
theorem ofBits_eighth : Ideal.ofBits .f32 0x3E000000#32 = ((1 / 8 : ℝ) : EReal) := by
  simp [Ideal.ofBits, Ideal.ieee, -EReal.coe_mul]
  norm_num

theorem named_mask : (Named.named κ "mask" 0xF149F2CA#32 : Ideal .f32) = (⊥ : EReal) :=
  IdealRules.named_const.ideal_named_scalar _ _ _ _ rfl

/-- The mask `m` keeps head `h`'s lanes. -/
def IsHead (m : IVec S128x128 1) (h : Fin 2) : Prop := ∀ r l, m (ix2 r l) = BitVec.ofBool (decide (l.val / 64 = h.val))
def IsHead256 (m : IVec S256x128 1) (h : Fin 2) : Prop := ∀ r l, m (ix2 r l) = BitVec.ofBool (decide (l.val / 64 = h.val))

variable {m : IVec S128x128 1} {h : Fin 2}

theorem sel_apply (hm : IsHead m h) (t : B128) (r l : Fin 128) : sel m t (ix2 r l) = if l.val / 64 = h.val then t (ix2 r l) else 0 := by
  pointwise [sel]
  rw [hm, select_ofBool]; simp only [decide_eq_true_eq]

theorem sel256_apply {mk : IVec S256x128 1} (hm : IsHead256 mk h) (t : FVec Ideal S256x128 .bf16) (r : Fin 256) (l : Fin 128) :
    sel256 mk t (ix2 r l) = if l.val / 64 = h.val then t (ix2 r l) else 0 := by
  pointwise [sel256]
  rw [hm, select_ofBool]; simp only [decide_eq_true_eq]

/-- A product over a pair's lanes with one factor cut to head `h`: the product over the head's lanes. -/
theorem sum_sel (hm : IsHead m h) (t : B128) (g : Fin 128 → EReal) (r : Fin 128) (T G : Fin 64 → ℝ)
    (ht : ∀ e, t (ix2 r (lane h e)) = (T e : EReal)) (hg : ∀ e, g (lane h e) = (G e : EReal)) :
    ∑ x, sel m t (ix2 r x) * g x = ((∑ e, T e * G e : ℝ) : EReal) := by
  simp only [sel_apply hm, ite_mul, zero_mul]
  rw [sum_lane h (fun l => t (ix2 r l) * g l)]
  exact coe_sum_of_eq _ _ _ fun e => by rw [ht, hg, EReal.coe_mul]

theorem delta_apply (hm : IsHead m h) (d a : B128) (r : Fin 128) (C A : Fin 64 → ℝ)
    (hd : ∀ e, d (ix2 r (lane h e)) = (C e : EReal)) (ha : ∀ e, a (ix2 r (lane h e)) = (A e : EReal)) :
    delta m d a (ix2 r 0) = ((∑ e, C e * A e : ℝ) : EReal) := by
  pointwise [delta]
  simp only [hm r, select_ofBool, decide_eq_true_eq]
  rw [sum_lane h (fun l => d (ix2 r l) * a (ix2 r l))]
  exact coe_sum_of_eq _ _ _ fun e => by rw [hd, ha, EReal.coe_mul]

theorem lseCol_apply (hm : IsHead m h) (l : F128) (r : Fin 128) (L : ℝ) (hl : ∀ e, l (ix2 r (lane h e)) = (L : EReal)) :
    lseCol m l (ix2 r 0) = (L : EReal) := by
  pointwise [lseCol]
  simp only [hm r, select_ofBool, decide_eq_true_eq, named_mask, ofBits_neg_inf]
  refine fold_max_eq _ _ (fun x => ?_) ⟨lane h 0, by simp only [lane_div, if_true]; exact hl 0⟩
  split
  · rename_i hx
    have : x = lane h ⟨x.val % 64, by omega⟩ := Fin.ext (by simp only [lane]; omega)
    rw [this, hl]
  · exact bot_le

/-- The masked score less the log-denominator, through the exponential. -/
theorem exp_masked (b : Bool) (s : EReal) (S L : ℝ) (hs : s = (S : EReal)) :
    Ideal.exp (Scalar.select (BitVec.ofBool b) (s * Ideal.ofBits .f32 0x3E000000#32) (Named.named κ "mask" 0xF149F2CA#32 : Ideal .f32) - (L : EReal))
      = ((if b then Real.exp (S * (1 / 8) - L) else 0 : ℝ) : EReal) := by
  rw [select_ofBool, named_mask, ofBits_eighth, hs, ← EReal.coe_mul]
  cases b
  · simp only [Bool.false_eq_true, if_false]
    rw [sub_eq_add_neg, EReal.bot_add]
    rfl
  · simp only [if_true]
    rw [← EReal.coe_sub]
    exact Ideal.exp_coe _

theorem pr256_apply (hm : IsHead m h) (ok : IVec S128x256 1) (q : B128) (k2 : FVec Ideal S256x128 .bf16) (l : F128) (i : Fin 128) (j : Fin 256)
    (b : Bool) (Q K : Fin 64 → ℝ) (L : ℝ) (hb : ok (ix2 i j) = BitVec.ofBool b)
    (hq : ∀ e, q (ix2 i (lane h e)) = (Q e : EReal)) (hk : ∀ e, k2 (ix2 j (lane h e)) = (K e : EReal)) (hl : ∀ e, l (ix2 i (lane h e)) = (L : EReal)) :
    pr256 ok m q k2 l (ix2 i j) = ((prR b Q K L : ℝ) : EReal) := by
  pointwise [pr256]
  rw [lseCol_apply hm l i L hl, hb]
  exact exp_masked b _ _ L (sum_sel hm q (fun x => k2 (ix2 j x)) i Q K hq hk)

theorem pr128_apply (hm : IsHead m h) (ok : IVec S128x128 1) (q k : B128) (l : F128) (i j : Fin 128)
    (b : Bool) (Q K : Fin 64 → ℝ) (L : ℝ) (hb : ok (ix2 i j) = BitVec.ofBool b)
    (hq : ∀ e, q (ix2 i (lane h e)) = (Q e : EReal)) (hk : ∀ e, k (ix2 j (lane h e)) = (K e : EReal)) (hl : ∀ e, l (ix2 i (lane h e)) = (L : EReal)) :
    pr128 ok m q k l (ix2 i j) = ((prR b Q K L : ℝ) : EReal) := by
  pointwise [pr128]
  rw [lseCol_apply hm l i L hl, hb]
  exact exp_masked b _ _ L (sum_sel hm q (fun x => k (ix2 j x)) i Q K hq hk)

theorem ds256_apply (hm : IsHead m h) (ok : IVec S128x256 1) (q : B128) (k2 v2 : FVec Ideal S256x128 .bf16) (d a : B128) (l : F128) (i : Fin 128) (j : Fin 256)
    (b : Bool) (Q K V C A : Fin 64 → ℝ) (L : ℝ) (hb : ok (ix2 i j) = BitVec.ofBool b)
    (hq : ∀ e, q (ix2 i (lane h e)) = (Q e : EReal)) (hk : ∀ e, k2 (ix2 j (lane h e)) = (K e : EReal)) (hv : ∀ e, v2 (ix2 j (lane h e)) = (V e : EReal))
    (hd : ∀ e, d (ix2 i (lane h e)) = (C e : EReal)) (ha : ∀ e, a (ix2 i (lane h e)) = (A e : EReal)) (hl : ∀ e, l (ix2 i (lane h e)) = (L : EReal)) :
    ds256 ok m q k2 v2 d a l (ix2 i j) = ((dsR b Q K V C A L : ℝ) : EReal) := by
  pointwise [ds256]
  rw [pr256_apply hm ok q k2 l i j b Q K L hb hq hk hl, delta_apply hm d a i C A hd ha, sum_sel hm d (fun x => v2 (ix2 j x)) i C V hd hv,
    ← EReal.coe_sub, ← EReal.coe_mul]
  rfl

theorem ds128_apply (hm : IsHead m h) (ok : IVec S128x128 1) (q k v : B128) (d a : B128) (l : F128) (i j : Fin 128)
    (b : Bool) (Q K V C A : Fin 64 → ℝ) (L : ℝ) (hb : ok (ix2 i j) = BitVec.ofBool b)
    (hq : ∀ e, q (ix2 i (lane h e)) = (Q e : EReal)) (hk : ∀ e, k (ix2 j (lane h e)) = (K e : EReal)) (hv : ∀ e, v (ix2 j (lane h e)) = (V e : EReal))
    (hd : ∀ e, d (ix2 i (lane h e)) = (C e : EReal)) (ha : ∀ e, a (ix2 i (lane h e)) = (A e : EReal)) (hl : ∀ e, l (ix2 i (lane h e)) = (L : EReal)) :
    ds128 ok m q k v d a l (ix2 i j) = ((dsR b Q K V C A L : ℝ) : EReal) := by
  pointwise [ds128]
  rw [pr128_apply hm ok q k l i j b Q K L hb hq hk hl, delta_apply hm d a i C A hd ha, sum_sel hm d (fun x => v (ix2 j x)) i C V hd hv,
    ← EReal.coe_sub, ← EReal.coe_mul]
  rfl

/-- A pair's masks hold what they should. -/
structure Masks.Good (M : Masks) (b : Fin 128 → Fin 256 → Bool) (bn : Fin 128 → Fin 128 → Bool) : Prop where
  ok : ∀ i j, M.ok (ix2 i j) = BitVec.ofBool (b i j)
  okn : ∀ i j, M.okn (ix2 i j) = BitVec.ofBool (bn i j)
  m0 : IsHead M.m0 0
  m1 : IsHead M.m1 1
  k0 : IsHead256 M.k0 0
  k1 : IsHead256 M.k1 1

/-- One head's real numbers at a grid point. -/
structure HeadR where
  Q : Fin 128 → Fin 64 → ℝ
  Qn : Fin 128 → Fin 64 → ℝ
  Kp : Fin 128 → Fin 64 → ℝ
  Kc : Fin 128 → Fin 64 → ℝ
  Vp : Fin 128 → Fin 64 → ℝ
  Vc : Fin 128 → Fin 64 → ℝ
  C : Fin 128 → Fin 64 → ℝ
  Cn : Fin 128 → Fin 64 → ℝ
  A : Fin 128 → Fin 64 → ℝ
  An : Fin 128 → Fin 64 → ℝ
  L : Fin 128 → ℝ
  Ln : Fin 128 → ℝ

/-- A pair's tiles hold head `h`'s numbers on its lanes. -/
structure Tiles.Good (T : Tiles) (h : Fin 2) (H : HeadR) : Prop where
  qc : ∀ i e, T.qc (ix2 i (lane h e)) = (H.Q i e : EReal)
  qn : ∀ i e, T.qn (ix2 i (lane h e)) = (H.Qn i e : EReal)
  kp : ∀ i e, T.kp (ix2 i (lane h e)) = (H.Kp i e : EReal)
  kc : ∀ i e, T.kc (ix2 i (lane h e)) = (H.Kc i e : EReal)
  vp : ∀ i e, T.vp (ix2 i (lane h e)) = (H.Vp i e : EReal)
  vc : ∀ i e, T.vc (ix2 i (lane h e)) = (H.Vc i e : EReal)
  dc : ∀ i e, T.dc (ix2 i (lane h e)) = (H.C i e : EReal)
  dn : ∀ i e, T.dn (ix2 i (lane h e)) = (H.Cn i e : EReal)
  ac : ∀ i e, T.ac (ix2 i (lane h e)) = (H.A i e : EReal)
  an : ∀ i e, T.an (ix2 i (lane h e)) = (H.An i e : EReal)
  lc : ∀ i e, T.lc (ix2 i (lane h e)) = (H.L i : EReal)
  ln : ∀ i e, T.ln (ix2 i (lane h e)) = (H.Ln i : EReal)

/-- The window of 256 keys: the block before, then the block itself. -/
def win (p c : Fin 128 → Fin 64 → ℝ) (j : Fin 256) : Fin 64 → ℝ :=
  if hj : j.val < 128 then p ⟨j.val, hj⟩ else c ⟨j.val - 128, by omega⟩

theorem stack_apply (a b : B128) (p c : Fin 128 → Fin 64 → ℝ) (ha : ∀ i e, a (ix2 i (lane h e)) = (p i e : EReal))
    (hb : ∀ i e, b (ix2 i (lane h e)) = (c i e : EReal)) (j : Fin 256) (e : Fin 64) :
    stack a b (ix2 j (lane h e)) = (win p c j e : EReal) := by
  pointwise [stack]
  unfold win
  split
  · exact ha _ e
  · exact hb _ e

namespace HeadR
variable (H : HeadR) (b : Fin 128 → Fin 256 → Bool) (bn : Fin 128 → Fin 128 → Bool)
def pr (i : Fin 128) (j : Fin 256) : ℝ := prR (b i j) (H.Q i) (win H.Kp H.Kc j) (H.L i)
def ds (i : Fin 128) (j : Fin 256) : ℝ := dsR (b i j) (H.Q i) (win H.Kp H.Kc j) (win H.Vp H.Vc j) (H.C i) (H.A i) (H.L i)
def prn (i j : Fin 128) : ℝ := prR (bn i j) (H.Qn i) (H.Kc j) (H.Ln i)
def dsn (i j : Fin 128) : ℝ := dsR (bn i j) (H.Qn i) (H.Kc j) (H.Vc j) (H.Cn i) (H.An i) (H.Ln i)
/-- Key `j` of the block is key `128 + j` of the block's own window. -/
def up (j : Fin 128) : Fin 256 := ⟨128 + j.val, by omega⟩
def dq (i : Fin 128) (e : Fin 64) : ℝ := (∑ j, H.ds b i j * win H.Kp H.Kc j e) * (1 / 8)
def dk (j : Fin 128) (e : Fin 64) : ℝ := (∑ i, H.ds b i (up j) * H.Q i e + ∑ i, H.dsn bn i j * H.Qn i e) * (1 / 8)
def dv (j : Fin 128) (e : Fin 64) : ℝ := ∑ i, H.pr b i (up j) * H.C i e + ∑ i, H.prn bn i j * H.Cn i e
end HeadR

/-- On the other head's lanes a product whose right factor is cut to one head is zero. -/
theorem sum_sel_other (hm : IsHead m h) (g : Fin 128 → EReal) (t : B128) (h' : Fin 2) (hh : h'.val ≠ h.val) (e : Fin 64) :
    ∑ x, g x * sel m t (ix2 x (lane h' e)) = 0 := by
  refine Finset.sum_eq_zero fun x _ => ?_
  rw [sel_apply hm, lane_div, if_neg hh, mul_zero]

theorem sum_sel256_other {mk : IVec S256x128 1} (hm : IsHead256 mk h) (g : Fin 256 → EReal) (t : FVec Ideal S256x128 .bf16) (h' : Fin 2) (hh : h'.val ≠ h.val)
    (e : Fin 64) : ∑ x, g x * sel256 mk t (ix2 x (lane h' e)) = 0 := by
  refine Finset.sum_eq_zero fun x _ => ?_
  rw [sel256_apply hm, lane_div, if_neg hh, mul_zero]

/-- On the head's own lanes it is the sum of the real products. -/
theorem sum_sel_own (hm : IsHead m h) (g : Fin 128 → EReal) (t : B128) (e : Fin 64) (G T : Fin 128 → ℝ) (hg : ∀ x, g x = (G x : EReal))
    (ht : ∀ x, t (ix2 x (lane h e)) = (T x : EReal)) :
    ∑ x, g x * sel m t (ix2 x (lane h e)) = ((∑ x, G x * T x : ℝ) : EReal) :=
  coe_sum_of_eq _ _ _ fun x => by rw [sel_apply hm, lane_div, if_pos rfl, hg, ht, EReal.coe_mul]

theorem sum_sel256_own {mk : IVec S256x128 1} (hm : IsHead256 mk h) (g : Fin 256 → EReal) (t : FVec Ideal S256x128 .bf16) (e : Fin 64) (G T : Fin 256 → ℝ)
    (hg : ∀ x, g x = (G x : EReal)) (ht : ∀ x, t (ix2 x (lane h e)) = (T x : EReal)) :
    ∑ x, g x * sel256 mk t (ix2 x (lane h e)) = ((∑ x, G x * T x : ℝ) : EReal) :=
  coe_sum_of_eq _ _ _ fun x => by rw [sel256_apply hm, lane_div, if_pos rfl, hg, ht, EReal.coe_mul]

section Pair
variable {M : Masks} {b : Fin 128 → Fin 256 → Bool} {bn : Fin 128 → Fin 128 → Bool} (hM : M.Good b bn) {T : Tiles} {H : HeadR}
include hM

theorem ds256_good (hm : IsHead m h) (hT : T.Good h H) (i : Fin 128) (j : Fin 256) :
    ds256 M.ok m T.qc (stack T.kp T.kc) (stack T.vp T.vc) T.dc T.ac T.lc (ix2 i j) = (H.ds b i j : EReal) :=
  ds256_apply hm M.ok _ _ _ _ _ _ i j _ _ _ _ _ _ _ (hM.ok i j) (hT.qc i) (fun e => stack_apply _ _ _ _ hT.kp hT.kc j e)
    (fun e => stack_apply _ _ _ _ hT.vp hT.vc j e) (hT.dc i) (hT.ac i) (hT.lc i)

theorem pr256_good (hm : IsHead m h) (hT : T.Good h H) (i : Fin 128) (j : Fin 256) :
    pr256 M.ok m T.qc (stack T.kp T.kc) T.lc (ix2 i j) = (H.pr b i j : EReal) :=
  pr256_apply hm M.ok _ _ _ i j _ _ _ _ (hM.ok i j) (hT.qc i) (fun e => stack_apply _ _ _ _ hT.kp hT.kc j e) (hT.lc i)

theorem ds128_good (hm : IsHead m h) (hT : T.Good h H) (i j : Fin 128) :
    ds128 M.okn m T.qn T.kc T.vc T.dn T.an T.ln (ix2 i j) = (H.dsn bn i j : EReal) :=
  ds128_apply hm M.okn _ _ _ _ _ _ i j _ _ _ _ _ _ _ (hM.okn i j) (hT.qn i) (hT.kc j) (hT.vc j) (hT.dn i) (hT.an i) (hT.ln i)

theorem pr128_good (hm : IsHead m h) (hT : T.Good h H) (i j : Fin 128) :
    pr128 M.okn m T.qn T.kc T.ln (ix2 i j) = (H.prn bn i j : EReal) :=
  pr128_apply hm M.okn _ _ _ i j _ _ _ _ (hM.okn i j) (hT.qn i) (hT.kc j) (hT.ln i)

/-- A pair's dq on head `h`'s lanes. -/
theorem pairDq_apply (hT : T.Good h H) (i : Fin 128) (e : Fin 64) : pairDq M T (ix2 i (lane h e)) = (H.dq b i e : EReal) := by
  have hK := fun x : Fin 256 => stack_apply T.kp T.kc H.Kp H.Kc hT.kp hT.kc x e
  pointwise [pairDq, addDq, zero128, eighth]
  rw [ofBits_eighth]
  obtain rfl | rfl : h = 0 ∨ h = 1 := by omega
  · rw [sum_sel256_own hM.k0 _ _ e (fun x => H.ds b i x) _ (fun x => ds256_good hM hM.m0 hT i x) hK, sum_sel256_other hM.k1 _ _ 0 (by decide), add_zero,
      ← EReal.coe_mul]
    rfl
  · rw [sum_sel256_own hM.k1 _ _ e (fun x => H.ds b i x) _ (fun x => ds256_good hM hM.m1 hT i x) hK, sum_sel256_other hM.k0 _ _ 1 (by decide), zero_add,
      ← EReal.coe_mul]
    rfl

omit hM in
theorem pairDk_read (M : Masks) (T : Tiles) (j l : Fin 128) :
    pairDk M T (ix2 j l)
      = (∑ x, ds256 M.ok M.m0 T.qc (stack T.kp T.kc) (stack T.vp T.vc) T.dc T.ac T.lc (ix2 x (HeadR.up j)) * sel M.m0 T.qc (ix2 x l)
          + ∑ x, ds128 M.okn M.m0 T.qn T.kc T.vc T.dn T.an T.ln (ix2 x j) * sel M.m0 T.qn (ix2 x l)
          + ∑ x, ds256 M.ok M.m1 T.qc (stack T.kp T.kc) (stack T.vp T.vc) T.dc T.ac T.lc (ix2 x (HeadR.up j)) * sel M.m1 T.qc (ix2 x l)
          + ∑ x, ds128 M.okn M.m1 T.qn T.kc T.vc T.dn T.an T.ln (ix2 x j) * sel M.m1 T.qn (ix2 x l)) * Ideal.ofBits .f32 0x3E000000#32 := by
  pointwise [pairDk, addDk, zero128, eighth]
  rfl

omit hM in
theorem pairDv_read (M : Masks) (T : Tiles) (j l : Fin 128) :
    pairDv M T (ix2 j l)
      = ∑ x, pr256 M.ok M.m0 T.qc (stack T.kp T.kc) T.lc (ix2 x (HeadR.up j)) * sel M.m0 T.dc (ix2 x l)
          + ∑ x, pr128 M.okn M.m0 T.qn T.kc T.ln (ix2 x j) * sel M.m0 T.dn (ix2 x l)
          + ∑ x, pr256 M.ok M.m1 T.qc (stack T.kp T.kc) T.lc (ix2 x (HeadR.up j)) * sel M.m1 T.dc (ix2 x l)
          + ∑ x, pr128 M.okn M.m1 T.qn T.kc T.ln (ix2 x j) * sel M.m1 T.dn (ix2 x l) := by
  pointwise [pairDv, addDv, zero128]
  rfl

/-- A pair's dk on head `h`'s lanes. -/
theorem pairDk_apply (hT : T.Good h H) (j : Fin 128) (e : Fin 64) : pairDk M T (ix2 j (lane h e)) = (H.dk b bn j e : EReal) := by
  rw [pairDk_read, ofBits_eighth]
  obtain rfl | rfl : h = 0 ∨ h = 1 := by omega
  · rw [sum_sel_own hM.m0 _ _ e (fun x => H.ds b x (HeadR.up j)) _ (fun x => ds256_good hM hM.m0 hT x (HeadR.up j)) (fun x => hT.qc x e),
      sum_sel_own hM.m0 _ _ e (fun x => H.dsn bn x j) _ (fun x => ds128_good hM hM.m0 hT x j) (fun x => hT.qn x e),
      sum_sel_other hM.m1 _ _ 0 (by decide), sum_sel_other hM.m1 _ _ 0 (by decide), add_zero, add_zero, ← EReal.coe_add, ← EReal.coe_mul]
    rfl
  · rw [sum_sel_own hM.m1 _ _ e (fun x => H.ds b x (HeadR.up j)) _ (fun x => ds256_good hM hM.m1 hT x (HeadR.up j)) (fun x => hT.qc x e),
      sum_sel_own hM.m1 _ _ e (fun x => H.dsn bn x j) _ (fun x => ds128_good hM hM.m1 hT x j) (fun x => hT.qn x e),
      sum_sel_other hM.m0 _ _ 1 (by decide), sum_sel_other hM.m0 _ _ 1 (by decide), add_zero, zero_add, ← EReal.coe_add, ← EReal.coe_mul]
    rfl

/-- A pair's dv on head `h`'s lanes. -/
theorem pairDv_apply (hT : T.Good h H) (j : Fin 128) (e : Fin 64) : pairDv M T (ix2 j (lane h e)) = (H.dv b bn j e : EReal) := by
  rw [pairDv_read]
  obtain rfl | rfl : h = 0 ∨ h = 1 := by omega
  · rw [sum_sel_own hM.m0 _ _ e (fun x => H.pr b x (HeadR.up j)) _ (fun x => pr256_good hM hM.m0 hT x (HeadR.up j)) (fun x => hT.dc x e),
      sum_sel_own hM.m0 _ _ e (fun x => H.prn bn x j) _ (fun x => pr128_good hM hM.m0 hT x j) (fun x => hT.dn x e),
      sum_sel_other hM.m1 _ _ 0 (by decide), sum_sel_other hM.m1 _ _ 0 (by decide), add_zero, add_zero, ← EReal.coe_add]
    rfl
  · rw [sum_sel_own hM.m1 _ _ e (fun x => H.pr b x (HeadR.up j)) _ (fun x => pr256_good hM hM.m1 hT x (HeadR.up j)) (fun x => hT.dc x e),
      sum_sel_own hM.m1 _ _ e (fun x => H.prn bn x j) _ (fun x => pr128_good hM hM.m1 hT x j) (fun x => hT.dn x e),
      sum_sel_other hM.m0 _ _ 1 (by decide), sum_sel_other hM.m0 _ _ 1 (by decide), add_zero, zero_add, ← EReal.coe_add]
    rfl

end Pair

end Cert.AttnGrad
-- ==== Proof.Match.lean ====
/- The body's sums over one grid point are the reference's sums, over the real numbers. -/
module

public import proofs.«01_k».proof.Proof.RefOut
public import proofs.«01_k».proof.Proof.BlockRead

@[expose] public section

set_option maxRecDepth 16384

noncomputable section

namespace Cert.AttnGrad

open Cert.KernelIdeal Cert.KernelIdeal.Gen Idealize.ShloMosaic

theorem prR_eq (r : Row) (j : Fin 256) {b : Bool} {Q K : Fin 64 → ℝ} {L : ℝ} (hb : b = r.ok j) (hq : Q = r.q) (hk : b = true → K = r.k j)
    (hL : L = r.lseTot) : prR b Q K L = r.pr j := by
  unfold prR Row.pr Row.S
  rw [← hb]
  cases b
  · rfl
  · rw [hk rfl, hq, hL]

theorem dsR_eq (r : Row) (j : Fin 256) {b : Bool} {Q K V C A : Fin 64 → ℝ} {L : ℝ} (hb : b = r.ok j) (hq : Q = r.q) (hk : b = true → K = r.k j)
    (hv : b = true → V = r.v j) (hc : C = r.ct) (ha : A = r.attn) (hL : L = r.lseTot) : dsR b Q K V C A L = r.ds j := by
  unfold dsR Row.ds
  rw [prR_eq r j hb hq hk hL]
  cases b
  · have h0 : r.pr j = 0 := by unfold Row.pr; rw [← hb]; rfl
    rw [h0, zero_mul, zero_mul]
  · rw [hv rfl, hc, ha]; rfl

variable (x0 : FVec Ideal S10x8192x512 .bf16) (x1 : FVec Ideal S8192x1024 .bf16) (x2 : FVec Ideal S8192x8x64 .f32) (x3 : FVec Ideal S8192x8 .f32)
  (x4 : FVec Ideal S8192x8x64 .f32) (x5 : FVec Ideal S8192x8 .f32)
variable (d : Fin 16) (h : Fin 8)

/-- The block after and the block before, as the windows clamp them. -/
def nx (n : Fin 4) : Fin 4 := ⟨min (n.val + 1) 3, by omega⟩
def pv (n : Fin 4) : Fin 4 := ⟨n.val - 1, by omega⟩

/-- One key or value of block `n`. -/
def key (s : Fin 10) (n : Fin 4) (i : Fin 128) (e : Fin 64) : ℝ := (x0 (ix3 s (tok d n i) (hl h e)) : EReal).toReal

/-- Head `h`'s numbers at the grid point of phase `d` and block `n`. -/
def headR (n : Fin 4) : HeadR where
  Q i := (row x0 x1 x2 x3 x4 x5 d h n i).q
  Qn i := (row x0 x1 x2 x3 x4 x5 d h (nx n) i).q
  Kp := key x0 d h 5 (pv n)
  Kc := key x0 d h 5 n
  Vp := key x0 d h 8 (pv n)
  Vc := key x0 d h 8 n
  C i := (row x0 x1 x2 x3 x4 x5 d h n i).ct
  Cn i := (row x0 x1 x2 x3 x4 x5 d h (nx n) i).ct
  A i := (row x0 x1 x2 x3 x4 x5 d h n i).attn
  An i := (row x0 x1 x2 x3 x4 x5 d h (nx n) i).attn
  L i := (row x0 x1 x2 x3 x4 x5 d h n i).lseTot
  Ln i := (row x0 x1 x2 x3 x4 x5 d h (nx n) i).lseTot

/-- Inside the band the two blocks' keys are the reference's window. -/
theorem win_key (s : Fin 10) (n : Fin 4) (j : Fin 256) (hj : 128 ≤ j.val ∨ 0 < n.val) (e : Fin 64) :
    win (key x0 d h s (pv n)) (key x0 d h s n) j e = (kv x0 s d h n j e : EReal).toReal := by
  unfold win kv
  rw [if_neg (by omega)]
  split
  · unfold key
    rw [ix3_congr (i := s) (i' := s) rfl (show (tok d (pv n) ⟨j.val, _⟩).val = (ktok d n j).val by simp only [tok, ktok, pv]; omega) rfl]
  · unfold key
    rw [ix3_congr (i := s) (i' := s) rfl (show (tok d n ⟨j.val - 128, _⟩).val = (ktok d n j).val by simp only [tok, ktok]; omega) rfl]

theorem band_inside {n : Fin 4} {i : Fin 128} {j : Fin 256} (hb : band n i j = true) : 128 ≤ j.val ∨ 0 < n.val := by
  simp only [band, decide_eq_true_eq] at hb
  exact hb.2.2

variable (n : Fin 4) (i : Fin 128)

theorem win_row (s : Fin 10) (j : Fin 256) (hb : band n i j = true) :
    win (key x0 d h s (pv n)) (key x0 d h s n) j = fun e => (kv x0 s d h n j e : EReal).toReal :=
  funext fun e => win_key x0 d h s n j (band_inside hb) e

theorem pr_match (j : Fin 256) : (headR x0 x1 x2 x3 x4 x5 d h n).pr (band n) i j = (row x0 x1 x2 x3 x4 x5 d h n i).pr j :=
  prR_eq _ j rfl rfl (fun hb => win_row x0 d h n i 5 j hb) rfl

theorem ds_match (j : Fin 256) : (headR x0 x1 x2 x3 x4 x5 d h n).ds (band n) i j = (row x0 x1 x2 x3 x4 x5 d h n i).ds j :=
  dsR_eq _ j rfl rfl (fun hb => win_row x0 d h n i 5 j hb) (fun hb => win_row x0 d h n i 8 j hb) rfl rfl rfl

theorem nx_eq (hn : n.val + 1 < 4) : nx n = ⟨n.val + 1, hn⟩ := Fin.ext (by simp only [nx]; omega)

theorem band_lo (hn : n.val + 1 < 4) (j : Fin 128) : bandNext n i j = band ⟨n.val + 1, hn⟩ i (lo j) := by
  have hi := i.isLt
  have hj := j.isLt
  unfold bandNext band lo
  rw [decide_eq_decide]
  show (i.val ≤ j.val ∧ n.val + 1 < 4) ↔ (j.val ≤ i.val + 128 ∧ i.val ≤ j.val ∧ (128 ≤ j.val ∨ 0 < n.val + 1))
  omega

theorem key_lo (s : Fin 10) (hn : n.val + 1 < 4) (j : Fin 128) : key x0 d h s n j = fun e => (kv x0 s d h ⟨n.val + 1, hn⟩ (lo j) e : EReal).toReal := by
  funext e
  unfold key kv
  rw [if_neg (by simp only [lo]; omega),
    ix3_congr (i := s) (i' := s) rfl (show (tok d n j).val = (ktok d ⟨n.val + 1, hn⟩ (lo j)).val by simp only [tok, ktok, lo]; omega) rfl]

theorem prn_match (hn : n.val + 1 < 4) (j : Fin 128) :
    (headR x0 x1 x2 x3 x4 x5 d h n).prn (bandNext n) i j = (row x0 x1 x2 x3 x4 x5 d h ⟨n.val + 1, hn⟩ i).pr (lo j) := by
  have e := nx_eq n hn
  refine prR_eq _ (lo j) (band_lo n i hn j) ?_ (fun _ => key_lo x0 d h n 5 hn j) ?_
  · rw [← e]; rfl
  · rw [← e]; rfl

theorem dsn_match (hn : n.val + 1 < 4) (j : Fin 128) :
    (headR x0 x1 x2 x3 x4 x5 d h n).dsn (bandNext n) i j = (row x0 x1 x2 x3 x4 x5 d h ⟨n.val + 1, hn⟩ i).ds (lo j) := by
  have e := nx_eq n hn
  refine dsR_eq _ (lo j) (band_lo n i hn j) ?_ (fun _ => key_lo x0 d h n 5 hn j) (fun _ => key_lo x0 d h n 8 hn j) ?_ ?_ ?_
  · rw [← e]; rfl
  · rw [← e]; rfl
  · rw [← e]; rfl
  · rw [← e]; rfl

theorem bandNext_last (hn : ¬ n.val + 1 < 4) (j : Fin 128) : bandNext n i j = false := by
  simp only [bandNext, decide_eq_false_iff_not]; omega

theorem prn_last (hn : ¬ n.val + 1 < 4) (j : Fin 128) : (headR x0 x1 x2 x3 x4 x5 d h n).prn (bandNext n) i j = 0 := by
  unfold HeadR.prn prR; rw [bandNext_last n i hn j]; rfl
theorem dsn_last (hn : ¬ n.val + 1 < 4) (j : Fin 128) : (headR x0 x1 x2 x3 x4 x5 d h n).dsn (bandNext n) i j = 0 := by
  unfold HeadR.dsn dsR prR; rw [bandNext_last n i hn j]; exact zero_mul _

variable (e : Fin 64)

theorem dq_match : (headR x0 x1 x2 x3 x4 x5 d h n).dq (band n) i e = refDq x0 x1 x2 x3 x4 x5 d h n i e := by
  unfold HeadR.dq refDq
  rw [Finset.sum_mul]
  refine Finset.sum_congr rfl fun j _ => ?_
  rw [ds_match]
  cases hb : band n i j
  · have : (row x0 x1 x2 x3 x4 x5 d h n i).ds j = 0 := Row.ds_of_not_ok _ j hb
    rw [this]; simp
  · rw [show win (headR x0 x1 x2 x3 x4 x5 d h n).Kp (headR x0 x1 x2 x3 x4 x5 d h n).Kc j e = (row x0 x1 x2 x3 x4 x5 d h n i).k j e from
      win_key x0 d h 5 n j (band_inside hb) e]
    ring

theorem dk_match (j : Fin 128) :
    (headR x0 x1 x2 x3 x4 x5 d h n).dk (band n) (bandNext n) j e = addNext (refDk x0 x1 x2 x3 x4 x5 d h e) n j := by
  unfold HeadR.dk addNext refDk
  rw [add_mul, Finset.sum_mul, Finset.sum_mul]
  refine congr (congrArg _ (Finset.sum_congr rfl fun i _ => ?_)) ?_
  · rw [ds_match, show HeadR.up j = hi j from rfl,
      show (headR x0 x1 x2 x3 x4 x5 d h n).Q i e = (row x0 x1 x2 x3 x4 x5 d h n i).q e from rfl]
    ring
  · split
    · rename_i hn
      refine Finset.sum_congr rfl fun i _ => ?_
      rw [dsn_match x0 x1 x2 x3 x4 x5 d h n i hn j,
        show (headR x0 x1 x2 x3 x4 x5 d h n).Qn i e = (row x0 x1 x2 x3 x4 x5 d h ⟨n.val + 1, hn⟩ i).q e by rw [← nx_eq n hn]; rfl]
      ring
    · rename_i hn
      exact Finset.sum_eq_zero fun i _ => by rw [dsn_last x0 x1 x2 x3 x4 x5 d h n i hn j, zero_mul, zero_mul]

theorem dv_match (j : Fin 128) :
    (headR x0 x1 x2 x3 x4 x5 d h n).dv (band n) (bandNext n) j e = addNext (refDv x0 x1 x2 x3 x4 x5 d h e) n j := by
  unfold HeadR.dv addNext refDv
  refine congr (congrArg _ (Finset.sum_congr rfl fun i _ => ?_)) ?_
  · rw [pr_match, show HeadR.up j = hi j from rfl, Row.pr_eq _ (row_ok x0 x1 x2 x3 x4 x5 d h n i),
      show (headR x0 x1 x2 x3 x4 x5 d h n).C i e = (row x0 x1 x2 x3 x4 x5 d h n i).ct e from rfl]
    ring
  · split
    · rename_i hn
      refine Finset.sum_congr rfl fun i _ => ?_
      rw [prn_match x0 x1 x2 x3 x4 x5 d h n i hn j, Row.pr_eq _ (row_ok x0 x1 x2 x3 x4 x5 d h ⟨n.val + 1, hn⟩ i),
        show (headR x0 x1 x2 x3 x4 x5 d h n).Cn i e = (row x0 x1 x2 x3 x4 x5 d h ⟨n.val + 1, hn⟩ i).ct e by rw [← nx_eq n hn]; rfl]
      ring
    · rename_i hn
      exact Finset.sum_eq_zero fun i _ => by rw [prn_last x0 x1 x2 x3 x4 x5 d h n i hn j, zero_mul]

end Cert.AttnGrad
-- ==== Proof.MaskRead.lean ====
/- The body's masks read at an index. -/
module

public import proofs.«01_k».proof.Proof.BlockRead

@[expose] public section

set_option maxRecDepth 16384

noncomputable section

namespace Cert.AttnGrad

open Cert.KernelIdeal Cert.KernelIdeal.Gen Idealize.ShloMosaic

theorem m0_apply (i : grid0.Coords) : IsHead (masks i).m0 0 := by
  intro r l
  unfold masks
  pointwise [k0_pay6, k0_pay4, k0_pay5]
  revert l
  decide +kernel
theorem m1_apply (i : grid0.Coords) : IsHead (masks i).m1 1 := by
  intro r l
  unfold masks
  pointwise [k0_pay7]
  revert l
  decide +kernel
theorem k0_apply (i : grid0.Coords) : IsHead256 (masks i).k0 0 := by
  intro r l
  unfold masks
  pointwise [k0_pay10, k0_pay8, k0_pay9]
  revert l
  decide +kernel
theorem k1_apply (i : grid0.Coords) : IsHead256 (masks i).k1 1 := by
  intro r l
  unfold masks
  pointwise [k0_pay11]
  revert l
  decide +kernel

theorem ok_apply (i : grid0.Coords) (r : Fin 128) (l : Fin 256) : (masks i).ok (ix2 r l) = BitVec.ofBool (band (i 1) r l) := by
  unfold masks
  pointwise [k0_pay2]
  have hi : (i 1).val < 4 := (i 1).isLt
  generalize hn : (i 1).val = n at hi
  rw [show band (i 1) r l = decide (l.val ≤ r.val + 128 ∧ r.val ≤ l.val ∧ (128 ≤ l.val ∨ 0 < n)) by unfold band; rw [hn]]
  have hr := r.isLt
  have hl := l.isLt
  rw [near _ _ hr hl, notAfter _ _ hr hl]
  word_cmp
  congr 1
  simp only [Bool.decide_and, Bool.decide_or, Bool.and_assoc]

theorem okn_apply (i : grid0.Coords) (r l : Fin 128) : (masks i).okn (ix2 r l) = BitVec.ofBool (bandNext (i 1) r l) := by
  unfold masks
  pointwise [k0_pay3]
  have hi : (i 1).val < 4 := (i 1).isLt
  generalize hn : (i 1).val = n at hi
  rw [show bandNext (i 1) r l = decide (r.val ≤ l.val ∧ n + 1 < 4) by unfold bandNext; rw [hn]]
  have hr := r.isLt
  have hl := l.isLt
  rw [near _ _ hr (by omega)]
  have h4 : Scalar.cmpi CmpIPredicate.slt (Scalar.addi (BitVec.ofNat 32 n) 1#32) 4#32 = BitVec.ofBool (decide (n + 1 < 4)) := by
    clear hn hr hl
    revert n
    decide
  rw [h4, ofBool_and, Bool.decide_and]

theorem masks_good (i : grid0.Coords) : (masks i).Good (band (i 1)) (bandNext (i 1)) :=
  ⟨ok_apply i, okn_apply i, m0_apply i, m1_apply i, k0_apply i, k1_apply i⟩

end Cert.AttnGrad
-- ==== Proof.Tiles.lean ====
/- The windows' blocks at a grid point, and the tiles the body loads from them, as the numbers of the rows. -/
module

public import proofs.«01_k».proof.Proof.HostRow
public import proofs.«01_k».proof.Proof.Match
public import proofs.«01_k».proof.Proof.MaskRead
public import Idealize.ShloMosaic.Lib.Pipeline.ValueKit

@[expose] public section

set_option maxRecDepth 16384

noncomputable section

namespace Cert.AttnGrad

open Cert.KernelIdeal Cert.KernelIdeal.Gen Idealize.ShloMosaic Idealize.ShloMosaic.TcCoe Idealize.SL.Sem

abbrev ph (t : Fin cfg0.N) : Fin 16 := grid0.coords t 0
abbrev bk (t : Fin cfg0.N) : Fin 4 := grid0.coords t 1

theorem idx0 : ∀ t : Fin cfg0.N, win0_0.index t = ![0, (bk t).val, (ph t).val] := (by decide +kernel : ∀ t : Fin grid0.N, _)
theorem idx1 : ∀ t : Fin cfg0.N, win0_1.index t = ![0, (nx (bk t)).val, (ph t).val] := (by decide +kernel : ∀ t : Fin grid0.N, _)
theorem idx2 : ∀ t : Fin cfg0.N, win0_2.index t = ![1, (pv (bk t)).val, (ph t).val] := (by decide +kernel : ∀ t : Fin grid0.N, _)
theorem idx3 : ∀ t : Fin cfg0.N, win0_3.index t = ![1, (bk t).val, (ph t).val] := (by decide +kernel : ∀ t : Fin grid0.N, _)
theorem idx4 : ∀ t : Fin cfg0.N, win0_4.index t = ![2, (pv (bk t)).val, (ph t).val] := (by decide +kernel : ∀ t : Fin grid0.N, _)
theorem idx5 : ∀ t : Fin cfg0.N, win0_5.index t = ![2, (bk t).val, (ph t).val] := (by decide +kernel : ∀ t : Fin grid0.N, _)
theorem idx6 : ∀ t : Fin cfg0.N, win0_6.index t = ![(bk t).val, 2 * (ph t).val] := (by decide +kernel : ∀ t : Fin grid0.N, _)
theorem idx7 : ∀ t : Fin cfg0.N, win0_7.index t = ![(nx (bk t)).val, 2 * (ph t).val] := (by decide +kernel : ∀ t : Fin grid0.N, _)
theorem idx8 : ∀ t : Fin cfg0.N, win0_8.index t = ![(bk t).val, 2 * (ph t).val] := (by decide +kernel : ∀ t : Fin grid0.N, _)
theorem idx9 : ∀ t : Fin cfg0.N, win0_9.index t = ![(nx (bk t)).val, 2 * (ph t).val] := (by decide +kernel : ∀ t : Fin grid0.N, _)
theorem idx10 : ∀ t : Fin cfg0.N, win0_10.index t = ![(bk t).val, (ph t).val] := (by decide +kernel : ∀ t : Fin grid0.N, _)
theorem idx11 : ∀ t : Fin cfg0.N, win0_11.index t = ![(nx (bk t)).val, (ph t).val] := (by decide +kernel : ∀ t : Fin grid0.N, _)
theorem idx12 : ∀ t : Fin cfg0.N, win0_12.index t = ![0, (bk t).val, (ph t).val] := (by decide +kernel : ∀ t : Fin grid0.N, _)

variable (m : (ℓ : Loc nD τ sig) → Buf (Elt Ideal) ℓ) (c : Dev nD) (t : Fin cfg0.N) (h : Fin 8) (i : Fin 128) (e : Fin 64)

theorem blk0 : iblk m c 0 t (ix3 0 i (hl h e)) = (V m c main_v119 : FVec Ideal S3x512x8192 .bf16) (ix3 0 (plc (bk t) i) (ln (ph t) h e)) := by
  blk_ext [iblk, idx0 t]
  all_goals (simp only [plc, hl, ln] <;> omega)
theorem blk1 : iblk m c 1 t (ix3 0 i (hl h e)) = (V m c main_v119 : FVec Ideal S3x512x8192 .bf16) (ix3 0 (plc (nx (bk t)) i) (ln (ph t) h e)) := by
  blk_ext [iblk, idx1 t]
  all_goals (simp only [plc, hl, ln] <;> omega)
theorem blk2 : iblk m c 2 t (ix3 0 i (hl h e)) = (V m c main_v119 : FVec Ideal S3x512x8192 .bf16) (ix3 1 (plc (pv (bk t)) i) (ln (ph t) h e)) := by
  blk_ext [iblk, idx2 t]
  all_goals (simp only [plc, hl, ln] <;> omega)
theorem blk3 : iblk m c 3 t (ix3 0 i (hl h e)) = (V m c main_v119 : FVec Ideal S3x512x8192 .bf16) (ix3 1 (plc (bk t) i) (ln (ph t) h e)) := by
  blk_ext [iblk, idx3 t]
  all_goals (simp only [plc, hl, ln] <;> omega)
theorem blk4 : iblk m c 4 t (ix3 0 i (hl h e)) = (V m c main_v119 : FVec Ideal S3x512x8192 .bf16) (ix3 2 (plc (pv (bk t)) i) (ln (ph t) h e)) := by
  blk_ext [iblk, idx4 t]
  all_goals (simp only [plc, hl, ln] <;> omega)
theorem blk5 : iblk m c 5 t (ix3 0 i (hl h e)) = (V m c main_v119 : FVec Ideal S3x512x8192 .bf16) (ix3 2 (plc (bk t) i) (ln (ph t) h e)) := by
  blk_ext [iblk, idx5 t]
  all_goals (simp only [plc, hl, ln] <;> omega)
theorem blk6 : iblk m c 6 t (ix2 i (hl h e)) = (V m c main_v120 : FVec Ideal S512x16384 .bf16) (ix2 (plc (bk t) i) (lnw (ph t) h e)) := by
  blk_ext [iblk, idx6 t]
  all_goals (simp only [plc, hl, lnw] <;> omega)
theorem blk7 : iblk m c 7 t (ix2 i (hl h e)) = (V m c main_v120 : FVec Ideal S512x16384 .bf16) (ix2 (plc (nx (bk t)) i) (lnw (ph t) h e)) := by
  blk_ext [iblk, idx7 t]
  all_goals (simp only [plc, hl, lnw] <;> omega)
theorem blk8 : iblk m c 8 t (ix2 i (hl h e)) = (V m c main_v121 : FVec Ideal S512x16384 .bf16) (ix2 (plc (bk t) i) (lnw (ph t) h e)) := by
  blk_ext [iblk, idx8 t]
  all_goals (simp only [plc, hl, lnw] <;> omega)
theorem blk9 : iblk m c 9 t (ix2 i (hl h e)) = (V m c main_v121 : FVec Ideal S512x16384 .bf16) (ix2 (plc (nx (bk t)) i) (lnw (ph t) h e)) := by
  blk_ext [iblk, idx9 t]
  all_goals (simp only [plc, hl, lnw] <;> omega)
theorem blk10 : iblk m c 10 t (ix2 i (hl h e)) = (V m c main_v122 : FVec Ideal S512x8192 .f32) (ix2 (plc (bk t) i) (ln (ph t) h e)) := by
  blk_ext [iblk, idx10 t]
  all_goals (simp only [plc, hl, ln] <;> omega)
theorem blk11 : iblk m c 11 t (ix2 i (hl h e)) = (V m c main_v122 : FVec Ideal S512x8192 .f32) (ix2 (plc (nx (bk t)) i) (ln (ph t) h e)) := by
  blk_ext [iblk, idx11 t]
  all_goals (simp only [plc, hl, ln] <;> omega)

/-- Head `h` of pair `p`. -/
def hd (p : Fin 4) (h : Fin 2) : Fin 8 := ⟨2 * p.val + h.val, by omega⟩

variable (h' : Fin 2)

theorem ld3_0 (x : Vec Ideal S1x128x512 .bf16) : tile3 (View.ld x r0_0) (ix2 i (lane h' e)) = x (ix3 0 i (hl (hd 0 h') e)) := by
  pointwise [tile3]
  rw [show (⟨(lane h' e).val, by have := (lane h' e).isLt; omega⟩ : Fin 512) = hl (hd 0 h') e from
    Fin.ext (show (h'.val * 64 + e.val) = (2 * 0 + h'.val) * 64 + e.val by omega)]
theorem ld2_0 (x : Vec Ideal S128x512 .bf16) : tile2 (View.ld x r0_1) (ix2 i (lane h' e)) = x (ix2 i (hl (hd 0 h') e)) := by
  pointwise [tile2]
  rw [show (⟨(lane h' e).val, by have := (lane h' e).isLt; omega⟩ : Fin 512) = hl (hd 0 h') e from
    Fin.ext (show (h'.val * 64 + e.val) = (2 * 0 + h'.val) * 64 + e.val by omega)]
theorem ldf_0 (x : Vec Ideal S128x512 .f32) : tile2f (View.ld x r0_1) (ix2 i (lane h' e)) = x (ix2 i (hl (hd 0 h') e)) := by
  pointwise [tile2f]
  rw [show (⟨(lane h' e).val, by have := (lane h' e).isLt; omega⟩ : Fin 512) = hl (hd 0 h') e from
    Fin.ext (show (h'.val * 64 + e.val) = (2 * 0 + h'.val) * 64 + e.val by omega)]
theorem ld3_1 (x : Vec Ideal S1x128x512 .bf16) : tile3 (View.ld x r0_5) (ix2 i (lane h' e)) = x (ix3 0 i (hl (hd 1 h') e)) := by
  pointwise [tile3]
  rw [show (⟨128 + (lane h' e).val, by have := (lane h' e).isLt; omega⟩ : Fin 512) = hl (hd 1 h') e from
    Fin.ext (show 128 + (h'.val * 64 + e.val) = (2 * 1 + h'.val) * 64 + e.val by omega)]
theorem ld2_1 (x : Vec Ideal S128x512 .bf16) : tile2 (View.ld x r0_6) (ix2 i (lane h' e)) = x (ix2 i (hl (hd 1 h') e)) := by
  pointwise [tile2]
  rw [show (⟨128 + (lane h' e).val, by have := (lane h' e).isLt; omega⟩ : Fin 512) = hl (hd 1 h') e from
    Fin.ext (show 128 + (h'.val * 64 + e.val) = (2 * 1 + h'.val) * 64 + e.val by omega)]
theorem ldf_1 (x : Vec Ideal S128x512 .f32) : tile2f (View.ld x r0_6) (ix2 i (lane h' e)) = x (ix2 i (hl (hd 1 h') e)) := by
  pointwise [tile2f]
  rw [show (⟨128 + (lane h' e).val, by have := (lane h' e).isLt; omega⟩ : Fin 512) = hl (hd 1 h') e from
    Fin.ext (show 128 + (h'.val * 64 + e.val) = (2 * 1 + h'.val) * 64 + e.val by omega)]
theorem ld3_2 (x : Vec Ideal S1x128x512 .bf16) : tile3 (View.ld x r0_10) (ix2 i (lane h' e)) = x (ix3 0 i (hl (hd 2 h') e)) := by
  pointwise [tile3]
  rw [show (⟨256 + (lane h' e).val, by have := (lane h' e).isLt; omega⟩ : Fin 512) = hl (hd 2 h') e from
    Fin.ext (show 256 + (h'.val * 64 + e.val) = (2 * 2 + h'.val) * 64 + e.val by omega)]
theorem ld2_2 (x : Vec Ideal S128x512 .bf16) : tile2 (View.ld x r0_11) (ix2 i (lane h' e)) = x (ix2 i (hl (hd 2 h') e)) := by
  pointwise [tile2]
  rw [show (⟨256 + (lane h' e).val, by have := (lane h' e).isLt; omega⟩ : Fin 512) = hl (hd 2 h') e from
    Fin.ext (show 256 + (h'.val * 64 + e.val) = (2 * 2 + h'.val) * 64 + e.val by omega)]
theorem ldf_2 (x : Vec Ideal S128x512 .f32) : tile2f (View.ld x r0_11) (ix2 i (lane h' e)) = x (ix2 i (hl (hd 2 h') e)) := by
  pointwise [tile2f]
  rw [show (⟨256 + (lane h' e).val, by have := (lane h' e).isLt; omega⟩ : Fin 512) = hl (hd 2 h') e from
    Fin.ext (show 256 + (h'.val * 64 + e.val) = (2 * 2 + h'.val) * 64 + e.val by omega)]
theorem ld3_3 (x : Vec Ideal S1x128x512 .bf16) : tile3 (View.ld x r0_15) (ix2 i (lane h' e)) = x (ix3 0 i (hl (hd 3 h') e)) := by
  pointwise [tile3]
  rw [show (⟨384 + (lane h' e).val, by have := (lane h' e).isLt; omega⟩ : Fin 512) = hl (hd 3 h') e from
    Fin.ext (show 384 + (h'.val * 64 + e.val) = (2 * 3 + h'.val) * 64 + e.val by omega)]
theorem ld2_3 (x : Vec Ideal S128x512 .bf16) : tile2 (View.ld x r0_16) (ix2 i (lane h' e)) = x (ix2 i (hl (hd 3 h') e)) := by
  pointwise [tile2]
  rw [show (⟨384 + (lane h' e).val, by have := (lane h' e).isLt; omega⟩ : Fin 512) = hl (hd 3 h') e from
    Fin.ext (show 384 + (h'.val * 64 + e.val) = (2 * 3 + h'.val) * 64 + e.val by omega)]
theorem ldf_3 (x : Vec Ideal S128x512 .f32) : tile2f (View.ld x r0_16) (ix2 i (lane h' e)) = x (ix2 i (hl (hd 3 h') e)) := by
  pointwise [tile2f]
  rw [show (⟨384 + (lane h' e).val, by have := (lane h' e).isLt; omega⟩ : Fin 512) = hl (hd 3 h') e from
    Fin.ext (show 384 + (h'.val * 64 + e.val) = (2 * 3 + h'.val) * 64 + e.val by omega)]

section Rows

variable (H : Reals (a0 m c) (a1 m c) (a2 m c) (a3 m c) (a4 m c) (a5 m c))
include H

/-- Head `h`'s numbers at grid point `t`. -/
abbrev mhead (h : Fin 8) : HeadR := headR (a0 m c) (a1 m c) (a2 m c) (a3 m c) (a4 m c) (a5 m c) (ph t) h (bk t)

theorem row0 : iblk m c 0 t (ix3 0 i (hl h e)) = ((mhead m c t h).Q i e : EReal) := by
  rw [blk0, v119_apply]
  exact H.h0 _
theorem row1 : iblk m c 1 t (ix3 0 i (hl h e)) = ((mhead m c t h).Qn i e : EReal) := by
  rw [blk1, v119_apply]
  exact H.h0 _
theorem row2 : iblk m c 2 t (ix3 0 i (hl h e)) = ((mhead m c t h).Kp i e : EReal) := by
  rw [blk2, v119_apply]
  exact H.h0 _
theorem row3 : iblk m c 3 t (ix3 0 i (hl h e)) = ((mhead m c t h).Kc i e : EReal) := by
  rw [blk3, v119_apply]
  exact H.h0 _
theorem row4 : iblk m c 4 t (ix3 0 i (hl h e)) = ((mhead m c t h).Vp i e : EReal) := by
  rw [blk4, v119_apply]
  exact H.h0 _
theorem row5 : iblk m c 5 t (ix3 0 i (hl h e)) = ((mhead m c t h).Vc i e : EReal) := by
  rw [blk5, v119_apply]
  exact H.h0 _
theorem row6 : iblk m c 6 t (ix2 i (hl h e)) = ((mhead m c t h).C i e : EReal) := by
  rw [blk6, v120_apply]
  exact H.h1 _
theorem row7 : iblk m c 7 t (ix2 i (hl h e)) = ((mhead m c t h).Cn i e : EReal) := by
  rw [blk7, v120_apply]
  exact H.h1 _
theorem row8 : iblk m c 8 t (ix2 i (hl h e)) = ((mhead m c t h).A i e : EReal) := by
  rw [blk8, v121_apply _ _ _ _ _ m c H]
  rfl
theorem row9 : iblk m c 9 t (ix2 i (hl h e)) = ((mhead m c t h).An i e : EReal) := by
  rw [blk9, v121_apply _ _ _ _ _ m c H]
  rfl
theorem row10 : iblk m c 10 t (ix2 i (hl h e)) = ((mhead m c t h).L i : EReal) := by
  rw [blk10, v122_apply _ _ _ _ _ m c H]
  rfl
theorem row11 : iblk m c 11 t (ix2 i (hl h e)) = ((mhead m c t h).Ln i : EReal) := by
  rw [blk11, v122_apply _ _ _ _ _ m c H]
  rfl

end Rows

/-- Twelve blocks hold a head's numbers on its lanes. -/
structure Holds (x0 x1 x2 x3 x4 x5 : Vec Ideal S1x128x512 .bf16) (x6 x7 x8 x9 : Vec Ideal S128x512 .bf16) (x10 x11 : Vec Ideal S128x512 .f32)
    (h : Fin 8) (R : HeadR) : Prop where
  b0 : ∀ i e, x0 (ix3 0 i (hl h e)) = (R.Q i e : EReal)
  b1 : ∀ i e, x1 (ix3 0 i (hl h e)) = (R.Qn i e : EReal)
  b2 : ∀ i e, x2 (ix3 0 i (hl h e)) = (R.Kp i e : EReal)
  b3 : ∀ i e, x3 (ix3 0 i (hl h e)) = (R.Kc i e : EReal)
  b4 : ∀ i e, x4 (ix3 0 i (hl h e)) = (R.Vp i e : EReal)
  b5 : ∀ i e, x5 (ix3 0 i (hl h e)) = (R.Vc i e : EReal)
  b6 : ∀ i e, x6 (ix2 i (hl h e)) = (R.C i e : EReal)
  b7 : ∀ i e, x7 (ix2 i (hl h e)) = (R.Cn i e : EReal)
  b8 : ∀ i e, x8 (ix2 i (hl h e)) = (R.A i e : EReal)
  b9 : ∀ i e, x9 (ix2 i (hl h e)) = (R.An i e : EReal)
  b10 : ∀ i e, x10 (ix2 i (hl h e)) = (R.L i : EReal)
  b11 : ∀ i e, x11 (ix2 i (hl h e)) = (R.Ln i : EReal)

section Good

variable {x0 x1 x2 x3 x4 x5 : Vec Ideal S1x128x512 .bf16} {x6 x7 x8 x9 : Vec Ideal S128x512 .bf16} {x10 x11 : Vec Ideal S128x512 .f32}
variable {R : HeadR}

theorem good0 (K : Holds x0 x1 x2 x3 x4 x5 x6 x7 x8 x9 x10 x11 (hd 0 h') R) :
    (tiles0 x0 x1 x2 x3 x4 x5 x6 x7 x8 x9 x10 x11).Good h' R where
  qc i e := (ld3_0 i e h' x0).trans (K.b0 i e)
  qn i e := (ld3_0 i e h' x1).trans (K.b1 i e)
  kp i e := (ld3_0 i e h' x2).trans (K.b2 i e)
  kc i e := (ld3_0 i e h' x3).trans (K.b3 i e)
  vp i e := (ld3_0 i e h' x4).trans (K.b4 i e)
  vc i e := (ld3_0 i e h' x5).trans (K.b5 i e)
  dc i e := (ld2_0 i e h' x6).trans (K.b6 i e)
  dn i e := (ld2_0 i e h' x7).trans (K.b7 i e)
  ac i e := (ld2_0 i e h' x8).trans (K.b8 i e)
  an i e := (ld2_0 i e h' x9).trans (K.b9 i e)
  lc i e := (ldf_0 i e h' x10).trans (K.b10 i e)
  ln i e := (ldf_0 i e h' x11).trans (K.b11 i e)

theorem good1 (K : Holds x0 x1 x2 x3 x4 x5 x6 x7 x8 x9 x10 x11 (hd 1 h') R) :
    (tiles1 x0 x1 x2 x3 x4 x5 x6 x7 x8 x9 x10 x11).Good h' R where
  qc i e := (ld3_1 i e h' x0).trans (K.b0 i e)
  qn i e := (ld3_1 i e h' x1).trans (K.b1 i e)
  kp i e := (ld3_1 i e h' x2).trans (K.b2 i e)
  kc i e := (ld3_1 i e h' x3).trans (K.b3 i e)
  vp i e := (ld3_1 i e h' x4).trans (K.b4 i e)
  vc i e := (ld3_1 i e h' x5).trans (K.b5 i e)
  dc i e := (ld2_1 i e h' x6).trans (K.b6 i e)
  dn i e := (ld2_1 i e h' x7).trans (K.b7 i e)
  ac i e := (ld2_1 i e h' x8).trans (K.b8 i e)
  an i e := (ld2_1 i e h' x9).trans (K.b9 i e)
  lc i e := (ldf_1 i e h' x10).trans (K.b10 i e)
  ln i e := (ldf_1 i e h' x11).trans (K.b11 i e)

theorem good2 (K : Holds x0 x1 x2 x3 x4 x5 x6 x7 x8 x9 x10 x11 (hd 2 h') R) :
    (tiles2 x0 x1 x2 x3 x4 x5 x6 x7 x8 x9 x10 x11).Good h' R where
  qc i e := (ld3_2 i e h' x0).trans (K.b0 i e)
  qn i e := (ld3_2 i e h' x1).trans (K.b1 i e)
  kp i e := (ld3_2 i e h' x2).trans (K.b2 i e)
  kc i e := (ld3_2 i e h' x3).trans (K.b3 i e)
  vp i e := (ld3_2 i e h' x4).trans (K.b4 i e)
  vc i e := (ld3_2 i e h' x5).trans (K.b5 i e)
  dc i e := (ld2_2 i e h' x6).trans (K.b6 i e)
  dn i e := (ld2_2 i e h' x7).trans (K.b7 i e)
  ac i e := (ld2_2 i e h' x8).trans (K.b8 i e)
  an i e := (ld2_2 i e h' x9).trans (K.b9 i e)
  lc i e := (ldf_2 i e h' x10).trans (K.b10 i e)
  ln i e := (ldf_2 i e h' x11).trans (K.b11 i e)

theorem good3 (K : Holds x0 x1 x2 x3 x4 x5 x6 x7 x8 x9 x10 x11 (hd 3 h') R) :
    (tiles3 x0 x1 x2 x3 x4 x5 x6 x7 x8 x9 x10 x11).Good h' R where
  qc i e := (ld3_3 i e h' x0).trans (K.b0 i e)
  qn i e := (ld3_3 i e h' x1).trans (K.b1 i e)
  kp i e := (ld3_3 i e h' x2).trans (K.b2 i e)
  kc i e := (ld3_3 i e h' x3).trans (K.b3 i e)
  vp i e := (ld3_3 i e h' x4).trans (K.b4 i e)
  vc i e := (ld3_3 i e h' x5).trans (K.b5 i e)
  dc i e := (ld2_3 i e h' x6).trans (K.b6 i e)
  dn i e := (ld2_3 i e h' x7).trans (K.b7 i e)
  ac i e := (ld2_3 i e h' x8).trans (K.b8 i e)
  an i e := (ld2_3 i e h' x9).trans (K.b9 i e)
  lc i e := (ldf_3 i e h' x10).trans (K.b10 i e)
  ln i e := (ldf_3 i e h' x11).trans (K.b11 i e)

end Good

theorem holds (H : Reals (a0 m c) (a1 m c) (a2 m c) (a3 m c) (a4 m c) (a5 m c)) (h : Fin 8) :
    Holds (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) h (mhead m c t h) where
  b0 i e := row0 m c t h i e H
  b1 i e := row1 m c t h i e H
  b2 i e := row2 m c t h i e H
  b3 i e := row3 m c t h i e H
  b4 i e := row4 m c t h i e H
  b5 i e := row5 m c t h i e H
  b6 i e := row6 m c t h i e H
  b7 i e := row7 m c t h i e H
  b8 i e := row8 m c t h i e H
  b9 i e := row9 m c t h i e H
  b10 i e := row10 m c t h i e H
  b11 i e := row11 m c t h i e H

end Cert.AttnGrad
-- ==== Proof.Arr.lean ====
/- The kernel's result array after the run is the reference's result. -/
module

public import proofs.«01_k».proof.Proof.Tiles
public import proofs.«01_k».proof.Proof.Gen.KernelIdeal.Value

@[expose] public section

set_option maxRecDepth 16384

noncomputable section

namespace Cert.AttnGrad

open Cert.KernelIdeal Cert.KernelIdeal.Gen Idealize.ShloMosaic Idealize.ShloMosaic.TcCoe Idealize.SL.Sem

/-- Where lane `l` of a phase's block stands in a row of the result. -/
def ln' (d : Fin 16) (l : Fin 512) : Fin 8192 := ⟨d.val * 512 + l.val, by omega⟩

theorem ln'_hl (d : Fin 16) (h : Fin 8) (e : Fin 64) : ln' d (hl h e) = ln d h e := Fin.ext (by simp only [ln', hl, ln]; omega)

/-- One store of the body: slab `s` of pair `p`, where the pair's tile holds `G`'s values. -/
theorem piece (X : F128) (s : Fin 3) (p : Fin 4) (G : Fin 3 → Fin 128 → Fin 512 → EReal)
    (hX : ∀ i h e, X (ix2 i (lane h e)) = G s i (hl (hd p h) e)) (x : S1x128x128.Idx) (y : S3x128x512.Idx)
    (h0 : (y 0).val = s.val) (h1 : (y 1).val = (x 1).val) (h2 : (y 2).val = 128 * p.val + (x 2).val) :
    store X x = G (y 0) (y 1) (y 2) := by
  have hx0 : (x 0).val < 1 := (x 0).isLt
  have hx2 : (x 2).val < 128 := (x 2).isLt
  have e0 : y 0 = s := Fin.ext h0
  have e1 : y 1 = (x 1 : Fin 128) := Fin.ext h1
  have ex : x = ix3 0 (x 1 : Fin 128) (lane ⟨(x 2).val / 64, by omega⟩ ⟨(x 2).val % 64, by omega⟩) := by
    funext a
    match a with
    | ⟨0, _⟩ => exact Fin.ext (show (x 0).val = 0 by omega)
    | ⟨1, _⟩ => rfl
    | ⟨2, _⟩ => exact Fin.ext (show (x 2).val = (x 2).val / 64 * 64 + (x 2).val % 64 by omega)
  have e2 : y 2 = hl (hd p ⟨(x 2).val / 64, by omega⟩) ⟨(x 2).val % 64, by omega⟩ :=
    Fin.ext (h2.trans (show 128 * p.val + (x 2).val = (2 * p.val + (x 2).val / 64) * 64 + (x 2).val % 64 by omega))
  have e3 : ∀ (i : Fin 128) (l : Fin 128), store X (ix3 0 i l) = X (ix2 i l) := fun i l => by
    pointwise [store]
    try rfl
  exact (congrArg (store X) ex).trans ((e3 _ _).trans ((hX _ _ _).trans (by rw [e0, e1, e2])))

variable (m : (ℓ : Loc nD τ sig) → Buf (Elt Ideal) ℓ) (c : Dev nD) (t : Fin cfg0.N)

/-- The reference's result on the run's own arguments, and its block at grid point `t`. -/
abbrev result : FVec Ideal S3x512x8192 .bf16 :=
  Cert.ReferenceIdeal.Read.val_main_v244 (F := Ideal) (a0 m c) (a1 m c) (a2 m c) (a3 m c) (a4 m c) (a5 m c)
def resBlock (s : Fin 3) (i : Fin 128) (l : Fin 512) : EReal := result m c (ix3 s (plc (bk t) i) (ln' (ph t) l))

variable (H : Reals (a0 m c) (a1 m c) (a2 m c) (a3 m c) (a4 m c) (a5 m c))
include H

section Pair
variable {T : Tiles} {h' : Fin 2} {p : Fin 4} (hT : T.Good h' (mhead m c t (hd p h')))
include hT

theorem dq_block (i : Fin 128) (e : Fin 64) : pairDq (masks (grid0.coords t)) T (ix2 i (lane h' e)) = resBlock m c t 0 i (hl (hd p h') e) := by
  have a1 := dq_match (a0 m c) (a1 m c) (a2 m c) (a3 m c) (a4 m c) (a5 m c) (ph t) (hd p h') (bk t) i e
  have a2 := ref_dq (ph t) (hd p h') (bk t) i e H
  refine (pairDq_apply (masks_good (grid0.coords t)) hT i e).trans ((congrArg Real.toEReal a1).trans (a2.symm.trans ?_))
  rw [resBlock, ln'_hl]
theorem dk_block (i : Fin 128) (e : Fin 64) : pairDk (masks (grid0.coords t)) T (ix2 i (lane h' e)) = resBlock m c t 1 i (hl (hd p h') e) := by
  have a1 := dk_match (a0 m c) (a1 m c) (a2 m c) (a3 m c) (a4 m c) (a5 m c) (ph t) (hd p h') (bk t) e i
  have a2 := ref_dk (ph t) (hd p h') (bk t) i e H
  refine (pairDk_apply (masks_good (grid0.coords t)) hT i e).trans ((congrArg Real.toEReal a1).trans (a2.symm.trans ?_))
  rw [resBlock, ln'_hl]
theorem dv_block (i : Fin 128) (e : Fin 64) : pairDv (masks (grid0.coords t)) T (ix2 i (lane h' e)) = resBlock m c t 2 i (hl (hd p h') e) := by
  have a1 := dv_match (a0 m c) (a1 m c) (a2 m c) (a3 m c) (a4 m c) (a5 m c) (ph t) (hd p h') (bk t) e i
  have a2 := ref_dv (ph t) (hd p h') (bk t) i e H
  refine (pairDv_apply (masks_good (grid0.coords t)) hT i e).trans ((congrArg Real.toEReal a1).trans (a2.symm.trans ?_))
  rw [resBlock, ln'_hl]
end Pair

/-- What the body leaves at grid point `t` is the reference's block. -/
theorem out_block (y : S3x128x512.Idx) : out0_12 (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) y = resBlock m c t (y 0) (y 1) (y 2) := by
  rw [out_eq]
  have K := holds m c t H
  generalize iblk m c 0 t = x0 at K ⊢
  generalize iblk m c 1 t = x1 at K ⊢
  generalize iblk m c 2 t = x2 at K ⊢
  generalize iblk m c 3 t = x3 at K ⊢
  generalize iblk m c 4 t = x4 at K ⊢
  generalize iblk m c 5 t = x5 at K ⊢
  generalize iblk m c 6 t = x6 at K ⊢
  generalize iblk m c 7 t = x7 at K ⊢
  generalize iblk m c 8 t = x8 at K ⊢
  generalize iblk m c 9 t = x9 at K ⊢
  generalize iblk m c 10 t = x10 at K ⊢
  generalize iblk m c 11 t = x11 at K ⊢
  canon_tiles x h
  · exact piece _ 2 3 (resBlock m c t) (fun i h e => dv_block m c t H (good3 h (K (hd 3 h))) i e) x y (by omega) (by omega) (by omega)
  · exact piece _ 1 3 (resBlock m c t) (fun i h e => dk_block m c t H (good3 h (K (hd 3 h))) i e) x y (by omega) (by omega) (by omega)
  · exact piece _ 0 3 (resBlock m c t) (fun i h e => dq_block m c t H (good3 h (K (hd 3 h))) i e) x y (by omega) (by omega) (by omega)
  · exact piece _ 2 2 (resBlock m c t) (fun i h e => dv_block m c t H (good2 h (K (hd 2 h))) i e) x y (by omega) (by omega) (by omega)
  · exact piece _ 1 2 (resBlock m c t) (fun i h e => dk_block m c t H (good2 h (K (hd 2 h))) i e) x y (by omega) (by omega) (by omega)
  · exact piece _ 0 2 (resBlock m c t) (fun i h e => dq_block m c t H (good2 h (K (hd 2 h))) i e) x y (by omega) (by omega) (by omega)
  · exact piece _ 2 1 (resBlock m c t) (fun i h e => dv_block m c t H (good1 h (K (hd 1 h))) i e) x y (by omega) (by omega) (by omega)
  · exact piece _ 1 1 (resBlock m c t) (fun i h e => dk_block m c t H (good1 h (K (hd 1 h))) i e) x y (by omega) (by omega) (by omega)
  · exact piece _ 0 1 (resBlock m c t) (fun i h e => dq_block m c t H (good1 h (K (hd 1 h))) i e) x y (by omega) (by omega) (by omega)
  · exact piece _ 2 0 (resBlock m c t) (fun i h e => dv_block m c t H (good0 h (K (hd 0 h))) i e) x y (by omega) (by omega) (by omega)
  · exact piece _ 1 0 (resBlock m c t) (fun i h e => dk_block m c t H (good0 h (K (hd 0 h))) i e) x y (by omega) (by omega) (by omega)
  · exact piece _ 0 0 (resBlock m c t) (fun i h e => dq_block m c t H (good0 h (K (hd 0 h))) i e) x y (by omega) (by omega) (by omega)

theorem arr_eq : (dats m 0 c).arrAt 12 (cfgs 0).N = result m c := by
  refine (dats m 0 c).arrAt_eq_of_covers 12 _ (by decide +kernel) fun t hf y => ?_
  blk_simp
  rw [after0_12]
  refine (out_block m c t H y).trans ?_
  unfold resBlock
  refine congrArg (result m c) ?_
  blk_ext [idx12 t]
  all_goals (simp only [plc, ln'] <;> omega)

end Cert.AttnGrad
-- ==== Proof.Final.lean ====
/- The claims' last step: the precondition read as "every element is a real number", and the runs of the three
   programs put into the form of the conjuncts of `Cert.Claim`. -/
module

public import proofs.«01_k».proof.Defs
public import proofs.«01_k».proof.Proof.Arr
public import proofs.«01_k».proof.Proof.Gen.Kernel
public import proofs.«01_k».proof.Proof.Gen.Kernel.Frame
public import proofs.«01_k».proof.Proof.Gen.Pre_finite
public import proofs.«01_k».proof.Proof.Gen.ReferenceIdeal.Run
public import Idealize.ShloMosaic.Lib.Quiescent

@[expose] public section

noncomputable section

namespace Cert.AttnGrad

open Idealize.ShloMosaic Idealize.ShloMosaic.TcCoe Idealize.SL.Sem

/-- A value whose absolute value is below infinity is the real number it reads as. -/
theorem real_of_abs_lt (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h; exact absurd h (by decide)
  have hx : x < ⊤ := lt_of_le_of_lt (le_max_left _ _) hlt
  have hn : -x < ⊤ := lt_of_le_of_lt (le_max_right _ _) hlt
  refine (EReal.coe_toReal hx.ne ?_).symm
  rintro rfl
  exact absurd hn (by simp)

/-- The precondition's tests, all ones, say that every element of every argument is a real number. -/
theorem reals (x0 : FVec Ideal Cert.Pre_finite.S10x8192x512 .bf16) (x1 : FVec Ideal Cert.Pre_finite.S8192x1024 .bf16)
    (x2 : FVec Ideal Cert.Pre_finite.S8192x8x64 .f32) (x3 : FVec Ideal Cert.Pre_finite.S8192x8 .f32)
    (x4 : FVec Ideal Cert.Pre_finite.S8192x8x64 .f32) (x5 : FVec Ideal Cert.Pre_finite.S8192x8 .f32)
    (h : (Cert.Pre_finite.fn (F := Ideal) x0 x1 x2 x3 x4 x5).1 = (fun _ => 1#1)
      ∧ (Cert.Pre_finite.fn (F := Ideal) x0 x1 x2 x3 x4 x5).2.1 = (fun _ => 1#1)
      ∧ (Cert.Pre_finite.fn (F := Ideal) x0 x1 x2 x3 x4 x5).2.2.1 = (fun _ => 1#1)
      ∧ (Cert.Pre_finite.fn (F := Ideal) x0 x1 x2 x3 x4 x5).2.2.2.1 = (fun _ => 1#1)
      ∧ (Cert.Pre_finite.fn (F := Ideal) x0 x1 x2 x3 x4 x5).2.2.2.2.1 = (fun _ => 1#1)
      ∧ (Cert.Pre_finite.fn (F := Ideal) x0 x1 x2 x3 x4 x5).2.2.2.2.2 = (fun _ => 1#1)) :
    Reals x0 x1 x2 x3 x4 x5 :=
  ⟨fun i => real_of_abs_lt _ (congrFun h.1 i), fun i => real_of_abs_lt _ (congrFun h.2.1 i),
    fun i => real_of_abs_lt _ (congrFun h.2.2.1 i), fun i => real_of_abs_lt _ (congrFun h.2.2.2.1 i),
    fun i => real_of_abs_lt _ (congrFun h.2.2.2.2.1 i), fun i => real_of_abs_lt _ (congrFun h.2.2.2.2.2 i)⟩

/-- The reference's frame: a program without a launch has no counter, so that none is left above zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result array is the reference's, element by element, wherever the arguments are real. -/
theorem algebraic : Cert.algebraic_KernelIdeal_ReferenceIdeal_pre_finite := by
  intro m ρ m' ρ' hpre hagree
  refine ⟨fun c => result m c, ?_, ?_⟩
  · exact (θ_run Cert.KernelIdeal.defs _ _).mono (fun r h c => ⟨(h c).1.trans (arr_eq m c (reals _ _ _ _ _ _ (hpre c))), (h c).2⟩)
      (Cert.KernelIdeal.Value.run_blocks (F := Ideal) m ρ)
  · refine (θ_run Cert.ReferenceIdeal.defs _ _).mono (fun r h c => ⟨((h c).1.trans (Cert.ReferenceIdeal.Read.val_main_v244_eq (F := Ideal) (StableHlo.launchContents m' c))).trans ?_, (h c).2⟩)
      (Cert.ReferenceIdeal.Value.run (F := Ideal) m' ρ')
    obtain ⟨h0, h1, h2, h3, h4, h5⟩ := hagree c
    exact (congr (congr (congr (congr (congr (congrArg _ h0) h1) h2) h3) h4) h5)

end Cert.AttnGrad

end
-- ==== Proof.Sums.lean ====
/- A contraction as the kernels add it up, in two parts, in three or in four; and a weight matrix laid out in four slots,
   read at an index. -/
module

public import Mathlib.Data.EReal.Operations
public import Mathlib.Algebra.BigOperators.Fin
public import Idealize.ShloMosaic.Lib.Pipeline.ValueKit
public import Idealize.ShloMosaic.Lib.Pointwise

@[expose] public section

noncomputable section

namespace Cert.Mlp

open Idealize.ShloMosaic

theorem sum_two (f : Fin 8192 → EReal) :
    ∑ k, f k = (∑ q : Fin 4096, f ⟨q.val, by omega⟩) + ∑ q : Fin 4096, f ⟨4096 + q.val, by omega⟩ :=
  Fin.sum_univ_add (a := 4096) (b := 4096) f

/-- The same for 5120 terms in two parts, and for 6144 in three. -/
theorem sum_halves (f : Fin 5120 → EReal) :
    ∑ k, f k = (∑ q : Fin 2560, f ⟨q.val, by omega⟩) + ∑ q : Fin 2560, f ⟨2560 + q.val, by omega⟩ :=
  Fin.sum_univ_add (a := 2560) (b := 2560) f
theorem sum_three (f : Fin 6144 → EReal) :
    ∑ k, f k = (∑ q : Fin 2048, f ⟨q.val, by omega⟩) + (∑ q : Fin 2048, f ⟨2048 + q.val, by omega⟩) + ∑ q : Fin 2048, f ⟨4096 + q.val, by omega⟩ :=
  (Fin.sum_univ_add (a := 4096) (b := 2048) f).trans (congr (congrArg HAdd.hAdd (Fin.sum_univ_add (a := 2048) (b := 2048) _)) rfl)

/-- The `r`-th of four parts of a sum. -/
def part (f : Fin 8192 → EReal) (r : Fin 4) : EReal := ∑ q : Fin 2048, f ⟨r.val * 2048 + q.val, by omega⟩

theorem sum_four (f : Fin 8192 → EReal) : ∑ k, f k = part f 0 + part f 1 + part f 2 + part f 3 := by
  refine (Fin.sum_univ_add (a := 6144) (b := 2048) f).trans (congr (congrArg HAdd.hAdd ?_) rfl)
  refine (Fin.sum_univ_add (a := 4096) (b := 2048) _).trans (congr (congrArg HAdd.hAdd ?_) rfl)
  refine (Fin.sum_univ_add (a := 2048) (b := 2048) _).trans (congr (congrArg HAdd.hAdd ?_) rfl)
  exact Finset.sum_congr rfl fun q _ => congrArg f (Fin.ext (show q.val = 0 * 2048 + q.val by omega))

/-- The weight with 8192 rows, its rows cut into four slots. -/
theorem row_slots (x : (⟨3, ![2, 8192, 2048]⟩ : Shape).Idx → EReal)
    (hc : (⟨3, ![2, 8192, 2048]⟩ : Shape).ShapeCasts ⟨4, ![2, 4, 2048, 2048]⟩)
    (ht : (⟨4, ![2, 4, 2048, 2048]⟩ : Shape).Transposes [1, 0, 2, 3] ⟨4, ![4, 2, 2048, 2048]⟩)
    (s : Fin 4) (l : Fin 2) (i j : Fin 2048) (I : Fin 8192) (hI : I.val = s.val * 2048 + i.val) :
    transpose ⟨4, ![4, 2, 2048, 2048]⟩ [1, 0, 2, 3] (shapeCast ⟨4, ![2, 4, 2048, 2048]⟩ x hc) ht (ix4 s l i j) = x (ix3 l I j) := by
  refine (transpose_apply _ _ _ _ (ix4 l s i j) (fun b => by fin_cases b <;> rfl)).trans ?_
  refine shapeCast_apply _ _ _ (ix3 l I j) ?_
  rw [Shape.rowMajor_val_three, Shape.rowMajor_val_four]
  show (l.val * 8192 + I.val) * 2048 + j.val = ((l.val * 4 + s.val) * 2048 + i.val) * 2048 + j.val
  omega

/-- The weight with 8192 columns, its columns cut into four slots. -/
theorem column_slots (x : (⟨3, ![2, 2048, 8192]⟩ : Shape).Idx → EReal)
    (hc : (⟨3, ![2, 2048, 8192]⟩ : Shape).ShapeCasts ⟨4, ![2, 2048, 4, 2048]⟩)
    (ht : (⟨4, ![2, 2048, 4, 2048]⟩ : Shape).Transposes [2, 0, 1, 3] ⟨4, ![4, 2, 2048, 2048]⟩)
    (s : Fin 4) (l : Fin 2) (i j : Fin 2048) (J : Fin 8192) (hJ : J.val = s.val * 2048 + j.val) :
    transpose ⟨4, ![4, 2, 2048, 2048]⟩ [2, 0, 1, 3] (shapeCast ⟨4, ![2, 2048, 4, 2048]⟩ x hc) ht (ix4 s l i j) = x (ix3 l i J) := by
  refine (transpose_apply _ _ _ _ (ix4 l i s j) (fun b => by fin_cases b <;> rfl)).trans ?_
  refine shapeCast_apply _ _ _ (ix3 l i J) ?_
  rw [Shape.rowMajor_val_three, Shape.rowMajor_val_four]
  show (l.val * 2048 + i.val) * 8192 + J.val = ((l.val * 2048 + i.val) * 4 + s.val) * 2048 + j.val
  omega

end Cert.Mlp

end
-- ==== Proof.Da.lean ====
/- The gradient of the first feed-forward product's output (`mm_ffn2_bwd_1`): the kernel multiplies by twice the saved activation,
   where the reference also selects on the sign of what the activation came from; where that is not positive the activation is
   zero and so is the product. -/
module

public import proofs.«01_k».proof.Defs
public import proofs.«01_k».proof.Proof.Sums
public import proofs.«01_k».proof.Proof.Gen.Da
public import proofs.«01_k».proof.Proof.Gen.DaIdeal.Frame
public import proofs.«01_k».proof.Proof.Gen.DaIdeal.Value
public import proofs.«01_k».proof.Proof.Gen.DaRefIdeal.Run
public import proofs.«01_k».proof.Proof.Gen.DaRefIdeal.Read
public import Idealize.ShloMosaic.Lib.Pipeline.ValueKit
public import Idealize.ShloMosaic.Lib.StableHlo.RunRead
public import Idealize.ShloMosaic.Lib.Pointwise
public import Idealize.ShloMosaic.Lib.Quiescent

@[expose] public section

set_option maxRecDepth 16384

noncomputable section

namespace Cert.DaGrad

open Cert.DaIdeal Cert.DaIdeal.Gen Idealize.ShloMosaic Idealize.ShloMosaic.TcCoe Idealize.SL.Sem

theorem idx0 : ∀ t : Fin cfg0.N, win0_0.index t = ![t.val / 8, 0] := (by decide +kernel : ∀ t : Fin grid0.N, _)
theorem idx1 : ∀ t : Fin cfg0.N, win0_1.index t = ![t.val % 8 / 2, 1, t.val % 8 % 2, 0] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)

/-- The constant 2 of both programs. -/
abbrev two : EReal := Ideal.ofBits .f32 0x40000000#32

/-- The block's result at an index. -/
theorem pay_apply (v0 : FVec Ideal S1024x2048 .bf16) (v1 : FVec Ideal S1x1x1024x2048 .bf16) (v2 : FVec Ideal S1024x1024 .bf16) (i j : Fin 1024) :
    k0_pay1 (F := Ideal) v0 v1 v2 (ix2 i j) = (∑ k : Fin 2048, v0 (ix2 i k) * v1 (ix4 0 0 j k)) * (two * v2 (ix2 i j)) := by
  pointwise [k0_pay1]

variable (m : (ℓ : Loc nD τ sig) → Buf (Elt Ideal) ℓ) (c : Dev nD)

abbrev a0 : FVec Ideal S8192x8192 .f32 := m ((c : Thread nD τ).loc main_arg0)
abbrev a1 : FVec Ideal S8192x2048 .bf16 := m ((c : Thread nD τ).loc main_arg1)
abbrev a2 : FVec Ideal S2x8192x2048 .f32 := m ((c : Thread nD τ).loc main_arg2)
/-- The activation, which the host computes before the kernel. -/
abbrev r0 : FVec Ideal S8192x8192 .f32 := Cert.DaRefIdeal.Read.val_main_v2 (F := Ideal) (a0 m c)

theorem V_v1 : (V m c main_v1 : FVec Ideal S8192x8192 .bf16) = r0 m c := by
  unfold V
  after_reads_simp
  rfl
theorem V_v4 (s : Fin 4) (l : Fin 2) (i j : Fin 2048) (I : Fin 8192) (hI : I.val = s.val * 2048 + i.val) :
    (V m c main_v4 : FVec Ideal S4x2x2048x2048 .bf16) (ix4 s l i j) = a2 m c (ix3 l I j) := by
  have e : (V m c main_v4 : FVec Ideal S4x2x2048x2048 .bf16) = transpose S4x2x2048x2048 [1, 0, 2, 3] (shapeCast S2x4x2048x2048 (a2 m c)
      shapeCasts_S2x8192x2048_S2x4x2048x2048) transposes_S2x4x2048x2048_S4x2x2048x2048_1_0_2_3 := by
    unfold V
    after_reads_simp
    rfl
  rw [e]
  exact Cert.Mlp.row_slots _ _ _ s l i j I hI

theorem blk0 (t : Fin cfg0.N) (i : Fin 1024) (k : Fin 2048) (I : Fin 8192) (hI : I.val = t.val / 8 * 1024 + i.val) :
    iblk m c 0 t (ix2 i k) = a1 m c (ix2 I k) := by
  blk_ext [iblk, idx0 t]
  all_goals omega
theorem blk1 (t : Fin cfg0.N) (j : Fin 1024) (k : Fin 2048) (J : Fin 8192) (hJ : J.val = t.val % 8 * 1024 + j.val) :
    iblk m c 1 t (ix4 0 0 j k) = a2 m c (ix3 1 J k) := by
  rw [← V_v4 m c ⟨t.val % 8 / 2, by omega⟩ 1 ⟨t.val % 8 % 2 * 1024 + j.val, by omega⟩ k J
    (by show J.val = t.val % 8 / 2 * 2048 + (t.val % 8 % 2 * 1024 + j.val); omega)]
  blk_ext [iblk, idx1 t]
  all_goals omega
theorem blk2 (t : Fin cfg0.N) (i j : Fin 1024) (I J : Fin 8192) (hI : I.val = t.val / 8 * 1024 + i.val) (hJ : J.val = t.val % 8 * 1024 + j.val) :
    iblk m c 2 t (ix2 i j) = r0 m c (ix2 I J) := by
  rw [← V_v1]
  blk_ext [iblk, idx2 t]
  all_goals omega

/-- The reference's activation and product at an index. -/
theorem relu_apply (x0 : FVec Ideal S8192x8192 .f32) (i : S8192x8192.Idx) : Cert.DaRefIdeal.Read.val_main_v2 (F := Ideal) x0 i = max (x0 i) 0 := by
  rw [Cert.DaRefIdeal.Read.val_main_v2_apply, Cert.DaRefIdeal.Read.val_main_call0_v0_apply, Cert.DaRefIdeal.Read.val_main_call0_cst_apply]
  exact congrArg (max (x0 i)) Ideal.ofBits_zero_f32
theorem dot_apply (x1 : FVec Ideal S8192x2048 .bf16) (x2 : FVec Ideal S2x8192x2048 .f32) (i j : Fin 8192) :
    Cert.DaRefIdeal.Read.val_main_v11 (F := Ideal) x1 x2 (ix2 i j) = ∑ k : Fin 2048, x1 (ix2 i k) * x2 (ix3 1 j k) := by
  refine (Cert.DaRefIdeal.Read.val_main_v11_apply _ _ _).trans (Finset.sum_congr rfl fun k _ => ?_)
  rw [Cert.DaRefIdeal.Read.val_main_v10_apply, Cert.DaRefIdeal.Read.val_main_v1_apply, Cert.DaRefIdeal.Read.val_main_v0_apply]
  refine congr (congrArg HMul.hMul (congrArg x1 ?_)) (congrArg x2 ?_)
  · funext a
    fin_cases a <;> rfl
  · funext a
    match a with
    | ⟨0, _⟩ => rfl
    | ⟨1, _⟩ => exact Fin.ext (show (j.val * 2048 + k.val) / 2048 % 8192 = j.val by omega)
    | ⟨2, _⟩ => exact Fin.ext (show (j.val * 2048 + k.val) % 2048 = k.val by omega)

/-- A selection on `0 < x` of a product that is zero elsewhere is the product. -/
theorem select_pos (x y : EReal) (h : ¬0 < x → y = 0) : (Scalar.select (FloatOps.cmpf (F := Ideal) (φ := .f32) .ogt x 0) y 0 : EReal) = y := by
  by_cases hx : 0 < x
  · simp [Scalar.select, FloatOps.cmpf, Ideal.cmp, hx]
  · rw [h hx]
    unfold Scalar.select
    split <;> rfl

/-- The reference's result at an index: the product by twice the activation. -/
theorem ref_apply (x0 : FVec Ideal S8192x8192 .f32) (x1 : FVec Ideal S8192x2048 .bf16) (x2 : FVec Ideal S2x8192x2048 .f32) (i j : Fin 8192) :
    Cert.DaRefIdeal.Read.val_main_v15 (F := Ideal) x0 x1 x2 (ix2 i j)
      = (∑ k : Fin 2048, x1 (ix2 i k) * x2 (ix3 1 j k)) * (two * Cert.DaRefIdeal.Read.val_main_v2 (F := Ideal) x0 (ix2 i j)) := by
  have e3 : Cert.DaRefIdeal.Read.val_main_v3 (F := Ideal) (ix2 i j) = (0 : EReal) := by
    rw [Cert.DaRefIdeal.Read.val_main_v3_apply, Cert.DaRefIdeal.Read.val_main_cst_apply]
    exact Ideal.ofBits_zero_f32
  have e13 : Cert.DaRefIdeal.Read.val_main_v13 (F := Ideal) (ix2 i j) = (0 : EReal) := by
    rw [Cert.DaRefIdeal.Read.val_main_v13_apply, Cert.DaRefIdeal.Read.val_main_cst_2_apply]
    exact Ideal.ofBits_zero_f32
  have e7 : Cert.DaRefIdeal.Read.val_main_v7 (F := Ideal) (ix2 i j) = two := by
    rw [Cert.DaRefIdeal.Read.val_main_v7_apply, Cert.DaRefIdeal.Read.val_main_cst_1_apply]
    rfl
  have e12 : Cert.DaRefIdeal.Read.val_main_v12 (F := Ideal) x0 x1 x2 (ix2 i j)
      = (∑ k : Fin 2048, x1 (ix2 i k) * x2 (ix3 1 j k)) * (two * Cert.DaRefIdeal.Read.val_main_v2 (F := Ideal) x0 (ix2 i j)) := by
    rw [Cert.DaRefIdeal.Read.val_main_v12_apply, Cert.DaRefIdeal.Read.val_main_v8_apply, dot_apply, e7]
    rfl
  rw [Cert.DaRefIdeal.Read.val_main_v15_apply, Cert.DaRefIdeal.Read.val_main_v14_apply, Cert.DaRefIdeal.Read.val_main_v4_apply, e3, e13, e12]
  refine select_pos _ _ fun h => ?_
  rw [relu_apply, max_eq_right (not_lt.1 h), mul_zero, mul_zero]

theorem arr_eq : (dats m 0 c).arrAt 3 cfg0.N = Cert.DaRefIdeal.Read.val_main_v15 (F := Ideal) (a0 m c) (a1 m c) (a2 m c) := by
  refine (dats m 0 c).arrAt_eq_of_covers 3 _ (by decide +kernel) fun t hf y => ?_
  have hN : t.val < 64 := lt_of_lt_of_eq t.isLt (show cfg0.N = 64 from N_0)
  blk_simp
  rw [after0_3]
  frame_out
  obtain ⟨i, j, rfl⟩ : ∃ (i j : Fin 1024), y = ix2 i j := ⟨y 0, y 1, by funext a; fin_cases a <;> rfl⟩
  have e : ((cfg0.win 3).blk t).view.emb (ix2 i j)
      = ix2 (⟨t.val / 8 * 1024 + i.val, by omega⟩ : Fin 8192) (⟨t.val % 8 * 1024 + j.val, by omega⟩ : Fin 8192) := by
    blk_ext [idx3 t]
    all_goals omega
  rw [e, ref_apply, pay_apply]
  refine congr (congrArg HMul.hMul (Finset.sum_congr rfl fun k _ => ?_)) (congrArg (two * ·) (blk2 m c t i j _ _ rfl rfl))
  exact congr (congrArg HMul.hMul (blk0 m c t i k _ rfl)) (blk1 m c t j k _ rfl)

/-- The program read over bits and the one read over the reals have the same text, so the same body table. -/
theorem defs_eq : Cert.Da.defs (F := Bits) = Cert.DaIdeal.defs (F := Bits) := by
  refine congrArg (Pipeline.defs Cert.DaIdeal.pcfgs) (congrArg Defs.onTc (funext fun l => funext fun a => ?_))
  obtain ⟨_ | l, hl⟩ := l
  · rfl
  · exact absurd hl (by omega)

theorem frame_kernel : Cert.quiescent_Da := by
  intro m ρ _
  have h := Cert.DaIdeal.Gen.frame (F := Bits) m ρ
  rw [← defs_eq] at h
  exact h
theorem frame_ideal : Cert.quiescent_DaIdeal := fun m ρ _ => Cert.DaIdeal.Gen.frame (F := Ideal) m ρ
theorem frame_reference : Cert.quiescent_DaRefIdeal := fun m ρ _ =>
  (θ_run Cert.DaRefIdeal.defs _ _).mono (fun r h => ⟨fun c => (h c).2, sem_eq_zero_of_no_sems (by decide) r.2⟩)
    (Cert.DaRefIdeal.Value.run (F := Ideal) m ρ)

theorem algebraic : Cert.algebraic_DaIdeal_DaRefIdeal := by
  intro m ρ m' ρ' _ hagree
  refine ⟨fun c => Cert.DaRefIdeal.Read.val_main_v15 (F := Ideal) (a0 m c) (a1 m c) (a2 m c), ?_, ?_⟩
  · exact (θ_run Cert.DaIdeal.defs _ _).mono (fun r h c => ⟨(h c).1.trans (arr_eq m c), (h c).2⟩)
      (Cert.DaIdeal.Value.run_blocks (F := Ideal) m ρ)
  · refine (θ_run Cert.DaRefIdeal.defs _ _).mono (fun r h c => ⟨((h c).1.trans (Cert.DaRefIdeal.Read.val_main_v15_eq (F := Ideal) _ _ _)).trans ?_, (h c).2⟩)
      (Cert.DaRefIdeal.Value.run (F := Ideal) m' ρ')
    obtain ⟨h0, h1, h2⟩ := hagree c
    exact congr (congr (congrArg _ h0) h1) h2

end Cert.DaGrad

end
-- ==== Proof.Dw2.lean ====
/- The second feed-forward weight's gradient (`mm_ffn2_dw`): the kernel adds the products of two halves of the batch in its
   scratch; each element is the reference's, with its factors in the other order. -/
module

public import proofs.«01_k».proof.Defs
public import proofs.«01_k».proof.Proof.Sums
public import proofs.«01_k».proof.Proof.Gen.Dw2
public import proofs.«01_k».proof.Proof.Gen.Dw2Ideal.Frame
public import proofs.«01_k».proof.Proof.Gen.Dw2Ideal.Value
public import proofs.«01_k».proof.Proof.Gen.Dw2RefIdeal.Run
public import proofs.«01_k».proof.Proof.Gen.Dw2RefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

namespace Cert.Dw2Grad

open Cert.Dw2Ideal Cert.Dw2Ideal.Gen Idealize.ShloMosaic Idealize.ShloMosaic.TcCoe Idealize.SL.Sem

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 4, t.val / 2 % 2] := (by decide +kernel : ∀ t : Fin grid0.N, _)

/-- One part's product at an index. -/
theorem part_apply (v0 v1 : FVec Ideal S4096x1024 .bf16) (i j : Fin 1024) :
    k0_pay1 (F := Ideal) v0 v1 (ix2 i j) = ∑ k : Fin 4096, v0 (ix2 k i) * v1 (ix2 k j) := by
  pointwise [k0_pay1]

/-- What the kernel writes back: the second part's product on the first's. -/
theorem parts_apply (v0 v1 w0 w1 : FVec Ideal S4096x1024 .bf16) (i j : Fin 1024) :
    k0_pay4 (F := Ideal) (k0_pay3 (F := Ideal) w0 w1 (k0_pay2 (F := Ideal) v0 v1)) (ix2 i j)
      = k0_pay1 (F := Ideal) v0 v1 (ix2 i j) + k0_pay1 (F := Ideal) w0 w1 (ix2 i j) := by
  unfold k0_pay4 k0_pay3 k0_pay2
  generalize k0_pay1 (F := Ideal) v0 v1 = X
  generalize k0_pay1 (F := Ideal) w0 w1 = Y
  pointwise []

variable (m : (ℓ : Loc nD τ sig) → Buf (Elt Ideal) ℓ) (c : Dev nD)

abbrev a0 : FVec Ideal S8192x8192 .f32 := m ((c : Thread nD τ).loc main_arg0)
abbrev a1 : FVec Ideal S8192x2048 .bf16 := m ((c : Thread nD τ).loc main_arg1)
/-- The squared activation, which the host computes before the kernel. -/
abbrev f0 : FVec Ideal S8192x8192 .f32 := Cert.Dw2RefIdeal.Read.val_main_v2 (F := Ideal) (a0 m c)

theorem V_v2 : (V m c main_v2 : FVec Ideal S8192x8192 .bf16) = f0 m c := by
  unfold V
  after_reads_simp
  rfl

theorem scratch (t : Fin cfg0.N) (h : t.val % 2 = 0) : (outsAt0 m c t.val t.isLt).2 = k0_pay2 (iblk m c 0 t) (iblk m c 1 t) := by
  rw [outsAt0_A m c t h (by omega) (by omega)]
  frame_out

theorem out (t : Fin cfg0.N) (h : t.val % 2 = 1) (s : Fin cfg0.N) (hs : s.val = t.val - 1) :
    (outsAt0 m c t.val t.isLt).1 = k0_pay4 (k0_pay3 (iblk m c 0 t) (iblk m c 1 t) (k0_pay2 (iblk m c 0 s) (iblk m c 1 s))) := by
  have e : s = ⟨t.val - 1, lt_of_le_of_lt (Nat.sub_le _ _) t.isLt⟩ := Fin.ext hs
  rw [e, outsAt0_B m c t (by omega) h h, scratch m c ⟨t.val - 1, lt_of_le_of_lt (Nat.sub_le _ _) t.isLt⟩ (by show (t.val - 1) % 2 = 0; omega)]
  frame_out
  rw [read_unread_whole]

theorem blk0 (t : Fin cfg0.N) (k : Fin 4096) (i : Fin 1024) (K : Fin 8192) (I : Fin 8192)
    (hK : K.val = t.val % 2 * 4096 + k.val) (hI : I.val = t.val / 4 * 1024 + i.val) : iblk m c 0 t (ix2 k i) = f0 m c (ix2 K I) := by
  rw [← V_v2]
  blk_ext [iblk, idx0 t]
  all_goals omega
theorem blk1 (t : Fin cfg0.N) (k : Fin 4096) (i : Fin 1024) (K : Fin 8192) (I : Fin 2048)
    (hK : K.val = t.val % 2 * 4096 + k.val) (hI : I.val = t.val / 2 % 2 * 1024 + i.val) : iblk m c 1 t (ix2 k i) = a1 m c (ix2 K I) := by
  blk_ext [iblk, idx1 t]
  all_goals omega

/-- The reference's result at an index. -/
theorem ref_apply (x0 : FVec Ideal S8192x8192 .f32) (x1 : FVec Ideal S8192x2048 .bf16) (i : Fin 8192) (j : Fin 2048) :
    Cert.Dw2RefIdeal.Read.val_main_v7 (F := Ideal) x0 x1 (ix2 i j)
      = ∑ k : Fin 8192, Cert.Dw2RefIdeal.Read.val_main_v2 (F := Ideal) x0 (ix2 k i) * x1 (ix2 k j) := by
  rw [Cert.Dw2RefIdeal.Read.val_main_v7_apply, Cert.Dw2RefIdeal.Read.val_main_v6_apply]
  refine (Cert.Dw2RefIdeal.Read.val_main_v5_apply _ _ _).trans (Finset.sum_congr rfl fun k _ => ?_)
  rw [Cert.Dw2RefIdeal.Read.val_main_v4_apply, mul_comm]
  refine congr (congrArg HMul.hMul (congrArg _ ?_)) (congrArg x1 ?_) <;> (funext a; fin_cases a <;> rfl)

theorem arr_eq : (dats m 0 c).arrAt 2 cfg0.N = Cert.Dw2RefIdeal.Read.val_main_v7 (F := Ideal) (a0 m c) (a1 m c) := by
  refine (dats m 0 c).arrAt_eq_of_covers 2 _ (by decide +kernel) fun t hf y => ?_
  have ht : t.val % 2 = 1 := (flush0_2 t).mp hf
  have hN : t.val < 32 := lt_of_lt_of_eq t.isLt (show cfg0.N = 32 from N_0)
  blk_simp
  rw [after0_2, out m c t ht ⟨t.val - 1, lt_of_le_of_lt (Nat.sub_le _ _) t.isLt⟩ rfl]
  obtain ⟨i, j, rfl⟩ : ∃ (i j : Fin 1024), y = ix2 i j := ⟨y 0, y 1, by funext a; fin_cases a <;> rfl⟩
  refine (parts_apply _ _ _ _ i j).trans ?_
  have e : ((cfg0.win 2).blk t).view.emb (ix2 i j)
      = ix2 (⟨t.val / 4 * 1024 + i.val, by omega⟩ : Fin 8192) (⟨t.val / 2 % 2 * 1024 + j.val, by omega⟩ : Fin 2048) := by
    blk_ext [idx2 t]
    all_goals omega
  rw [e, ref_apply, Cert.Mlp.sum_two, part_apply, part_apply]
  refine congr (congrArg HAdd.hAdd (Finset.sum_congr rfl fun k _ => ?_)) (Finset.sum_congr rfl fun k _ => ?_)
  · rw [blk0 m c _ k i ⟨k.val, by omega⟩ ⟨t.val / 4 * 1024 + i.val, by omega⟩ (by show k.val = (t.val - 1) % 2 * 4096 + k.val; omega) (by show t.val / 4 * 1024 + i.val = (t.val - 1) / 4 * 1024 + i.val; omega),
      blk1 m c _ k j ⟨k.val, by omega⟩ ⟨t.val / 2 % 2 * 1024 + j.val, by omega⟩ (by show k.val = (t.val - 1) % 2 * 4096 + k.val; omega) (by show t.val / 2 % 2 * 1024 + j.val = (t.val - 1) / 2 % 2 * 1024 + j.val; omega)]
  · rw [blk0 m c t k i ⟨4096 + k.val, by omega⟩ ⟨t.val / 4 * 1024 + i.val, by omega⟩ (by show 4096 + k.val = t.val % 2 * 4096 + k.val; omega) rfl,
      blk1 m c t k j ⟨4096 + k.val, by omega⟩ ⟨t.val / 2 % 2 * 1024 + j.val, by omega⟩ (by show 4096 + k.val = t.val % 2 * 4096 + k.val; omega) rfl]

/-- The program read over bits and the one read over the reals have the same text, so the same body table. -/
theorem defs_eq : Cert.Dw2.defs (F := Bits) = Cert.Dw2Ideal.defs (F := Bits) := by
  refine congrArg (Pipeline.defs Cert.Dw2Ideal.pcfgs) (congrArg Defs.onTc (funext fun l => funext fun a => ?_))
  obtain ⟨_ | l, hl⟩ := l
  · rfl
  · exact absurd hl (by omega)

theorem frame_kernel : Cert.quiescent_Dw2 := by
  intro m ρ _
  have h := Cert.Dw2Ideal.Gen.frame (F := Bits) m ρ
  rw [← defs_eq] at h
  exact h
theorem frame_ideal : Cert.quiescent_Dw2Ideal := fun m ρ _ => Cert.Dw2Ideal.Gen.frame (F := Ideal) m ρ
theorem frame_reference : Cert.quiescent_Dw2RefIdeal := fun m ρ _ =>
  (θ_run Cert.Dw2RefIdeal.defs _ _).mono (fun r h => ⟨fun c => (h c).2, sem_eq_zero_of_no_sems (by decide) r.2⟩)
    (Cert.Dw2RefIdeal.Value.run (F := Ideal) m ρ)

theorem algebraic : Cert.algebraic_Dw2Ideal_Dw2RefIdeal := by
  intro m ρ m' ρ' _ hagree
  refine ⟨fun c => Cert.Dw2RefIdeal.Read.val_main_v7 (F := Ideal) (a0 m c) (a1 m c), ?_, ?_⟩
  · exact (θ_run Cert.Dw2Ideal.defs _ _).mono (fun r h c => ⟨(h c).1.trans (arr_eq m c), (h c).2⟩)
      (Cert.Dw2Ideal.Value.run_blocks (F := Ideal) m ρ)
  · refine (θ_run Cert.Dw2RefIdeal.defs _ _).mono (fun r h c => ⟨((h c).1.trans (Cert.Dw2RefIdeal.Read.val_main_v7_eq (F := Ideal) _ _)).trans ?_, (h c).2⟩)
      (Cert.Dw2RefIdeal.Value.run (F := Ideal) m' ρ')
    obtain ⟨h0, h1⟩ := hagree c
    exact congr (congrArg _ h0) h1

end Cert.Dw2Grad

end
-- ==== Proof.Dw1.lean ====
/- The first feed-forward weight's gradient (`mm_ffn1_dw`): the kernel adds the products of two halves of the batch in its
   scratch and lays the sum out in the slots of the gradient's exchange; each element is the reference's. -/
module

public import proofs.«01_k».proof.Defs
public import proofs.«01_k».proof.Proof.Sums
public import proofs.«01_k».proof.Proof.Gen.Dw1
public import proofs.«01_k».proof.Proof.Gen.Dw1Ideal.Frame
public import proofs.«01_k».proof.Proof.Gen.Dw1Ideal.Value
public import proofs.«01_k».proof.Proof.Gen.Dw1RefIdeal.Run
public import proofs.«01_k».proof.Proof.Gen.Dw1RefIdeal.Read
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Dw1Grad

open Cert.Dw1Ideal Cert.Dw1Ideal.Gen Idealize.ShloMosaic Idealize.ShloMosaic.TcCoe Idealize.SL.Sem

theorem idx0 : ∀ t : Fin cfg0.N, win0_0.index t = ![t.val % 2, t.val / 16] := (by decide +kernel : ∀ t : Fin grid0.N, _)
theorem idx1 : ∀ t : Fin cfg0.N, win0_1.index t = ![t.val % 2, t.val / 2 % 8] := (by decide +kernel : ∀ t : Fin grid0.N, _)
theorem idx2 : ∀ t : Fin cfg0.N, win0_2.index t = ![t.val / 2 % 8 / 2, t.val / 16, t.val / 2 % 8 % 2] := (by decide +kernel : ∀ t : Fin grid0.N, _)

/-- One part's product at an index. -/
theorem part_apply (v0 v1 : FVec Ideal S4096x1024 .bf16) (i j : Fin 1024) :
    k0_pay1 (F := Ideal) v0 v1 (ix2 i j) = ∑ k : Fin 4096, v0 (ix2 k i) * v1 (ix2 k j) := by
  pointwise [k0_pay1]

/-- What the kernel writes back: the second part's product on the first's. -/
theorem parts_apply (v0 v1 w0 w1 : FVec Ideal S4096x1024 .bf16) (i j : Fin 1024) :
    k0_pay4 (F := Ideal) (k0_pay3 (F := Ideal) w0 w1 (k0_pay2 (F := Ideal) v0 v1)) (ix3 0 i j)
      = k0_pay1 (F := Ideal) v0 v1 (ix2 i j) + k0_pay1 (F := Ideal) w0 w1 (ix2 i j) := by
  unfold k0_pay4 k0_pay3 k0_pay2
  generalize k0_pay1 (F := Ideal) v0 v1 = X
  generalize k0_pay1 (F := Ideal) w0 w1 = Y
  pointwise []

variable (m : (ℓ : Loc nD τ sig) → Buf (Elt Ideal) ℓ) (c : Dev nD)

abbrev a0 : FVec Ideal S8192x2048 .bf16 := m ((c : Thread nD τ).loc main_arg0)
abbrev a1 : FVec Ideal S8192x8192 .bf16 := m ((c : Thread nD τ).loc main_arg1)

theorem scratch (t : Fin cfg0.N) (h : t.val % 2 = 0) : (outsAt0 m c t.val t.isLt).2 = k0_pay2 (iblk m c 0 t) (iblk m c 1 t) := by
  rw [outsAt0_A m c t h (by omega) (by omega)]
  frame_out

theorem out (t : Fin cfg0.N) (h : t.val % 2 = 1) (s : Fin cfg0.N) (hs : s.val = t.val - 1) :
    (outsAt0 m c t.val t.isLt).1 = k0_pay4 (k0_pay3 (iblk m c 0 t) (iblk m c 1 t) (k0_pay2 (iblk m c 0 s) (iblk m c 1 s))) := by
  have e : s = ⟨t.val - 1, lt_of_le_of_lt (Nat.sub_le _ _) t.isLt⟩ := Fin.ext hs
  rw [e, outsAt0_B m c t (by omega) h h, scratch m c ⟨t.val - 1, lt_of_le_of_lt (Nat.sub_le _ _) t.isLt⟩ (by show (t.val - 1) % 2 = 0; omega)]
  frame_out
  rw [read_unread_whole]

theorem blk0 (t : Fin cfg0.N) (k : Fin 4096) (i : Fin 1024) (K : Fin 8192) (I : Fin 2048)
    (hK : K.val = t.val % 2 * 4096 + k.val) (hI : I.val = t.val / 16 * 1024 + i.val) : iblk m c 0 t (ix2 k i) = a0 m c (ix2 K I) := by
  blk_ext [iblk, idx0 t]
  all_goals omega
theorem blk1 (t : Fin cfg0.N) (k : Fin 4096) (i : Fin 1024) (K : Fin 8192) (I : Fin 8192)
    (hK : K.val = t.val % 2 * 4096 + k.val) (hI : I.val = t.val / 2 % 8 * 1024 + i.val) : iblk m c 1 t (ix2 k i) = a1 m c (ix2 K I) := by
  blk_ext [iblk, idx1 t]
  all_goals omega

/-- The reference's result at an index: the gradient's columns cut into four slots. -/
theorem ref_apply (x0 : FVec Ideal S8192x2048 .bf16) (x1 : FVec Ideal S8192x8192 .bf16) (s : Fin 4) (i j : Fin 2048) (J : Fin 8192)
    (hJ : J.val = s.val * 2048 + j.val) :
    Cert.Dw1RefIdeal.Read.val_main_v8 (F := Ideal) x0 x1 (ix3 s i j) = ∑ k : Fin 8192, x0 (ix2 k i) * x1 (ix2 k J) := by
  rw [Cert.Dw1RefIdeal.Read.val_main_v8_apply, Cert.Dw1RefIdeal.Read.val_main_v7_apply, Cert.Dw1RefIdeal.Read.val_main_v6_apply,
    Cert.Dw1RefIdeal.Read.val_main_v5_apply, Cert.Dw1RefIdeal.Read.val_main_v4_apply]
  refine Finset.sum_congr rfl fun k _ => ?_
  rw [Cert.Dw1RefIdeal.Read.val_main_v3_apply, Cert.Dw1RefIdeal.Read.val_main_v1_apply, mul_comm]
  refine congr (congrArg HMul.hMul (congrArg x0 ?_)) (congrArg x1 ?_)
  · funext a
    match a with
    | ⟨0, _⟩ => rfl
    | ⟨1, _⟩ => exact Fin.ext (show ((i.val * 4 + s.val) * 2048 + j.val) / 8192 = i.val by omega)
  · funext a
    match a with
    | ⟨0, _⟩ => rfl
    | ⟨1, _⟩ => exact Fin.ext (show ((i.val * 4 + s.val) * 2048 + j.val) % 8192 = J.val by omega)

theorem arr_eq : (dats m 0 c).arrAt 2 cfg0.N = Cert.Dw1RefIdeal.Read.val_main_v8 (F := Ideal) (a0 m c) (a1 m c) := by
  refine (dats m 0 c).arrAt_eq_of_covers 2 _ (by decide +kernel) fun t hf y => ?_
  have ht : t.val % 2 = 1 := (flush0_2 t).mp hf
  have hN : t.val < 32 := lt_of_lt_of_eq t.isLt (show cfg0.N = 32 from N_0)
  blk_simp
  rw [after0_2, out m c t ht ⟨t.val - 1, lt_of_le_of_lt (Nat.sub_le _ _) t.isLt⟩ rfl]
  obtain ⟨y0, i, j, rfl⟩ : ∃ (y0 : Fin 1) (i j : Fin 1024), y = ix3 y0 i j := ⟨y 0, y 1, y 2, by funext a; fin_cases a <;> rfl⟩
  obtain rfl : y0 = 0 := Subsingleton.elim _ _
  refine (parts_apply _ _ _ _ i j).trans ?_
  have e : ((cfg0.win 2).blk t).view.emb (ix3 0 i j)
      = ix3 (⟨t.val / 2 % 8 / 2, by omega⟩ : Fin 4) (⟨t.val / 16 * 1024 + i.val, by omega⟩ : Fin 2048) (⟨t.val / 2 % 8 % 2 * 1024 + j.val, by omega⟩ : Fin 2048) := by
    blk_ext [idx2 t]
    all_goals omega
  rw [e, ref_apply _ _ _ _ _ ⟨t.val / 2 % 8 * 1024 + j.val, by omega⟩ (by show t.val / 2 % 8 * 1024 + j.val = t.val / 2 % 8 / 2 * 2048 + (t.val / 2 % 8 % 2 * 1024 + j.val); omega),
    Cert.Mlp.sum_two, part_apply, part_apply]
  refine congr (congrArg HAdd.hAdd (Finset.sum_congr rfl fun k _ => ?_)) (Finset.sum_congr rfl fun k _ => ?_)
  · rw [blk0 m c _ k i ⟨k.val, by omega⟩ ⟨t.val / 16 * 1024 + i.val, by omega⟩ (by show k.val = (t.val - 1) % 2 * 4096 + k.val; omega) (by show t.val / 16 * 1024 + i.val = (t.val - 1) / 16 * 1024 + i.val; omega),
      blk1 m c _ k j ⟨k.val, by omega⟩ ⟨t.val / 2 % 8 * 1024 + j.val, by omega⟩ (by show k.val = (t.val - 1) % 2 * 4096 + k.val; omega) (by show t.val / 2 % 8 * 1024 + j.val = (t.val - 1) / 2 % 8 * 1024 + j.val; omega)]
  · rw [blk0 m c t k i ⟨4096 + k.val, by omega⟩ ⟨t.val / 16 * 1024 + i.val, by omega⟩ (by show 4096 + k.val = t.val % 2 * 4096 + k.val; omega) rfl,
      blk1 m c t k j ⟨4096 + k.val, by omega⟩ ⟨t.val / 2 % 8 * 1024 + j.val, by omega⟩ (by show 4096 + k.val = t.val % 2 * 4096 + k.val; omega) rfl]

/-- The program read over bits and the one read over the reals have the same text, so the same body table. -/
theorem defs_eq : Cert.Dw1.defs (F := Bits) = Cert.Dw1Ideal.defs (F := Bits) := by
  refine congrArg (Pipeline.defs Cert.Dw1Ideal.pcfgs) (congrArg Defs.onTc (funext fun l => funext fun a => ?_))
  obtain ⟨_ | l, hl⟩ := l
  · rfl
  · exact absurd hl (by omega)

theorem frame_kernel : Cert.quiescent_Dw1 := by
  intro m ρ _
  have h := Cert.Dw1Ideal.Gen.frame (F := Bits) m ρ
  rw [← defs_eq] at h
  exact h
theorem frame_ideal : Cert.quiescent_Dw1Ideal := fun m ρ _ => Cert.Dw1Ideal.Gen.frame (F := Ideal) m ρ
theorem frame_reference : Cert.quiescent_Dw1RefIdeal := fun m ρ _ =>
  (θ_run Cert.Dw1RefIdeal.defs _ _).mono (fun r h => ⟨fun c => (h c).2, sem_eq_zero_of_no_sems (by decide) r.2⟩)
    (Cert.Dw1RefIdeal.Value.run (F := Ideal) m ρ)

theorem algebraic : Cert.algebraic_Dw1Ideal_Dw1RefIdeal := by
  intro m ρ m' ρ' _ hagree
  refine ⟨fun c => Cert.Dw1RefIdeal.Read.val_main_v8 (F := Ideal) (a0 m c) (a1 m c), ?_, ?_⟩
  · exact (θ_run Cert.Dw1Ideal.defs _ _).mono (fun r h c => ⟨(h c).1.trans (arr_eq m c), (h c).2⟩)
      (Cert.Dw1Ideal.Value.run_blocks (F := Ideal) m ρ)
  · refine (θ_run Cert.Dw1RefIdeal.defs _ _).mono (fun r h c => ⟨((h c).1.trans (Cert.Dw1RefIdeal.Read.val_main_v8_eq (F := Ideal) _ _)).trans ?_, (h c).2⟩)
      (Cert.Dw1RefIdeal.Value.run (F := Ideal) m' ρ')
    obtain ⟨h0, h1⟩ := hagree c
    exact congr (congrArg _ h0) h1

end Cert.Dw1Grad

end
-- ==== Proof.Dh.lean ====
/- The gradient of the first feed-forward product's input (`mm_ffn1_bwd_1`): the kernel adds four parts of the contraction in its
   scratch, one slot of the weight each; each element is the reference's. -/
module

public import proofs.«01_k».proof.Defs
public import proofs.«01_k».proof.Proof.Sums
public import proofs.«01_k».proof.Proof.Gen.Dh
public import proofs.«01_k».proof.Proof.Gen.DhIdeal.Frame
public import proofs.«01_k».proof.Proof.Gen.DhIdeal.Value
public import proofs.«01_k».proof.Proof.Gen.DhRefIdeal.Run
public import proofs.«01_k».proof.Proof.Gen.DhRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

namespace Cert.DhGrad

open Cert.DhIdeal Cert.DhIdeal.Gen Idealize.ShloMosaic Idealize.ShloMosaic.TcCoe Idealize.SL.Sem

theorem idx0 : ∀ t : Fin cfg0.N, win0_0.index t = ![t.val / 8, t.val % 4] := (by decide +kernel : ∀ t : Fin grid0.N, _)
theorem idx1 : ∀ t : Fin cfg0.N, win0_1.index t = ![t.val % 4, 1, t.val / 4 % 2, 0] := (by decide +kernel : ∀ t : Fin grid0.N, _)
theorem idx2 : ∀ t : Fin cfg0.N, win0_2.index t = ![t.val / 8, t.val / 4 % 2] := (by decide +kernel : ∀ t : Fin grid0.N, _)

/-- One part's product at an index. -/
theorem part_apply (v0 : FVec Ideal S1024x2048 .bf16) (v1 : FVec Ideal S1x1x1024x2048 .bf16) (i j : Fin 1024) :
    k0_pay1 (F := Ideal) v0 v1 (ix2 i j) = ∑ k : Fin 2048, v0 (ix2 i k) * v1 (ix4 0 0 j k) := by
  pointwise [k0_pay1]

/-- A part added to the scratch. -/
theorem add_apply (v0 : FVec Ideal S1024x2048 .bf16) (v1 : FVec Ideal S1x1x1024x2048 .bf16) (X : FVec Ideal S1024x1024 .f32) (i j : Fin 1024) :
    k0_pay3 (F := Ideal) v0 v1 X (ix2 i j) = X (ix2 i j) + k0_pay1 (F := Ideal) v0 v1 (ix2 i j) := by
  unfold k0_pay3
  generalize k0_pay1 (F := Ideal) v0 v1 = Y
  pointwise []
theorem first_apply (v0 : FVec Ideal S1024x2048 .bf16) (v1 : FVec Ideal S1x1x1024x2048 .bf16) (i j : Fin 1024) :
    k0_pay2 (F := Ideal) v0 v1 (ix2 i j) = k0_pay1 (F := Ideal) v0 v1 (ix2 i j) := by
  unfold k0_pay2
  generalize k0_pay1 (F := Ideal) v0 v1 = Y
  pointwise []

variable (m : (ℓ : Loc nD τ sig) → Buf (Elt Ideal) ℓ) (c : Dev nD)

abbrev a0 : FVec Ideal S8192x8192 .bf16 := m ((c : Thread nD τ).loc main_arg0)
abbrev a1 : FVec Ideal S2x2048x8192 .f32 := m ((c : Thread nD τ).loc main_arg1)

theorem V_v2 (s : Fin 4) (l : Fin 2) (i j : Fin 2048) (J : Fin 8192) (hJ : J.val = s.val * 2048 + j.val) :
    (V m c main_v2 : FVec Ideal S4x2x2048x2048 .bf16) (ix4 s l i j) = a1 m c (ix3 l i J) := by
  have e : (V m c main_v2 : FVec Ideal S4x2x2048x2048 .bf16) = transpose S4x2x2048x2048 [2, 0, 1, 3] (shapeCast S2x2048x4x2048 (a1 m c)
      shapeCasts_S2x2048x8192_S2x2048x4x2048) transposes_S2x2048x4x2048_S4x2x2048x2048_2_0_1_3 := by
    unfold V
    after_reads_simp
    rfl
  rw [e]
  exact Cert.Mlp.column_slots _ _ _ s l i j J hJ

/-- What the scratch holds after the first part, and after each further one. -/
theorem scratch_first (t : Fin cfg0.N) (h : t.val % 4 = 0) : (outsAt0 m c t.val t.isLt).2 = k0_pay2 (iblk m c 0 t) (iblk m c 1 t) := by
  rw [outsAt0_A m c t h (by omega) (by omega)]
  frame_out
theorem scratch_next (t s : Fin cfg0.N) (hs : s.val = t.val - 1) (h : ¬t.val % 4 = 0) :
    (outsAt0 m c t.val t.isLt).2 = k0_pay3 (iblk m c 0 t) (iblk m c 1 t) (outsAt0 m c s.val s.isLt).2 := by
  have e : s = ⟨t.val - 1, lt_of_le_of_lt (Nat.sub_le _ _) t.isLt⟩ := Fin.ext hs
  rw [e]
  by_cases h3 : t.val % 4 = 3
  · rw [outsAt0_C m c t h (by omega) h3]
    generalize (outsAt0 m c (t.val - 1) _).2 = X
    frame_out
    rw [read_unread_whole]
  · rw [outsAt0_B m c t h (by omega) h3]
    generalize (outsAt0 m c (t.val - 1) _).2 = X
    frame_out
    rw [read_unread_whole]
/-- The last part's point writes the scratch back. -/
theorem out (t : Fin cfg0.N) (h : t.val % 4 = 3) : (outsAt0 m c t.val t.isLt).1 = (outsAt0 m c t.val t.isLt).2 := by
  rw [outsAt0_C m c t (by omega) (by omega) h]
  generalize (outsAt0 m c (t.val - 1) _).2 = X
  frame_out

theorem blk0 (t : Fin cfg0.N) (i : Fin 1024) (k : Fin 2048) (I K : Fin 8192) (hI : I.val = t.val / 8 * 1024 + i.val)
    (hK : K.val = t.val % 4 * 2048 + k.val) : iblk m c 0 t (ix2 i k) = a0 m c (ix2 I K) := by
  blk_ext [iblk, idx0 t]
  all_goals omega
theorem blk1 (t : Fin cfg0.N) (j : Fin 1024) (k : Fin 2048) (J : Fin 2048) (K : Fin 8192) (hJ : J.val = t.val / 4 % 2 * 1024 + j.val)
    (hK : K.val = t.val % 4 * 2048 + k.val) : iblk m c 1 t (ix4 0 0 j k) = a1 m c (ix3 1 J K) := by
  rw [← V_v2 m c ⟨t.val % 4, by omega⟩ 1 J k K hK]
  blk_ext [iblk, idx1 t]
  all_goals omega

/-- A part's product, as that part of the whole contraction. -/
theorem part_eq (t : Fin cfg0.N) (r : Fin 4) (hr : t.val % 4 = r.val) (i j : Fin 1024) (I : Fin 8192) (J : Fin 2048)
    (hI : I.val = t.val / 8 * 1024 + i.val) (hJ : J.val = t.val / 4 % 2 * 1024 + j.val) :
    k0_pay1 (F := Ideal) (iblk m c 0 t) (iblk m c 1 t) (ix2 i j)
      = Cert.Mlp.part (fun k => a0 m c (ix2 I k) * a1 m c (ix3 1 J k)) r := by
  rw [part_apply]
  refine Finset.sum_congr rfl fun k _ => ?_
  have hK : r.val * 2048 + k.val = t.val % 4 * 2048 + k.val := by rw [hr]
  exact congr (congrArg HMul.hMul (blk0 m c t i k I ⟨r.val * 2048 + k.val, by omega⟩ hI hK))
    (blk1 m c t j k J ⟨r.val * 2048 + k.val, by omega⟩ hJ hK)

/-- The scratch after the last part is the whole contraction. -/
theorem scratch_last (t : Fin cfg0.N) (h : t.val % 4 = 3) (i j : Fin 1024) (I : Fin 8192) (J : Fin 2048)
    (hI : I.val = t.val / 8 * 1024 + i.val) (hJ : J.val = t.val / 4 % 2 * 1024 + j.val) :
    (outsAt0 m c t.val t.isLt).2 (ix2 i j) = ∑ k : Fin 8192, a0 m c (ix2 I k) * a1 m c (ix3 1 J k) := by
  obtain ⟨n, hn⟩ := t
  obtain ⟨b, rfl⟩ : ∃ b, n = b + 3 := ⟨n - 3, by dsimp only at h; omega⟩
  dsimp only at h hI hJ
  rw [scratch_next m c ⟨b + 3, hn⟩ ⟨b + 2, by omega⟩ rfl (by dsimp only; omega), add_apply,
    scratch_next m c ⟨b + 2, by omega⟩ ⟨b + 1, by omega⟩ rfl (by dsimp only; omega), add_apply,
    scratch_next m c ⟨b + 1, by omega⟩ ⟨b, by omega⟩ rfl (by dsimp only; omega), add_apply,
    scratch_first m c ⟨b, by omega⟩ (by dsimp only; omega), first_apply,
    part_eq m c ⟨b, _⟩ 0 (by show b % 4 = 0; omega) i j I J (by dsimp only; omega) (by dsimp only; omega),
    part_eq m c ⟨b + 1, _⟩ 1 (by show (b + 1) % 4 = 1; omega) i j I J (by dsimp only; omega) (by dsimp only; omega),
    part_eq m c ⟨b + 2, _⟩ 2 (by show (b + 2) % 4 = 2; omega) i j I J (by dsimp only; omega) (by dsimp only; omega),
    part_eq m c ⟨b + 3, _⟩ 3 (by show (b + 3) % 4 = 3; omega) i j I J hI hJ]
  exact (Cert.Mlp.sum_four _).symm

/-- The reference's result at an index. -/
theorem ref_apply (x0 : FVec Ideal S8192x8192 .bf16) (x1 : FVec Ideal S2x2048x8192 .f32) (i : Fin 8192) (j : Fin 2048) :
    Cert.DhRefIdeal.Read.val_main_v5 (F := Ideal) x0 x1 (ix2 i j) = ∑ k : Fin 8192, x0 (ix2 i k) * x1 (ix3 1 j k) := by
  refine (Cert.DhRefIdeal.Read.val_main_v5_apply _ _ _).trans (Finset.sum_congr rfl fun k _ => ?_)
  rw [Cert.DhRefIdeal.Read.val_main_v4_apply, Cert.DhRefIdeal.Read.val_main_v2_apply, Cert.DhRefIdeal.Read.val_main_v1_apply]
  refine congr (congrArg HMul.hMul (congrArg x0 ?_)) (congrArg x1 ?_)
  · funext a
    fin_cases a <;> rfl
  · funext a
    match a with
    | ⟨0, _⟩ => rfl
    | ⟨1, _⟩ => exact Fin.ext (show (j.val * 8192 + k.val) / 8192 % 2048 = j.val by omega)
    | ⟨2, _⟩ => exact Fin.ext (show (j.val * 8192 + k.val) % 8192 = k.val by omega)

theorem arr_eq : (dats m 0 c).arrAt 2 cfg0.N = Cert.DhRefIdeal.Read.val_main_v5 (F := Ideal) (a0 m c) (a1 m c) := by
  refine (dats m 0 c).arrAt_eq_of_covers 2 _ (by decide +kernel) fun t hf y => ?_
  have ht : t.val % 4 = 3 := (flush0_2 t).mp hf
  have hN : t.val < 64 := lt_of_lt_of_eq t.isLt (show cfg0.N = 64 from N_0)
  blk_simp
  rw [after0_2, out m c t ht]
  obtain ⟨i, j, rfl⟩ : ∃ (i j : Fin 1024), y = ix2 i j := ⟨y 0, y 1, by funext a; fin_cases a <;> rfl⟩
  have e : ((cfg0.win 2).blk t).view.emb (ix2 i j)
      = ix2 (⟨t.val / 8 * 1024 + i.val, by omega⟩ : Fin 8192) (⟨t.val / 4 % 2 * 1024 + j.val, by omega⟩ : Fin 2048) := by
    blk_ext [idx2 t]
    all_goals omega
  rw [e, ref_apply]
  exact scratch_last m c t ht i j _ _ rfl rfl

/-- The program read over bits and the one read over the reals have the same text, so the same body table. -/
theorem defs_eq : Cert.Dh.defs (F := Bits) = Cert.DhIdeal.defs (F := Bits) := by
  refine congrArg (Pipeline.defs Cert.DhIdeal.pcfgs) (congrArg Defs.onTc (funext fun l => funext fun a => ?_))
  obtain ⟨_ | l, hl⟩ := l
  · rfl
  · exact absurd hl (by omega)

theorem frame_kernel : Cert.quiescent_Dh := by
  intro m ρ _
  have h := Cert.DhIdeal.Gen.frame (F := Bits) m ρ
  rw [← defs_eq] at h
  exact h
theorem frame_ideal : Cert.quiescent_DhIdeal := fun m ρ _ => Cert.DhIdeal.Gen.frame (F := Ideal) m ρ
theorem frame_reference : Cert.quiescent_DhRefIdeal := fun m ρ _ =>
  (θ_run Cert.DhRefIdeal.defs _ _).mono (fun r h => ⟨fun c => (h c).2, sem_eq_zero_of_no_sems (by decide) r.2⟩)
    (Cert.DhRefIdeal.Value.run (F := Ideal) m ρ)

theorem algebraic : Cert.algebraic_DhIdeal_DhRefIdeal := by
  intro m ρ m' ρ' _ hagree
  refine ⟨fun c => Cert.DhRefIdeal.Read.val_main_v5 (F := Ideal) (a0 m c) (a1 m c), ?_, ?_⟩
  · exact (θ_run Cert.DhIdeal.defs _ _).mono (fun r h c => ⟨(h c).1.trans (arr_eq m c), (h c).2⟩)
      (Cert.DhIdeal.Value.run_blocks (F := Ideal) m ρ)
  · refine (θ_run Cert.DhRefIdeal.defs _ _).mono (fun r h c => ⟨((h c).1.trans (Cert.DhRefIdeal.Read.val_main_v5_eq (F := Ideal) _ _)).trans ?_, (h c).2⟩)
      (Cert.DhRefIdeal.Value.run (F := Ideal) m' ρ')
    obtain ⟨h0, h1⟩ := hagree c
    exact congr (congrArg _ h0) h1

end Cert.DhGrad

end
-- ==== Proof.Up.lean ====
/- The first feed-forward product with its activation (`mm_ffn1_1`): the kernel reads the weight from its slots and writes the
   activation and its square; each element is the reference's. -/
module

public import proofs.«01_k».proof.Defs
public import proofs.«01_k».proof.Proof.Sums
public import proofs.«01_k».proof.Proof.Gen.Up
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit
public import Idealize.ShloMosaic.Lib.StableHlo.RunRead
public import Idealize.ShloMosaic.Lib.Pointwise
public import Idealize.ShloMosaic.Lib.Quiescent

@[expose] public section

set_option maxRecDepth 16384

noncomputable section

namespace Cert.UpValue

open Cert.UpIdeal Cert.UpIdeal.Gen Idealize.ShloMosaic Idealize.ShloMosaic.TcCoe Idealize.SL.Sem

theorem idx0 : ∀ t : Fin cfg0.N, win0_0.index t = ![t.val / 8, 0] := (by decide +kernel : ∀ t : Fin grid0.N, _)
theorem idx1 : ∀ t : Fin cfg0.N, win0_1.index t = ![t.val % 8 / 2, 1, 0, t.val % 8 % 2] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)

/-- The block's activation at an index, and the two results' blocks from it. -/
theorem act_apply (v0 : FVec Ideal S1024x2048 .bf16) (v1 : FVec Ideal S1x1x2048x1024 .bf16) (i j : Fin 1024) :
    k0_pay1 (F := Ideal) v0 v1 (ix2 i j) = max (∑ k : Fin 2048, v0 (ix2 i k) * v1 (ix4 0 0 k j)) (Ideal.ofBits .f32 0x00000000#32) := by
  pointwise [k0_pay1]
theorem square_apply (v0 : FVec Ideal S1024x2048 .bf16) (v1 : FVec Ideal S1x1x2048x1024 .bf16) (i j : Fin 1024) :
    k0_pay2 (F := Ideal) v0 v1 (ix2 i j) = k0_pay1 (F := Ideal) v0 v1 (ix2 i j) * k0_pay1 (F := Ideal) v0 v1 (ix2 i j) := rfl
theorem same_apply (v0 : FVec Ideal S1024x2048 .bf16) (v1 : FVec Ideal S1x1x2048x1024 .bf16) (i j : Fin 1024) :
    k0_pay3 (F := Ideal) v0 v1 (ix2 i j) = k0_pay1 (F := Ideal) v0 v1 (ix2 i j) := rfl

variable (m : (ℓ : Loc nD τ sig) → Buf (Elt Ideal) ℓ) (c : Dev nD)

abbrev a0 : FVec Ideal S8192x2048 .bf16 := m ((c : Thread nD τ).loc main_arg0)
abbrev a1 : FVec Ideal S2x2048x8192 .f32 := m ((c : Thread nD τ).loc main_arg1)

theorem V_v2 (s : Fin 4) (l : Fin 2) (i j : Fin 2048) (J : Fin 8192) (hJ : J.val = s.val * 2048 + j.val) :
    (V m c main_v2 : FVec Ideal S4x2x2048x2048 .bf16) (ix4 s l i j) = a1 m c (ix3 l i J) := by
  have e : (V m c main_v2 : FVec Ideal S4x2x2048x2048 .bf16) = transpose S4x2x2048x2048 [2, 0, 1, 3] (shapeCast S2x2048x4x2048 (a1 m c)
      shapeCasts_S2x2048x8192_S2x2048x4x2048) transposes_S2x2048x4x2048_S4x2x2048x2048_2_0_1_3 := by
    unfold V
    after_reads_simp
    rfl
  rw [e]
  exact Cert.Mlp.column_slots _ _ _ s l i j J hJ

theorem blk0 (t : Fin cfg0.N) (i : Fin 1024) (k : Fin 2048) (I : Fin 8192) (hI : I.val = t.val / 8 * 1024 + i.val) :
    iblk m c 0 t (ix2 i k) = a0 m c (ix2 I k) := by
  blk_ext [iblk, idx0 t]
  all_goals omega
theorem blk1 (t : Fin cfg0.N) (k : Fin 2048) (j : Fin 1024) (J : Fin 8192) (hJ : J.val = t.val % 8 * 1024 + j.val) :
    iblk m c 1 t (ix4 0 0 k j) = a1 m c (ix3 1 k J) := by
  rw [← V_v2 m c ⟨t.val % 8 / 2, by omega⟩ 1 k ⟨t.val % 8 % 2 * 1024 + j.val, by omega⟩ J
    (by show J.val = t.val % 8 / 2 * 2048 + (t.val % 8 % 2 * 1024 + j.val); omega)]
  blk_ext [iblk, idx1 t]
  all_goals omega

/-- The reference's activation at an index. -/
theorem ref_apply (x0 : FVec Ideal S8192x2048 .bf16) (x1 : FVec Ideal S2x2048x8192 .f32) (i j : Fin 8192) :
    Cert.UpRefIdeal.Read.val_main_v4 (F := Ideal) x0 x1 (ix2 i j)
      = max (∑ k : Fin 2048, x0 (ix2 i k) * x1 (ix3 1 k j)) (Ideal.ofBits .f32 0x00000000#32) := by
  rw [Cert.UpRefIdeal.Read.val_main_v4_apply, Cert.UpRefIdeal.Read.val_main_call0_v0_apply, Cert.UpRefIdeal.Read.val_main_call0_cst_apply]
  refine congrArg (max · _) ((Cert.UpRefIdeal.Read.val_main_v3_apply _ _ _).trans (Finset.sum_congr rfl fun k _ => ?_))
  rw [Cert.UpRefIdeal.Read.val_main_v0_apply, Cert.UpRefIdeal.Read.val_main_v2_apply, Cert.UpRefIdeal.Read.val_main_v1_apply]
  refine congr (congrArg HMul.hMul (congrArg x0 ?_)) (congrArg x1 ?_)
  · funext a
    fin_cases a <;> rfl
  · funext a
    match a with
    | ⟨0, _⟩ => rfl
    | ⟨1, _⟩ => exact Fin.ext (show (k.val * 8192 + j.val) / 8192 % 2048 = k.val by omega)
    | ⟨2, _⟩ => exact Fin.ext (show (k.val * 8192 + j.val) % 8192 = j.val by omega)

/-- A block's activation is the reference's on that block. -/
theorem act_eq (t : Fin cfg0.N) (i j : Fin 1024) (I J : Fin 8192) (hI : I.val = t.val / 8 * 1024 + i.val) (hJ : J.val = t.val % 8 * 1024 + j.val) :
    k0_pay1 (F := Ideal) (iblk m c 0 t) (iblk m c 1 t) (ix2 i j) = Cert.UpRefIdeal.Read.val_main_v4 (F := Ideal) (a0 m c) (a1 m c) (ix2 I J) := by
  rw [act_apply, ref_apply]
  refine congrArg (max · _) (Finset.sum_congr rfl fun k _ => ?_)
  rw [blk0 m c t i k I hI, blk1 m c t k j J hJ]

theorem arr2_eq : (dats m 0 c).arrAt 2 cfg0.N = Cert.UpRefIdeal.Read.val_main_v6 (F := Ideal) (a0 m c) (a1 m c) := by
  refine (dats m 0 c).arrAt_eq_of_covers 2 _ (by decide +kernel) fun t hf y => ?_
  have hN : t.val < 64 := lt_of_lt_of_eq t.isLt (show cfg0.N = 64 from N_0)
  blk_simp
  rw [after0_2]
  frame_out
  obtain ⟨i, j, rfl⟩ : ∃ (i j : Fin 1024), y = ix2 i j := ⟨y 0, y 1, by funext a; fin_cases a <;> rfl⟩
  have e : ((cfg0.win 2).blk t).view.emb (ix2 i j)
      = ix2 (⟨t.val / 8 * 1024 + i.val, by omega⟩ : Fin 8192) (⟨t.val % 8 * 1024 + j.val, by omega⟩ : Fin 8192) := by
    blk_ext [idx2 t]
    all_goals omega
  rw [e, Cert.UpRefIdeal.Read.val_main_v6_apply, Cert.UpRefIdeal.Read.val_main_v5_apply, square_apply, act_eq m c t i j ⟨t.val / 8 * 1024 + i.val, by omega⟩ ⟨t.val % 8 * 1024 + j.val, by omega⟩ rfl rfl]
  rfl

theorem arr3_eq : (dats m 0 c).arrAt 3 cfg0.N = Cert.UpRefIdeal.Read.val_main_v7 (F := Ideal) (a0 m c) (a1 m c) := by
  refine (dats m 0 c).arrAt_eq_of_covers 3 _ (by decide +kernel) fun t hf y => ?_
  have hN : t.val < 64 := lt_of_lt_of_eq t.isLt (show cfg0.N = 64 from N_0)
  blk_simp
  rw [after0_3]
  frame_out
  obtain ⟨i, j, rfl⟩ : ∃ (i j : Fin 1024), y = ix2 i j := ⟨y 0, y 1, by funext a; fin_cases a <;> rfl⟩
  have e : ((cfg0.win 3).blk t).view.emb (ix2 i j)
      = ix2 (⟨t.val / 8 * 1024 + i.val, by omega⟩ : Fin 8192) (⟨t.val % 8 * 1024 + j.val, by omega⟩ : Fin 8192) := by
    blk_ext [idx3 t]
    all_goals omega
  rw [e, Cert.UpRefIdeal.Read.val_main_v7_apply, same_apply, act_eq m c t i j ⟨t.val / 8 * 1024 + i.val, by omega⟩ ⟨t.val % 8 * 1024 + j.val, by omega⟩ rfl rfl]
  rfl

/-- The program read over bits and the one read over the reals have the same text, so the same body table. -/
theorem defs_eq : Cert.Up.defs (F := Bits) = Cert.UpIdeal.defs (F := Bits) := by
  refine congrArg (Pipeline.defs Cert.UpIdeal.pcfgs) (congrArg Defs.onTc (funext fun l => funext fun a => ?_))
  obtain ⟨_ | l, hl⟩ := l
  · rfl
  · exact absurd hl (by omega)

theorem frame_kernel : Cert.quiescent_Up := by
  intro m ρ _
  have h := Cert.UpIdeal.Gen.frame (F := Bits) m ρ
  rw [← defs_eq] at h
  exact h
theorem frame_ideal : Cert.quiescent_UpIdeal := fun m ρ _ => Cert.UpIdeal.Gen.frame (F := Ideal) m ρ
theorem frame_reference : Cert.quiescent_UpRefIdeal := fun m ρ _ =>
  (θ_run Cert.UpRefIdeal.defs _ _).mono (fun r h => ⟨fun c => (h c).2.2, sem_eq_zero_of_no_sems (by decide) r.2⟩)
    (Cert.UpRefIdeal.Value.run (F := Ideal) m ρ)

theorem algebraic : Cert.algebraic_UpIdeal_UpRefIdeal := by
  intro m ρ m' ρ' _ hagree
  refine ⟨fun c => Cert.UpRefIdeal.Read.val_main_v6 (F := Ideal) (a0 m c) (a1 m c),
    fun c => Cert.UpRefIdeal.Read.val_main_v7 (F := Ideal) (a0 m c) (a1 m c), ?_, ?_⟩
  · exact (θ_run Cert.UpIdeal.defs _ _).mono (fun r h c => ⟨(h c).1.trans (arr2_eq m c), (h c).2.1.trans (arr3_eq m c), (h c).2.2⟩)
      (Cert.UpIdeal.Value.run_blocks (F := Ideal) m ρ)
  · refine (θ_run Cert.UpRefIdeal.defs _ _).mono (fun r h c => ⟨((h c).1.trans (Cert.UpRefIdeal.Read.val_main_v6_eq (F := Ideal) _ _)).trans ?_,
      ((h c).2.1.trans (Cert.UpRefIdeal.Read.val_main_v7_eq (F := Ideal) _ _)).trans ?_, (h c).2.2⟩)
      (Cert.UpRefIdeal.Value.run (F := Ideal) m' ρ')
    · obtain ⟨h0, h1⟩ := hagree c
      exact congr (congrArg _ h0) h1
    · obtain ⟨h0, h1⟩ := hagree c
      exact congr (congrArg _ h0) h1

end Cert.UpValue

end
-- ==== Proof.Down.lean ====
/- The second feed-forward product with its gated residual (`mm_ffn2_1`): the kernel adds four parts of the contraction in its
   scratch, one slot of the weight each, then writes the residual's sum and the product; each element is the reference's. -/
module

public import proofs.«01_k».proof.Defs
public import proofs.«01_k».proof.Proof.Sums
public import proofs.«01_k».proof.Proof.Gen.Down
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

namespace Cert.DownValue

open Cert.DownIdeal Cert.DownIdeal.Gen Idealize.ShloMosaic Idealize.ShloMosaic.TcCoe Idealize.SL.Sem

theorem idx0 : ∀ t : Fin cfg0.N, win0_0.index t = ![t.val / 8, t.val % 4] := (by decide +kernel : ∀ t : Fin grid0.N, _)
theorem idx1 : ∀ t : Fin cfg0.N, win0_1.index t = ![t.val % 4, 1, 0, t.val / 4 % 2] := (by decide +kernel : ∀ t : Fin grid0.N, _)
theorem idx2 : ∀ t : Fin cfg0.N, win0_2.index t = ![t.val / 8, t.val / 4 % 2] := (by decide +kernel : ∀ t : Fin grid0.N, _)
theorem idx3 : ∀ t : Fin cfg0.N, win0_3.index t = ![0, t.val / 4 % 2] := (by decide +kernel : ∀ t : Fin grid0.N, _)
theorem idx4 : ∀ t : Fin cfg0.N, win0_4.index t = ![t.val / 8, t.val / 4 % 2] := (by decide +kernel : ∀ t : Fin grid0.N, _)
theorem idx5 : ∀ t : Fin cfg0.N, win0_5.index t = ![t.val / 8, t.val / 4 % 2] := (by decide +kernel : ∀ t : Fin grid0.N, _)

/-- One part's product at an index. -/
theorem part_apply (v0 : FVec Ideal S1024x2048 .bf16) (v1 : FVec Ideal S1x1x2048x1024 .bf16) (i j : Fin 1024) :
    k0_pay1 (F := Ideal) v0 v1 (ix2 i j) = ∑ k : Fin 2048, v0 (ix2 i k) * v1 (ix4 0 0 k j) := by
  pointwise [k0_pay1]

/-- A part added to the scratch. -/
theorem add_apply (v0 : FVec Ideal S1024x2048 .bf16) (v1 : FVec Ideal S1x1x2048x1024 .bf16) (X : FVec Ideal S1024x1024 .f32) (i j : Fin 1024) :
    k0_pay3 (F := Ideal) v0 v1 X (ix2 i j) = X (ix2 i j) + k0_pay1 (F := Ideal) v0 v1 (ix2 i j) := by
  unfold k0_pay3
  generalize k0_pay1 (F := Ideal) v0 v1 = Y
  pointwise []
theorem first_apply (v0 : FVec Ideal S1024x2048 .bf16) (v1 : FVec Ideal S1x1x2048x1024 .bf16) (i j : Fin 1024) :
    k0_pay2 (F := Ideal) v0 v1 (ix2 i j) = k0_pay1 (F := Ideal) v0 v1 (ix2 i j) := by
  unfold k0_pay2
  generalize k0_pay1 (F := Ideal) v0 v1 = Y
  pointwise []

/-- The residual with the gated product. -/
theorem gate_apply (X v2 : FVec Ideal S1024x1024 .f32) (v3 : FVec Ideal S1x1024 .f32) (i j : Fin 1024) :
    k0_pay4 (F := Ideal) X v2 v3 (ix2 i j) = v2 (ix2 i j) + v3 (ix2 0 j) * X (ix2 i j) := by
  pointwise [k0_pay4]

variable (m : (ℓ : Loc nD τ sig) → Buf (Elt Ideal) ℓ) (c : Dev nD)

abbrev a0 : FVec Ideal S8192x8192 .f32 := m ((c : Thread nD τ).loc main_arg0)
abbrev a1 : FVec Ideal S2x8192x2048 .f32 := m ((c : Thread nD τ).loc main_arg1)
abbrev a2 : FVec Ideal S8192x2048 .f32 := m ((c : Thread nD τ).loc main_arg2)
abbrev a3 : FVec Ideal S2048 .f32 := m ((c : Thread nD τ).loc main_arg3)
/-- The squared activation, which the host computes before the kernel. -/
abbrev f0 : FVec Ideal S8192x8192 .f32 := Cert.DownRefIdeal.Read.val_main_v3 (F := Ideal) (a0 m c)

theorem V_v2 : (V m c main_v2 : FVec Ideal S8192x8192 .bf16) = f0 m c := by
  unfold V
  after_reads_simp
  rfl
theorem V_v5 (s : Fin 4) (l : Fin 2) (i j : Fin 2048) (I : Fin 8192) (hI : I.val = s.val * 2048 + i.val) :
    (V m c main_v5 : FVec Ideal S4x2x2048x2048 .bf16) (ix4 s l i j) = a1 m c (ix3 l I j) := by
  have e : (V m c main_v5 : FVec Ideal S4x2x2048x2048 .bf16) = transpose S4x2x2048x2048 [1, 0, 2, 3] (shapeCast S2x4x2048x2048 (a1 m c)
      shapeCasts_S2x8192x2048_S2x4x2048x2048) transposes_S2x4x2048x2048_S4x2x2048x2048_1_0_2_3 := by
    unfold V
    after_reads_simp
    rfl
  rw [e]
  exact Cert.Mlp.row_slots _ _ _ s l i j I hI
theorem V_v6 (j : Fin 2048) : (V m c main_v6 : FVec Ideal S1x2048 .f32) (ix2 0 j) = a3 m c (ix1 j) := by
  have e : (V m c main_v6 : FVec Ideal S1x2048 .f32) = shapeCast S1x2048 (a3 m c) shapeCasts_S2048_S1x2048 := by
    unfold V
    after_reads_simp
    rfl
  rw [e]
  generalize a3 m c = x
  pointwise []

/-- What the scratch holds after the first part, and after each further one. -/
theorem scratch_first (t : Fin cfg0.N) (h : t.val % 4 = 0) : (outsAt0 m c t.val t.isLt).2.2 = k0_pay2 (iblk m c 0 t) (iblk m c 1 t) := by
  rw [outsAt0_A m c t h (by omega) (by omega)]
  frame_out
theorem scratch_next (t s : Fin cfg0.N) (hs : s.val = t.val - 1) (h : ¬t.val % 4 = 0) :
    (outsAt0 m c t.val t.isLt).2.2 = k0_pay3 (iblk m c 0 t) (iblk m c 1 t) (outsAt0 m c s.val s.isLt).2.2 := by
  have e : s = ⟨t.val - 1, lt_of_le_of_lt (Nat.sub_le _ _) t.isLt⟩ := Fin.ext hs
  rw [e]
  by_cases h3 : t.val % 4 = 3
  · rw [outsAt0_C m c t h (by omega) h3]
    generalize (outsAt0 m c (t.val - 1) _).2.2 = X
    frame_out
    rw [read_unread_whole]
  · rw [outsAt0_B m c t h (by omega) h3]
    generalize (outsAt0 m c (t.val - 1) _).2.2 = X
    frame_out
    rw [read_unread_whole]
/-- The last part's point writes both results from the scratch. -/
theorem out4 (t : Fin cfg0.N) (h : t.val % 4 = 3) :
    (outsAt0 m c t.val t.isLt).1 = k0_pay4 (outsAt0 m c t.val t.isLt).2.2 (iblk m c 2 t) (iblk m c 3 t) := by
  rw [outsAt0_C m c t (by omega) (by omega) h]
  generalize (outsAt0 m c (t.val - 1) _).2.2 = X
  frame_out
theorem out5 (t : Fin cfg0.N) (h : t.val % 4 = 3) : (outsAt0 m c t.val t.isLt).2.1 = k0_pay5 (outsAt0 m c t.val t.isLt).2.2 := by
  rw [outsAt0_C m c t (by omega) (by omega) h]
  generalize (outsAt0 m c (t.val - 1) _).2.2 = X
  frame_out

theorem blk0 (t : Fin cfg0.N) (i : Fin 1024) (k : Fin 2048) (I K : Fin 8192) (hI : I.val = t.val / 8 * 1024 + i.val)
    (hK : K.val = t.val % 4 * 2048 + k.val) : iblk m c 0 t (ix2 i k) = f0 m c (ix2 I K) := by
  rw [← V_v2]
  blk_ext [iblk, idx0 t]
  all_goals omega
theorem blk1 (t : Fin cfg0.N) (k : Fin 2048) (j : Fin 1024) (K : Fin 8192) (J : Fin 2048) (hJ : J.val = t.val / 4 % 2 * 1024 + j.val)
    (hK : K.val = t.val % 4 * 2048 + k.val) : iblk m c 1 t (ix4 0 0 k j) = a1 m c (ix3 1 K J) := by
  rw [← V_v5 m c ⟨t.val % 4, by omega⟩ 1 k J K hK]
  blk_ext [iblk, idx1 t]
  all_goals omega
theorem blk2 (t : Fin cfg0.N) (i j : Fin 1024) (I : Fin 8192) (J : Fin 2048) (hI : I.val = t.val / 8 * 1024 + i.val)
    (hJ : J.val = t.val / 4 % 2 * 1024 + j.val) : iblk m c 2 t (ix2 i j) = a2 m c (ix2 I J) := by
  blk_ext [iblk, idx2 t]
  all_goals omega
theorem blk3 (t : Fin cfg0.N) (j : Fin 1024) (J : Fin 2048) (hJ : J.val = t.val / 4 % 2 * 1024 + j.val) :
    iblk m c 3 t (ix2 0 j) = a3 m c (ix1 J) := by
  rw [← V_v6]
  blk_ext [iblk, idx3 t]
  all_goals omega

/-- A part's product, as that part of the whole contraction. -/
theorem part_eq (t : Fin cfg0.N) (r : Fin 4) (hr : t.val % 4 = r.val) (i j : Fin 1024) (I : Fin 8192) (J : Fin 2048)
    (hI : I.val = t.val / 8 * 1024 + i.val) (hJ : J.val = t.val / 4 % 2 * 1024 + j.val) :
    k0_pay1 (F := Ideal) (iblk m c 0 t) (iblk m c 1 t) (ix2 i j)
      = Cert.Mlp.part (fun k => f0 m c (ix2 I k) * a1 m c (ix3 1 k J)) r := by
  rw [part_apply]
  refine Finset.sum_congr rfl fun k _ => ?_
  have hK : r.val * 2048 + k.val = t.val % 4 * 2048 + k.val := by rw [hr]
  exact congr (congrArg HMul.hMul (blk0 m c t i k I ⟨r.val * 2048 + k.val, by omega⟩ hI hK))
    (blk1 m c t k j ⟨r.val * 2048 + k.val, by omega⟩ J hJ hK)

/-- The reference's product at an index. -/
theorem dot_apply (x0 : FVec Ideal S8192x8192 .f32) (x1 : FVec Ideal S2x8192x2048 .f32) (i : Fin 8192) (j : Fin 2048) :
    Cert.DownRefIdeal.Read.val_main_v4 (F := Ideal) x0 x1 (ix2 i j)
      = ∑ k : Fin 8192, Cert.DownRefIdeal.Read.val_main_v3 (F := Ideal) x0 (ix2 i k) * x1 (ix3 1 k j) := by
  refine (Cert.DownRefIdeal.Read.val_main_v4_apply _ _ _).trans (Finset.sum_congr rfl fun k _ => ?_)
  rw [Cert.DownRefIdeal.Read.val_main_v1_apply, Cert.DownRefIdeal.Read.val_main_v0_apply]
  refine congr (congrArg HMul.hMul (congrArg _ ?_)) (congrArg x1 ?_)
  · funext a
    fin_cases a <;> rfl
  · funext a
    match a with
    | ⟨0, _⟩ => rfl
    | ⟨1, _⟩ => exact Fin.ext (show (k.val * 2048 + j.val) / 2048 % 8192 = k.val by omega)
    | ⟨2, _⟩ => exact Fin.ext (show (k.val * 2048 + j.val) % 2048 = j.val by omega)
theorem gate_ref (x3 : FVec Ideal S2048 .f32) (i : Fin 8192) (j : Fin 2048) :
    Cert.DownRefIdeal.Read.val_main_v6 (F := Ideal) x3 (ix2 i j) = x3 (ix1 j) := by
  rw [Cert.DownRefIdeal.Read.val_main_v6_apply, Cert.DownRefIdeal.Read.val_main_v5_apply]
  exact congrArg x3 (by funext a; fin_cases a; rfl)

/-- The scratch after the last part is the reference's product. -/
theorem scratch_last (t : Fin cfg0.N) (h : t.val % 4 = 3) (i j : Fin 1024) (I : Fin 8192) (J : Fin 2048)
    (hI : I.val = t.val / 8 * 1024 + i.val) (hJ : J.val = t.val / 4 % 2 * 1024 + j.val) :
    (outsAt0 m c t.val t.isLt).2.2 (ix2 i j) = Cert.DownRefIdeal.Read.val_main_v4 (F := Ideal) (a0 m c) (a1 m c) (ix2 I J) := by
  obtain ⟨n, hn⟩ := t
  obtain ⟨b, rfl⟩ : ∃ b, n = b + 3 := ⟨n - 3, by dsimp only at h; omega⟩
  dsimp only at h hI hJ
  rw [scratch_next m c ⟨b + 3, hn⟩ ⟨b + 2, by omega⟩ rfl (by dsimp only; omega), add_apply,
    scratch_next m c ⟨b + 2, by omega⟩ ⟨b + 1, by omega⟩ rfl (by dsimp only; omega), add_apply,
    scratch_next m c ⟨b + 1, by omega⟩ ⟨b, by omega⟩ rfl (by dsimp only; omega), add_apply,
    scratch_first m c ⟨b, by omega⟩ (by dsimp only; omega), first_apply,
    part_eq m c ⟨b, _⟩ 0 (by show b % 4 = 0; omega) i j I J (by dsimp only; omega) (by dsimp only; omega),
    part_eq m c ⟨b + 1, _⟩ 1 (by show (b + 1) % 4 = 1; omega) i j I J (by dsimp only; omega) (by dsimp only; omega),
    part_eq m c ⟨b + 2, _⟩ 2 (by show (b + 2) % 4 = 2; omega) i j I J (by dsimp only; omega) (by dsimp only; omega),
    part_eq m c ⟨b + 3, _⟩ 3 (by show (b + 3) % 4 = 3; omega) i j I J hI hJ, dot_apply]
  exact (Cert.Mlp.sum_four _).symm

theorem arr4_eq : (dats m 0 c).arrAt 4 cfg0.N = Cert.DownRefIdeal.Read.val_main_v8 (F := Ideal) (a0 m c) (a1 m c) (a2 m c) (a3 m c) := by
  refine (dats m 0 c).arrAt_eq_of_covers 4 _ (by decide +kernel) fun t hf y => ?_
  have ht : t.val % 4 = 3 := (flush0_4 t).mp hf
  have hN : t.val < 64 := lt_of_lt_of_eq t.isLt (show cfg0.N = 64 from N_0)
  blk_simp
  rw [after0_4, out4 m c t ht]
  obtain ⟨i, j, rfl⟩ : ∃ (i j : Fin 1024), y = ix2 i j := ⟨y 0, y 1, by funext a; fin_cases a <;> rfl⟩
  have e : ((cfg0.win 4).blk t).view.emb (ix2 i j)
      = ix2 (⟨t.val / 8 * 1024 + i.val, by omega⟩ : Fin 8192) (⟨t.val / 4 % 2 * 1024 + j.val, by omega⟩ : Fin 2048) := by
    blk_ext [idx4 t]
    all_goals omega
  refine (gate_apply _ _ _ i j).trans ?_
  rw [e, Cert.DownRefIdeal.Read.val_main_v8_apply, Cert.DownRefIdeal.Read.val_main_v7_apply, gate_ref]
  exact congr (congrArg HAdd.hAdd (blk2 m c t i j _ _ rfl rfl))
    (congr (congrArg HMul.hMul (blk3 m c t j _ rfl)) (scratch_last m c t ht i j _ _ rfl rfl))

theorem arr5_eq : (dats m 0 c).arrAt 5 cfg0.N = Cert.DownRefIdeal.Read.val_main_v9 (F := Ideal) (a0 m c) (a1 m c) := by
  refine (dats m 0 c).arrAt_eq_of_covers 5 _ (by decide +kernel) fun t hf y => ?_
  have ht : t.val % 4 = 3 := (flush0_5 t).mp hf
  have hN : t.val < 64 := lt_of_lt_of_eq t.isLt (show cfg0.N = 64 from N_0)
  blk_simp
  rw [after0_5, out5 m c t ht]
  obtain ⟨i, j, rfl⟩ : ∃ (i j : Fin 1024), y = ix2 i j := ⟨y 0, y 1, by funext a; fin_cases a <;> rfl⟩
  have e : ((cfg0.win 5).blk t).view.emb (ix2 i j)
      = ix2 (⟨t.val / 8 * 1024 + i.val, by omega⟩ : Fin 8192) (⟨t.val / 4 % 2 * 1024 + j.val, by omega⟩ : Fin 2048) := by
    blk_ext [idx5 t]
    all_goals omega
  rw [e, Cert.DownRefIdeal.Read.val_main_v9_apply]
  exact scratch_last m c t ht i j _ _ rfl rfl

/-- The program read over bits and the one read over the reals have the same text, so the same body table. -/
theorem defs_eq : Cert.Down.defs (F := Bits) = Cert.DownIdeal.defs (F := Bits) := by
  refine congrArg (Pipeline.defs Cert.DownIdeal.pcfgs) (congrArg Defs.onTc (funext fun l => funext fun a => ?_))
  obtain ⟨_ | l, hl⟩ := l
  · rfl
  · exact absurd hl (by omega)

theorem frame_kernel : Cert.quiescent_Down := by
  intro m ρ _
  have h := Cert.DownIdeal.Gen.frame (F := Bits) m ρ
  rw [← defs_eq] at h
  exact h
theorem frame_ideal : Cert.quiescent_DownIdeal := fun m ρ _ => Cert.DownIdeal.Gen.frame (F := Ideal) m ρ
theorem frame_reference : Cert.quiescent_DownRefIdeal := fun m ρ _ =>
  (θ_run Cert.DownRefIdeal.defs _ _).mono (fun r h => ⟨fun c => (h c).2.2, sem_eq_zero_of_no_sems (by decide) r.2⟩)
    (Cert.DownRefIdeal.Value.run (F := Ideal) m ρ)

theorem algebraic : Cert.algebraic_DownIdeal_DownRefIdeal := by
  intro m ρ m' ρ' _ hagree
  refine ⟨fun c => Cert.DownRefIdeal.Read.val_main_v8 (F := Ideal) (a0 m c) (a1 m c) (a2 m c) (a3 m c),
    fun c => Cert.DownRefIdeal.Read.val_main_v9 (F := Ideal) (a0 m c) (a1 m c), ?_, ?_⟩
  · exact (θ_run Cert.DownIdeal.defs _ _).mono (fun r h c => ⟨(h c).1.trans (arr4_eq m c), (h c).2.1.trans (arr5_eq m c), (h c).2.2⟩)
      (Cert.DownIdeal.Value.run_blocks (F := Ideal) m ρ)
  · refine (θ_run Cert.DownRefIdeal.defs _ _).mono (fun r h c => ⟨((h c).1.trans (Cert.DownRefIdeal.Read.val_main_v8_eq (F := Ideal) _ _ _ _)).trans ?_,
      ((h c).2.1.trans (Cert.DownRefIdeal.Read.val_main_v9_eq (F := Ideal) _ _)).trans ?_, (h c).2.2⟩)
      (Cert.DownRefIdeal.Value.run (F := Ideal) m' ρ')
    · obtain ⟨h0, h1, h2, h3⟩ := hagree c
      exact congr (congr (congr (congrArg _ h0) h1) h2) h3
    · obtain ⟨h0, h1, _⟩ := hagree c
      exact congr (congrArg _ h0) h1

end Cert.DownValue

end
-- ==== Proof.NormRow.lean ====
/- The gradient of a row scaled by the inverse root of its mean square, over the extended reals: the kernel's form, which
   subtracts the normalized row's part before scaling, is the chain rule's form, term by term. -/
module

public import Idealize.ShloMosaic.PureOps.Ideal.Laws

@[expose] public section

namespace Cert.NormRow

open Idealize.ShloMosaic

theorem sq_nonneg (x : EReal) : 0 ≤ x * x := by
  induction x with
  | bot => simp
  | top => simp
  | coe r => exact_mod_cast mul_self_nonneg r

/-- Twice a value times a real. -/
theorem add_self (y : EReal) : y + y = y * ((2 : ℝ) : EReal) := by
  induction y with
  | bot => rw [EReal.bot_mul_coe_of_pos (by norm_num)]; rfl
  | top => rw [EReal.top_mul_coe_of_pos (by norm_num)]; rfl
  | coe r => norm_cast; ring

/-- A nonnegative real times a finite sum. -/
theorem mul_sum {n : ℕ} (q : ℝ) (hq : 0 ≤ q) (f : Fin n → EReal) : (q : EReal) * ∑ k, f k = ∑ k, (q : EReal) * f k := by
  classical
  induction (Finset.univ : Finset (Fin n)) using Finset.induction_on with
  | empty => simp
  | insert a s ha ih =>
    rw [Finset.sum_insert ha, Finset.sum_insert ha, EReal.left_distrib_of_nonneg_of_ne_top (by exact_mod_cast hq) (EReal.coe_ne_top _), ih]

/-- The mean square with its small positive constant is positive. -/
theorem mean_pos {n : ℕ} (x : Fin n → EReal) (c e : ℝ) (hc : 0 < c) (he : 0 < e) :
    0 < Ideal.div (∑ k, x k * x k) (c : EReal) + (e : EReal) := by
  rw [Ideal.div_coe hc.ne']
  have h : (0 : EReal) ≤ (∑ k, x k * x k) * ((1 / c : ℝ) : EReal) :=
    mul_nonneg (Finset.sum_nonneg fun k _ => sq_nonneg _) (by exact_mod_cast (by positivity : 0 ≤ 1 / c))
  exact lt_of_lt_of_le (by exact_mod_cast he) (le_add_of_nonneg_left h)

/-- The kernel's form of one element is the chain rule's. -/
theorem grad {n : ℕ} (x d : Fin n → EReal) (j : Fin n) (v : EReal) (hv : 0 < v) (c : ℝ) (hc : 0 < c) :
    Ideal.rsqrt v * (d j - x j * Ideal.rsqrt v * Ideal.div (∑ k, d k * (x k * Ideal.rsqrt v)) (c : EReal))
      = d j * Ideal.rsqrt v
          + x j * Ideal.div ((∑ k, x k * d k) * (((-1 / 2 : ℝ) : EReal) * Ideal.div (Ideal.rsqrt v) v)) (c : EReal)
          + Ideal.div ((∑ k, x k * d k) * (((-1 / 2 : ℝ) : EReal) * Ideal.div (Ideal.rsqrt v) v)) (c : EReal) * x j := by
  rw [Ideal.div_coe hc.ne', Ideal.div_coe hc.ne']
  induction v with
  | bot => exact absurd hv (by simp)
  | top => simp [Ideal.div]
  | coe r =>
    have hr : 0 < r := by exact_mod_cast hv
    obtain ⟨q, hq, hqr, e⟩ : ∃ q : ℝ, 0 < q ∧ q * q = 1 / r ∧ Ideal.rsqrt (r : EReal) = (q : EReal) := by
      refine ⟨(√r)⁻¹, by positivity, ?_, ?_⟩
      · rw [← mul_inv, Real.mul_self_sqrt hr.le, one_div]
      · rw [Ideal.rsqrt_coe, if_neg (not_lt.mpr hr.le), if_neg hr.ne']
    rw [e, Ideal.div_coe hr.ne', ← EReal.coe_mul, ← EReal.coe_mul, ← hqr]
    have hs : ∑ k, d k * (x k * (q : EReal)) = (q : EReal) * ∑ k, x k * d k := by
      rw [mul_sum q hq.le]
      exact Finset.sum_congr rfl fun k _ => by rw [mul_comm (d k), mul_comm (x k) (q : EReal), mul_assoc]
    rw [hs]
    generalize (∑ k, x k * d k) = A
    generalize x j = y
    generalize d j = z
    have e1 : A * ((-1 / 2 * (q * (q * q)) : ℝ) : EReal) * ((1 / c : ℝ) : EReal) * y = y * (A * ((-1 / 2 * (q * (q * q)) : ℝ) : EReal) * ((1 / c : ℝ) : EReal)) := mul_comm _ _
    rw [e1, add_assoc, add_self, sub_eq_add_neg, EReal.left_distrib_of_nonneg_of_ne_top (by exact_mod_cast hq.le) (EReal.coe_ne_top _)]
    refine congr (congrArg HAdd.hAdd (mul_comm _ _)) ?_
    have e2 : y * (q : EReal) * ((q : EReal) * A * ((1 / c : ℝ) : EReal)) = (y * A) * (((q * q) * (1 / c) : ℝ) : EReal) := by
      push_cast
      ac_rfl
    have e3 : y * (A * ((-1 / 2 * (q * (q * q)) : ℝ) : EReal) * ((1 / c : ℝ) : EReal)) * ((2 : ℝ) : EReal)
        = (y * A) * ((-1 / 2 * (q * (q * q)) * (1 / c) * 2 : ℝ) : EReal) := by
      simp only [EReal.coe_mul]
      ac_rfl
    rw [e2, e3, ← mul_neg, ← EReal.coe_neg, mul_comm (q : EReal), mul_assoc, ← EReal.coe_mul]
    refine congrArg (fun s : ℝ => (y * A) * (s : EReal)) ?_
    ring

end Cert.NormRow
-- ==== Proof.NormGrad.lean ====
/- The gradient of the normalization with its scale and shift and of the gated residual after it (`norm_ffn_bwd_1`): each
   grid point writes a block of rows of both results, and each element is the reference's. -/
module

public import proofs.«01_k».proof.Defs
public import proofs.«01_k».proof.Proof.NormRow
public import proofs.«01_k».proof.Proof.Gen.Norm
public import proofs.«01_k».proof.Proof.Gen.NormIdeal.Frame
public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

namespace Cert.NormGrad

open Cert.NormIdeal Cert.NormIdeal.Gen Idealize.ShloMosaic Idealize.ShloMosaic.TcCoe Idealize.SL.Sem

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx11 : ∀ t : Fin cfg0.N, win0_11.index t = ![t.val, 0] := (by decide +kernel : ∀ t : Fin grid0.N, _)

/-- The row's length, the small constant in the mean square, and the half of the chain rule. -/
abbrev cols : EReal := Ideal.ofBits .f32 0x45000000#32
abbrev eps : EReal := Ideal.ofBits .f32 0x358637BD#32
abbrev half : EReal := Ideal.ofBits .f32 0xBF000000#32
theorem cols_eq : cols = ((2048 : ℝ) : EReal) := by
  simp [cols, Ideal.ofBits, Ideal.ieee, -EReal.coe_mul]
  norm_num
theorem half_eq : half = ((-1 / 2 : ℝ) : EReal) := by
  simp [half, Ideal.ofBits, Ideal.ieee, -EReal.coe_mul]
  norm_num
theorem eps_pos : ∃ e : ℝ, 0 < e ∧ eps = (e : EReal) := by
  refine ⟨_, ?_, rfl⟩
  rw [if_neg (by decide)]
  norm_num
  positivity

/-- The mean square of a row with the small constant. -/
def ms (x : Fin 2048 → EReal) : EReal := Ideal.div (∑ k, x k * x k) cols + eps
theorem ms_pos (x : Fin 2048 → EReal) : 0 < ms x := by
  obtain ⟨e, he, h⟩ := eps_pos
  rw [ms, cols_eq, h]
  exact Cert.NormRow.mean_pos x 2048 e (by norm_num) he

/-- The kernel's expression at one element of a row `x`, from the gradient `d` of its normalized row. -/
def kernelRow (x d : Fin 2048 → EReal) (j : Fin 2048) : EReal :=
  Ideal.rsqrt (ms x) * (d j - x j * Ideal.rsqrt (ms x) * Ideal.div (∑ k, d k * (x k * Ideal.rsqrt (ms x))) cols)
/-- The chain rule's factor of the row, and its expression at one element. -/
def factor (x d : Fin 2048 → EReal) : EReal := Ideal.div ((∑ k, x k * d k) * (half * Ideal.div (Ideal.rsqrt (ms x)) (ms x))) cols
def refRow (x d : Fin 2048 → EReal) (j : Fin 2048) : EReal := d j * Ideal.rsqrt (ms x) + x j * factor x d + factor x d * x j
theorem row_eq (x d : Fin 2048 → EReal) (j : Fin 2048) : kernelRow x d j = refRow x d j := by
  unfold kernelRow refRow factor
  rw [cols_eq, half_eq]
  exact Cert.NormRow.grad x d j _ (ms_pos x) 2048 (by norm_num)

theorem rsqrt_apply (x : FVec Ideal S256x2048 .f32) (i : Fin 256) :
    k0_pay2 (F := Ideal) x (ix2 i 0) = Ideal.rsqrt (ms fun k => x (ix2 i k)) := by
  pointwise [k0_pay2]
  rfl
theorem norm_apply (x : FVec Ideal S256x2048 .f32) (i : Fin 256) (j : Fin 2048) :
    k0_pay3 (F := Ideal) x (ix2 i j) = x (ix2 i j) * Ideal.rsqrt (ms fun k => x (ix2 i k)) := by
  rw [← rsqrt_apply]
  unfold k0_pay3
  generalize k0_pay2 (F := Ideal) x = R
  pointwise []
theorem scale_apply (g : FVec Ideal S1x2048 .f32) (j : Fin 2048) : k0_pay4 (F := Ideal) g (ix2 0 j) = g (ix2 0 j) := by
  pointwise [k0_pay4]
theorem shift_apply (dh : FVec Ideal S256x2048 .f32) (sc : FVec Ideal S1x2048 .f32) (i : Fin 256) (j : Fin 2048) :
    k0_pay5 (F := Ideal) dh sc (ix2 i j) = dh (ix2 i j) * (Ideal.ofBits .f32 0x3F800000#32 + sc (ix2 0 j)) := by
  pointwise [k0_pay5]

/-- The first result's block at an index. -/
theorem dx_apply (x dh : FVec Ideal S256x2048 .f32) (g sc : FVec Ideal S1x2048 .f32) (r : FVec Ideal S256x2048 .f32) (i : Fin 256) (j : Fin 2048) :
    k0_pay6 (F := Ideal) x dh g sc r (ix2 i j) = r (ix2 i j) + kernelRow (fun k => x (ix2 i k))
      (fun k => dh (ix2 i k) * (Ideal.ofBits .f32 0x3F800000#32 + sc (ix2 0 k)) * g (ix2 0 k)) j := by
  unfold kernelRow
  simp only [← norm_apply, ← shift_apply, ← scale_apply g]
  rw [← rsqrt_apply]
  unfold k0_pay6
  generalize k0_pay5 (F := Ideal) dh sc = D
  generalize k0_pay4 (F := Ideal) g = G
  generalize k0_pay3 (F := Ideal) x = N
  generalize k0_pay2 (F := Ideal) x = R
  pointwise []
/-- The second result's block at an index. -/
theorem dy_apply (X : FVec Ideal S256x2048 .f32) (g : FVec Ideal S1x2048 .f32) (i : Fin 256) (j : Fin 2048) :
    k0_pay13 (F := Ideal) X g (ix2 i j) = X (ix2 i j) * g (ix2 0 j) := by
  pointwise [k0_pay13]

variable (m : (ℓ : Loc nD τ sig) → Buf (Elt Ideal) ℓ) (c : Dev nD)

abbrev a0 : FVec Ideal S8192x2048 .f32 := m ((c : Thread nD τ).loc main_arg0)
abbrev a1 : FVec Ideal S8192x2048 .f32 := m ((c : Thread nD τ).loc main_arg1)
abbrev a2 : FVec Ideal S8192x2048 .f32 := m ((c : Thread nD τ).loc main_arg2)
abbrev a3 : FVec Ideal S2048 .f32 := m ((c : Thread nD τ).loc main_arg3)
abbrev a4 : FVec Ideal S2048 .f32 := m ((c : Thread nD τ).loc main_arg4)
abbrev a6 : FVec Ideal S2048 .f32 := m ((c : Thread nD τ).loc main_arg6)

/-- A vector laid out as one row. -/
theorem row_apply (x : FVec Ideal S2048 .f32) (j : Fin 2048) : shapeCast S1x2048 x shapeCasts_S2048_S1x2048 (ix2 0 j) = x (ix1 j) := by
  pointwise []
theorem V_v0 : (V m c main_v0 : FVec Ideal S1x2048 .f32) = shapeCast S1x2048 (a3 m c) shapeCasts_S2048_S1x2048 := by
  unfold V
  after_reads_simp
  rfl
theorem V_v1 : (V m c main_v1 : FVec Ideal S1x2048 .f32) = shapeCast S1x2048 (a4 m c) shapeCasts_S2048_S1x2048 := by
  unfold V
  after_reads_simp
  rfl
theorem V_v2 : (V m c main_v2 : FVec Ideal S1x2048 .f32) = shapeCast S1x2048 (a6 m c) shapeCasts_S2048_S1x2048 := by
  unfold V
  after_reads_simp
  rfl

/-- What a grid point leaves in its two blocks, at the first point and at the others. -/
theorem out7 (t : Fin cfg0.N) : (outsAt0 m c t.val t.isLt).1
    = k0_pay6 (iblk m c 0 t) (iblk m c 1 t) (iblk m c 3 t) (iblk m c 4 t) (iblk m c 2 t) := by
  by_cases h : t.val % 32 = 0
  · rw [outsAt0_A m c t h h]
    frame_out
  · rw [outsAt0_B m c t h h]
    frame_out
theorem out11 (t : Fin cfg0.N) : (outsAt0 m c t.val t.isLt).2.2.2.2.1
    = k0_pay13 (k0_pay6 (iblk m c 0 t) (iblk m c 1 t) (iblk m c 3 t) (iblk m c 4 t) (iblk m c 2 t)) (iblk m c 6 t) := by
  by_cases h : t.val % 32 = 0
  · rw [outsAt0_A m c t h h]
    frame_out
  · rw [outsAt0_B m c t h h]
    frame_out

theorem blk0 (t : Fin cfg0.N) (i : Fin 256) (j : Fin 2048) (I : Fin 8192) (hI : I.val = t.val * 256 + i.val) :
    iblk m c 0 t (ix2 i j) = a0 m c (ix2 I j) := by
  blk_ext [iblk, idx0 t]
  all_goals omega
theorem blk1 (t : Fin cfg0.N) (i : Fin 256) (j : Fin 2048) (I : Fin 8192) (hI : I.val = t.val * 256 + i.val) :
    iblk m c 1 t (ix2 i j) = a1 m c (ix2 I j) := by
  blk_ext [iblk, idx1 t]
  all_goals omega
theorem blk2 (t : Fin cfg0.N) (i : Fin 256) (j : Fin 2048) (I : Fin 8192) (hI : I.val = t.val * 256 + i.val) :
    iblk m c 2 t (ix2 i j) = a2 m c (ix2 I j) := by
  blk_ext [iblk, idx2 t]
  all_goals omega
theorem blk3 (t : Fin cfg0.N) (j : Fin 2048) : iblk m c 3 t (ix2 0 j) = a3 m c (ix1 j) := by
  rw [← row_apply (a3 m c), ← V_v0]
  blk_ext [iblk, idx3 t]
  all_goals omega
theorem blk4 (t : Fin cfg0.N) (j : Fin 2048) : iblk m c 4 t (ix2 0 j) = a4 m c (ix1 j) := by
  rw [← row_apply (a4 m c), ← V_v1]
  blk_ext [iblk, idx4 t]
  all_goals omega
theorem blk6 (t : Fin cfg0.N) (j : Fin 2048) : iblk m c 6 t (ix2 0 j) = a6 m c (ix1 j) := by
  rw [← row_apply (a6 m c), ← V_v2]
  blk_ext [iblk, idx6 t]
  all_goals omega

section Reference
open Cert.NormRefIdeal.Read

variable (x0 x1 x2 : FVec Ideal S8192x2048 .f32) (x3 x4 x6 : FVec Ideal S2048 .f32) (i : Fin 8192) (j : Fin 2048)

/-- The reference's mean square of a row. -/
theorem ref_ms : val_main_v7 (F := Ideal) x0 (ix2 i 0) = ms fun k => x0 (ix2 i k) := by
  rw [val_main_v7_apply, val_main_v5_apply, val_main_v3_apply, val_main_v2_apply, val_main_v4_apply, val_main_v6_apply]
  refine congr (congrArg HAdd.hAdd (congr (congrArg Ideal.div ?_) rfl)) rfl
  refine (congrArg (· + _) Ideal.ofBits_zero_f32).trans ((zero_add _).trans (Finset.sum_congr rfl fun k _ => ?_))
  have e : idx_main_v2 (idx_main_v3 (ix2 i 0)) k = ix2 i k := by funext a; fin_cases a <;> rfl
  rw [e]
  rfl
theorem ref_rsqrt : val_main_v8 (F := Ideal) x0 (ix2 i 0) = Ideal.rsqrt (ms fun k => x0 (ix2 i k)) := by
  rw [val_main_v8_apply, ref_ms]
  rfl
theorem ref_scale : val_main_v27 (F := Ideal) x3 (ix2 i j) = x3 (ix1 j) := by
  rw [val_main_v27_apply, val_main_v14_apply]
  exact congrArg x3 (by funext a; fin_cases a; rfl)
theorem ref_shift : val_main_v25 (F := Ideal) x4 (ix2 i j) = Ideal.ofBits .f32 0x3F800000#32 + x4 (ix1 j) := by
  rw [val_main_v25_apply, val_main_v19_apply, val_main_v18_apply, val_main_v17_apply]
  exact congrArg (Ideal.ofBits .f32 0x3F800000#32 + x4 ·) (by funext a; fin_cases a; rfl)
theorem ref_gate : val_main_v48 (F := Ideal) x6 (ix2 i j) = x6 (ix1 j) := by
  rw [val_main_v48_apply, val_main_v45_apply]
  exact congrArg x6 (by funext a; fin_cases a; rfl)

/-- The gradient of the normalized row. -/
abbrev dn (k : Fin 2048) : EReal := x1 (ix2 i k) * (Ideal.ofBits .f32 0x3F800000#32 + x4 (ix1 k)) * x3 (ix1 k)
theorem ref_dn : val_main_v28 (F := Ideal) x1 x3 x4 (ix2 i j) = dn x1 x3 x4 i j := by
  rw [val_main_v28_apply, val_main_v26_apply, ref_scale, ref_shift]
  rfl
theorem ref_sum : val_main_v31 (F := Ideal) x0 x1 x3 x4 (ix2 i 0) = ∑ k, x0 (ix2 i k) * dn x1 x3 x4 i k := by
  rw [val_main_v31_apply, val_main_v30_apply]
  refine (congrArg (· + _) Ideal.ofBits_zero_f32).trans ((zero_add _).trans (Finset.sum_congr rfl fun k _ => ?_))
  have e : idx_main_v30 (idx_main_v31 (ix2 i 0)) k = ix2 i k := by
    funext a
    match a with
    | ⟨0, _⟩ => exact Fin.ext (by simp [idx_main_v31, idx_main_v30])
    | ⟨1, _⟩ => rfl
  rw [e, val_main_v29_apply, ref_dn]
  rfl
theorem ref_factor : val_main_v38 (F := Ideal) x0 x1 x3 x4 (ix2 i j) = factor (fun k => x0 (ix2 i k)) (dn x1 x3 x4 i) := by
  rw [val_main_v38_apply, val_main_v37_apply]
  refine (congrArg (· + _) Ideal.ofBits_zero_f32).trans ((zero_add _).trans ((Fin.sum_univ_one _).trans ?_))
  have e : idx_main_v37 (idx_main_v38 (ix2 i j)) 0 = ix2 i 0 := by funext a; fin_cases a <;> rfl
  rw [e, val_main_v36_apply, val_main_v34_apply, val_main_v11_apply, val_main_v9_apply, ref_sum, ref_rsqrt, ref_ms, val_main_v10_apply, val_main_v35_apply]
  rfl
theorem ref_dx : val_main_v43 (F := Ideal) x0 x1 x2 x3 x4 (ix2 i j)
    = x2 (ix2 i j) + refRow (fun k => x0 (ix2 i k)) (dn x1 x3 x4 i) j := by
  have e : idx_main_v32 (ix2 i j) = ix2 i 0 := by funext a; fin_cases a <;> rfl
  rw [val_main_v43_apply, val_main_v42_apply, val_main_v40_apply, val_main_v41_apply, val_main_v39_apply, val_main_v33_apply, val_main_v32_apply,
    e, ref_dn, ref_factor, ref_rsqrt]
  rfl
theorem ref_dy : val_main_v50 (F := Ideal) x0 x1 x2 x3 x4 x6 (ix2 i j)
    = x6 (ix1 j) * val_main_v43 (F := Ideal) x0 x1 x2 x3 x4 (ix2 i j) := by
  rw [val_main_v50_apply, val_main_v49_apply, ref_gate]
  rfl

end Reference

/-- The block of the first result, as the reference's values. -/
theorem dx_eq (t : Fin cfg0.N) (i : Fin 256) (j : Fin 2048) (I : Fin 8192) (hI : I.val = t.val * 256 + i.val) :
    k0_pay6 (F := Ideal) (iblk m c 0 t) (iblk m c 1 t) (iblk m c 3 t) (iblk m c 4 t) (iblk m c 2 t) (ix2 i j)
      = Cert.NormRefIdeal.Read.val_main_v43 (F := Ideal) (a0 m c) (a1 m c) (a2 m c) (a3 m c) (a4 m c) (ix2 I j) := by
  rw [ref_dx, ← row_eq]
  refine (dx_apply _ _ _ _ _ i j).trans (congr (congrArg HAdd.hAdd (blk2 m c t i j I hI)) ?_)
  refine congr (congr (congrArg kernelRow (funext fun k => blk0 m c t i k I hI)) (funext fun k => ?_)) rfl
  exact congr (congrArg HMul.hMul (congr (congrArg HMul.hMul (blk1 m c t i k I hI)) (congrArg _ (blk4 m c t k)))) (blk3 m c t k)

theorem arr7_eq : (dats m 0 c).arrAt 7 cfg0.N
    = Cert.NormRefIdeal.Read.val_main_v43 (F := Ideal) (a0 m c) (a1 m c) (a2 m c) (a3 m c) (a4 m c) := by
  refine (dats m 0 c).arrAt_eq_of_covers 7 _ (by decide +kernel) fun t hf y => ?_
  have hN : t.val < 32 := lt_of_lt_of_eq t.isLt (show cfg0.N = 32 from N_0)
  blk_simp
  rw [after0_7, out7 m c t]
  obtain ⟨i, j, rfl⟩ : ∃ (i : Fin 256) (j : Fin 2048), y = ix2 i j := ⟨y 0, y 1, by funext a; fin_cases a <;> rfl⟩
  have e : ((cfg0.win 7).blk t).view.emb (ix2 i j) = ix2 (⟨t.val * 256 + i.val, by omega⟩ : Fin 8192) j := by
    blk_ext [idx7 t]
    all_goals omega
  rw [e]
  exact dx_eq m c t i j _ rfl

theorem arr11_eq : (dats m 0 c).arrAt 11 cfg0.N
    = Cert.NormRefIdeal.Read.val_main_v50 (F := Ideal) (a0 m c) (a1 m c) (a2 m c) (a3 m c) (a4 m c) (a6 m c) := by
  refine (dats m 0 c).arrAt_eq_of_covers 11 _ (by decide +kernel) fun t hf y => ?_
  have hN : t.val < 32 := lt_of_lt_of_eq t.isLt (show cfg0.N = 32 from N_0)
  blk_simp
  rw [after0_11, out11 m c t]
  obtain ⟨i, j, rfl⟩ : ∃ (i : Fin 256) (j : Fin 2048), y = ix2 i j := ⟨y 0, y 1, by funext a; fin_cases a <;> rfl⟩
  have e : ((cfg0.win 11).blk t).view.emb (ix2 i j) = ix2 (⟨t.val * 256 + i.val, by omega⟩ : Fin 8192) j := by
    blk_ext [idx11 t]
    all_goals omega
  rw [e, ref_dy]
  refine (dy_apply _ _ i j).trans ((mul_comm _ _).trans ?_)
  exact congr (congrArg HMul.hMul (blk6 m c t j)) (dx_eq m c t i j _ rfl)

/-- The program read over bits and the one read over the reals have the same text, so the same body table. -/
theorem defs_eq : Cert.Norm.defs (F := Bits) = Cert.NormIdeal.defs (F := Bits) := by
  refine congrArg (Pipeline.defs Cert.NormIdeal.pcfgs) (congrArg Defs.onTc (funext fun l => funext fun a => ?_))
  obtain ⟨_ | l, hl⟩ := l
  · rfl
  · exact absurd hl (by omega)

theorem frame_kernel : Cert.quiescent_Norm := by
  intro m ρ _
  have h := Cert.NormIdeal.Gen.frame (F := Bits) m ρ
  rw [← defs_eq] at h
  exact h
theorem frame_ideal : Cert.quiescent_NormIdeal := fun m ρ _ => Cert.NormIdeal.Gen.frame (F := Ideal) m ρ
theorem frame_reference : Cert.quiescent_NormRefIdeal := fun m ρ _ =>
  (θ_run Cert.NormRefIdeal.defs _ _).mono (fun r h => ⟨fun c => (h c).2.2, sem_eq_zero_of_no_sems (by decide) r.2⟩)
    (Cert.NormRefIdeal.Value.run (F := Ideal) m ρ)

theorem algebraic : Cert.algebraic_NormIdeal_NormRefIdeal := by
  intro m ρ m' ρ' _ hagree
  refine ⟨fun c => Cert.NormRefIdeal.Read.val_main_v43 (F := Ideal) (a0 m c) (a1 m c) (a2 m c) (a3 m c) (a4 m c),
    fun c => Cert.NormRefIdeal.Read.val_main_v50 (F := Ideal) (a0 m c) (a1 m c) (a2 m c) (a3 m c) (a4 m c) (a6 m c), ?_, ?_⟩
  · exact (θ_run Cert.NormIdeal.defs _ _).mono (fun r h c => ⟨(h c).1.trans (arr7_eq m c), (h c).2.2.2.2.1.trans (arr11_eq m c), (h c).2.2.2.2.2.2⟩)
      (Cert.NormIdeal.Value.run_blocks (F := Ideal) m ρ)
  · refine (θ_run Cert.NormRefIdeal.defs _ _).mono (fun r h c => ⟨((h c).1.trans (Cert.NormRefIdeal.Read.val_main_v43_eq (F := Ideal) m' c)).trans ?_,
      ((h c).2.1.trans (Cert.NormRefIdeal.Read.val_main_v50_eq (F := Ideal) m' c)).trans ?_, (h c).2.2⟩)
      (Cert.NormRefIdeal.Value.run (F := Ideal) m' ρ')
    · obtain ⟨h0, h1, h2, h3, h4, _⟩ := hagree c
      exact congr (congr (congr (congr (congrArg _ h0) h1) h2) h3) h4
    · obtain ⟨h0, h1, h2, h3, h4, _, h6⟩ := hagree c
      exact congr (congr (congr (congr (congr (congrArg _ h0) h1) h2) h3) h4) h6

end Cert.NormGrad

end
-- ==== Proof.Xbc.lean ====
/- The projection of the state-space mixer that the convolution reads (`mm_ssm_xbc`): one contraction per block, with the middle
   columns of the mixer's weight; each element is the reference's. -/
module

public import proofs.«01_k».proof.Defs
public import proofs.«01_k».proof.Proof.Gen.Xbc
public import proofs.«01_k».proof.Proof.Gen.XbcIdeal.Frame
public import proofs.«01_k».proof.Proof.Gen.XbcIdeal.Value
public import proofs.«01_k».proof.Proof.Gen.XbcRefIdeal.Run
public import proofs.«01_k».proof.Proof.Gen.XbcRefIdeal.Read
public import Idealize.ShloMosaic.Lib.Pipeline.ValueKit
public import Idealize.ShloMosaic.Lib.StableHlo.RunRead
public import Idealize.ShloMosaic.Lib.Pointwise
public import Idealize.ShloMosaic.Lib.Quiescent

@[expose] public section

set_option maxRecDepth 16384

noncomputable section

namespace Cert.XbcValue

open Cert.XbcIdeal Cert.XbcIdeal.Gen Idealize.ShloMosaic Idealize.ShloMosaic.TcCoe Idealize.SL.Sem

theorem idx0 : ∀ t : Fin cfg0.N, win0_0.index t = ![t.val / 6, 0] := (by decide +kernel : ∀ t : Fin grid0.N, _)
theorem idx1 : ∀ t : Fin cfg0.N, win0_1.index t = ![0, t.val % 6] := (by decide +kernel : ∀ t : Fin grid0.N, _)
theorem idx2 : ∀ t : Fin cfg0.N, win0_2.index t = ![t.val / 6, t.val % 6] := (by decide +kernel : ∀ t : Fin grid0.N, _)

/-- A block's result at an index. -/
theorem block_apply (v0 : FVec Ideal S1024x2048 .bf16) (v1 : FVec Ideal S2048x1024 .bf16) (i j : Fin 1024) :
    k0_pay1 (F := Ideal) v0 v1 (ix2 i j) = ∑ k : Fin 2048, v0 (ix2 i k) * v1 (ix2 k j) := by
  pointwise [k0_pay1]

variable (m : (ℓ : Loc nD τ sig) → Buf (Elt Ideal) ℓ) (c : Dev nD)

abbrev a0 : FVec Ideal S8192x2048 .bf16 := m ((c : Thread nD τ).loc main_arg0)
abbrev a1 : FVec Ideal S2048x10304 .f32 := m ((c : Thread nD τ).loc main_arg1)

/-- The columns of the weight that the host passes to the kernel. -/
theorem V_v1 (k : Fin 2048) (j : Fin 6144) (J : Fin 10304) (hJ : J.val = 4096 + j.val) :
    (V m c main_v1 : FVec Ideal S2048x6144 .bf16) (ix2 k j) = a1 m c (ix2 k J) := by
  have e : (V m c main_v1 : FVec Ideal S2048x6144 .bf16)
      = extractStridedSlice S2048x6144 ![0, 4096] (a1 m c) slices_S2048x10304_S2048x6144_0_4096 := by
    unfold V
    after_reads_simp
    rfl
  rw [e]
  refine congrArg (a1 m c) (funext fun b => ?_)
  match b with
  | ⟨0, _⟩ => exact Fin.ext (show 0 + k.val = k.val by omega)
  | ⟨1, _⟩ => exact Fin.ext (show 4096 + j.val = J.val by omega)

theorem blk0 (t : Fin cfg0.N) (i : Fin 1024) (k : Fin 2048) (I : Fin 8192) (hI : I.val = t.val / 6 * 1024 + i.val) :
    iblk m c 0 t (ix2 i k) = a0 m c (ix2 I k) := by
  blk_ext [iblk, idx0 t]
  all_goals omega
theorem blk1 (t : Fin cfg0.N) (k : Fin 2048) (j : Fin 1024) (J : Fin 10304) (hJ : J.val = 4096 + (t.val % 6 * 1024 + j.val)) :
    iblk m c 1 t (ix2 k j) = a1 m c (ix2 k J) := by
  rw [← V_v1 m c k ⟨t.val % 6 * 1024 + j.val, by omega⟩ J hJ]
  blk_ext [iblk, idx1 t]
  all_goals omega

/-- The reference's result at an index. -/
theorem ref_apply (x0 : FVec Ideal S8192x2048 .bf16) (x1 : FVec Ideal S2048x10304 .f32) (i : Fin 8192) (j : Fin 6144) (J : Fin 10304)
    (hJ : J.val = 4096 + j.val) :
    Cert.XbcRefIdeal.Read.val_main_v3 (F := Ideal) x0 x1 (ix2 i j) = ∑ k : Fin 2048, x0 (ix2 i k) * x1 (ix2 k J) := by
  rw [Cert.XbcRefIdeal.Read.val_main_v3_apply, Cert.XbcRefIdeal.Read.val_main_v2_apply]
  refine (Cert.XbcRefIdeal.Read.val_main_v1_apply _ _ _).trans (Finset.sum_congr rfl fun k _ => ?_)
  rw [Cert.XbcRefIdeal.Read.val_main_v0_apply]
  refine congr (congrArg HMul.hMul (congrArg x0 ?_)) (congrArg x1 ?_)
  · funext a
    match a with
    | ⟨0, _⟩ => rfl
    | ⟨1, _⟩ => rfl
  · funext a
    match a with
    | ⟨0, _⟩ => rfl
    | ⟨1, _⟩ => exact Fin.ext hJ.symm

/-- A block's result is the reference's on that block. -/
theorem block_eq (t : Fin cfg0.N) (i j : Fin 1024) (I : Fin 8192) (J : Fin 6144) (hI : I.val = t.val / 6 * 1024 + i.val)
    (hJ : J.val = t.val % 6 * 1024 + j.val) :
    k0_pay1 (F := Ideal) (iblk m c 0 t) (iblk m c 1 t) (ix2 i j) = Cert.XbcRefIdeal.Read.val_main_v3 (F := Ideal) (a0 m c) (a1 m c) (ix2 I J) := by
  rw [block_apply, ref_apply _ _ I J ⟨4096 + J.val, by omega⟩ rfl]
  refine Finset.sum_congr rfl fun k _ => ?_
  rw [blk0 m c t i k I hI, blk1 m c t k j ⟨4096 + J.val, by omega⟩ (congrArg (4096 + ·) hJ)]

theorem arr_eq : (dats m 0 c).arrAt 2 cfg0.N = Cert.XbcRefIdeal.Read.val_main_v3 (F := Ideal) (a0 m c) (a1 m c) := by
  refine (dats m 0 c).arrAt_eq_of_covers 2 _ (by decide +kernel) fun t hf y => ?_
  have hN : t.val < 48 := lt_of_lt_of_eq t.isLt (show cfg0.N = 48 from N_0)
  blk_simp
  rw [after0_2]
  frame_out
  obtain ⟨i, j, rfl⟩ : ∃ (i j : Fin 1024), y = ix2 i j := ⟨y 0, y 1, by funext a; fin_cases a <;> rfl⟩
  have e : ((cfg0.win 2).blk t).view.emb (ix2 i j)
      = ix2 (⟨t.val / 6 * 1024 + i.val, by omega⟩ : Fin 8192) (⟨t.val % 6 * 1024 + j.val, by omega⟩ : Fin 6144) := by
    blk_ext [idx2 t]
    all_goals omega
  rw [e]
  exact block_eq m c t i j _ _ rfl rfl

/-- The program read over bits and the one read over the reals have the same text, so the same body table. -/
theorem defs_eq : Cert.Xbc.defs (F := Bits) = Cert.XbcIdeal.defs (F := Bits) := by
  refine congrArg (Pipeline.defs Cert.XbcIdeal.pcfgs) (congrArg Defs.onTc (funext fun l => funext fun a => ?_))
  obtain ⟨_ | l, hl⟩ := l
  · rfl
  · exact absurd hl (by omega)

theorem frame_kernel : Cert.quiescent_Xbc := by
  intro m ρ _
  have h := Cert.XbcIdeal.Gen.frame (F := Bits) m ρ
  rw [← defs_eq] at h
  exact h
theorem frame_ideal : Cert.quiescent_XbcIdeal := fun m ρ _ => Cert.XbcIdeal.Gen.frame (F := Ideal) m ρ
theorem frame_reference : Cert.quiescent_XbcRefIdeal := fun m ρ _ =>
  (θ_run Cert.XbcRefIdeal.defs _ _).mono (fun r h => ⟨fun c => (h c).2, sem_eq_zero_of_no_sems (by decide) r.2⟩)
    (Cert.XbcRefIdeal.Value.run (F := Ideal) m ρ)

theorem algebraic : Cert.algebraic_XbcIdeal_XbcRefIdeal := by
  intro m ρ m' ρ' _ hagree
  refine ⟨fun c => Cert.XbcRefIdeal.Read.val_main_v3 (F := Ideal) (a0 m c) (a1 m c), ?_, ?_⟩
  · exact (θ_run Cert.XbcIdeal.defs _ _).mono (fun r h c => ⟨(h c).1.trans (arr_eq m c), (h c).2⟩)
      (Cert.XbcIdeal.Value.run_blocks (F := Ideal) m ρ)
  · refine (θ_run Cert.XbcRefIdeal.defs _ _).mono (fun r h c => ⟨((h c).1.trans (Cert.XbcRefIdeal.Read.val_main_v3_eq (F := Ideal) _ _)).trans ?_, (h c).2⟩)
      (Cert.XbcRefIdeal.Value.run (F := Ideal) m' ρ')
    obtain ⟨h0, h1⟩ := hagree c
    exact congr (congrArg _ h0) h1

end Cert.XbcValue

end
-- ==== Proof.XbcDw.lean ====
/- The gradient of the state-space mixer's projection weight, in the columns that the convolution reads (`mm_ssm_xbc_dw`): the
   kernel adds the products of two halves of the batch; each element is the reference's, with its factors in the other order. -/
module

public import proofs.«01_k».proof.Defs
public import proofs.«01_k».proof.Proof.Sums
public import proofs.«01_k».proof.Proof.Gen.XbcDw
public import proofs.«01_k».proof.Proof.Gen.XbcDwIdeal.Frame
public import proofs.«01_k».proof.Proof.Gen.XbcDwIdeal.Value
public import proofs.«01_k».proof.Proof.Gen.XbcDwRefIdeal.Run
public import proofs.«01_k».proof.Proof.Gen.XbcDwRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

namespace Cert.XbcDwGrad

open Cert.XbcDwIdeal Cert.XbcDwIdeal.Gen Idealize.ShloMosaic Idealize.ShloMosaic.TcCoe Idealize.SL.Sem

theorem idx0 : ∀ t : Fin cfg0.N, win0_0.index t = ![t.val % 2, t.val / 12] := (by decide +kernel : ∀ t : Fin grid0.N, _)
theorem idx1 : ∀ t : Fin cfg0.N, win0_1.index t = ![t.val % 2, t.val / 2 % 6] := (by decide +kernel : ∀ t : Fin grid0.N, _)
theorem idx2 : ∀ t : Fin cfg0.N, win0_2.index t = ![t.val / 12, t.val / 2 % 6] := (by decide +kernel : ∀ t : Fin grid0.N, _)

/-- One part's product at an index. -/
theorem part_apply (v0 v1 : FVec Ideal S4096x1024 .bf16) (i j : Fin 1024) :
    k0_pay1 (F := Ideal) v0 v1 (ix2 i j) = ∑ k : Fin 4096, v0 (ix2 k i) * v1 (ix2 k j) := by
  pointwise [k0_pay1]

/-- What the kernel writes back: the second part's product on the first's. -/
theorem parts_apply (v0 v1 w0 w1 : FVec Ideal S4096x1024 .bf16) (i j : Fin 1024) :
    k0_pay4 (F := Ideal) (k0_pay3 (F := Ideal) w0 w1 (k0_pay2 (F := Ideal) v0 v1)) (ix2 i j)
      = k0_pay1 (F := Ideal) v0 v1 (ix2 i j) + k0_pay1 (F := Ideal) w0 w1 (ix2 i j) := by
  unfold k0_pay4 k0_pay3 k0_pay2
  generalize k0_pay1 (F := Ideal) v0 v1 = X
  generalize k0_pay1 (F := Ideal) w0 w1 = Y
  pointwise []

variable (m : (ℓ : Loc nD τ sig) → Buf (Elt Ideal) ℓ) (c : Dev nD)

abbrev a0 : FVec Ideal S8192x2048 .bf16 := m ((c : Thread nD τ).loc main_arg0)
abbrev a1 : FVec Ideal S8192x6144 .bf16 := m ((c : Thread nD τ).loc main_arg1)

theorem scratch (t : Fin cfg0.N) (h : t.val % 2 = 0) : (outsAt0 m c t.val t.isLt).2 = k0_pay2 (iblk m c 0 t) (iblk m c 1 t) := by
  rw [outsAt0_A m c t h (by omega) (by omega)]
  frame_out

theorem out (t : Fin cfg0.N) (h : t.val % 2 = 1) (s : Fin cfg0.N) (hs : s.val = t.val - 1) :
    (outsAt0 m c t.val t.isLt).1 = k0_pay4 (k0_pay3 (iblk m c 0 t) (iblk m c 1 t) (k0_pay2 (iblk m c 0 s) (iblk m c 1 s))) := by
  have e : s = ⟨t.val - 1, lt_of_le_of_lt (Nat.sub_le _ _) t.isLt⟩ := Fin.ext hs
  rw [e, outsAt0_B m c t (by omega) h h, scratch m c ⟨t.val - 1, lt_of_le_of_lt (Nat.sub_le _ _) t.isLt⟩ (by show (t.val - 1) % 2 = 0; omega)]
  frame_out
  rw [read_unread_whole]

theorem blk0 (t : Fin cfg0.N) (k : Fin 4096) (i : Fin 1024) (K : Fin 8192) (I : Fin 2048)
    (hK : K.val = t.val % 2 * 4096 + k.val) (hI : I.val = t.val / 12 * 1024 + i.val) : iblk m c 0 t (ix2 k i) = a0 m c (ix2 K I) := by
  blk_ext [iblk, idx0 t]
  all_goals omega
theorem blk1 (t : Fin cfg0.N) (k : Fin 4096) (i : Fin 1024) (K : Fin 8192) (I : Fin 6144)
    (hK : K.val = t.val % 2 * 4096 + k.val) (hI : I.val = t.val / 2 % 6 * 1024 + i.val) : iblk m c 1 t (ix2 k i) = a1 m c (ix2 K I) := by
  blk_ext [iblk, idx1 t]
  all_goals omega

/-- The reference's result at an index. -/
theorem ref_apply (x0 : FVec Ideal S8192x2048 .bf16) (x1 : FVec Ideal S8192x6144 .bf16) (i : Fin 2048) (j : Fin 6144) :
    Cert.XbcDwRefIdeal.Read.val_main_v6 (F := Ideal) x0 x1 (ix2 i j) = ∑ k : Fin 8192, x0 (ix2 k i) * x1 (ix2 k j) := by
  rw [Cert.XbcDwRefIdeal.Read.val_main_v6_apply, Cert.XbcDwRefIdeal.Read.val_main_v5_apply]
  refine (Cert.XbcDwRefIdeal.Read.val_main_v4_apply _ _ _).trans (Finset.sum_congr rfl fun k _ => ?_)
  rw [Cert.XbcDwRefIdeal.Read.val_main_v3_apply, Cert.XbcDwRefIdeal.Read.val_main_v1_apply]
  refine (mul_comm _ _).trans (congr (congrArg HMul.hMul (congrArg x0 ?_)) (congrArg x1 ?_)) <;> (funext a; fin_cases a <;> rfl)

/-- The two parts' products are the reference's element. -/
theorem parts_eq (t : Fin cfg0.N) (h : t.val % 2 = 1) (s : Fin cfg0.N) (hs : s.val = t.val - 1) (i j : Fin 1024) (I : Fin 2048) (J : Fin 6144)
    (hI : I.val = t.val / 12 * 1024 + i.val) (hJ : J.val = t.val / 2 % 6 * 1024 + j.val) :
    k0_pay1 (F := Ideal) (iblk m c 0 s) (iblk m c 1 s) (ix2 i j) + k0_pay1 (F := Ideal) (iblk m c 0 t) (iblk m c 1 t) (ix2 i j)
      = Cert.XbcDwRefIdeal.Read.val_main_v6 (F := Ideal) (a0 m c) (a1 m c) (ix2 I J) := by
  rw [ref_apply, Cert.Mlp.sum_two, part_apply, part_apply]
  refine congr (congrArg HAdd.hAdd (Finset.sum_congr rfl fun k _ => ?_)) (Finset.sum_congr rfl fun k _ => ?_)
  · have hK : k.val = s.val % 2 * 4096 + k.val := by omega
    rw [blk0 m c s k i ⟨k.val, by omega⟩ I hK (by omega), blk1 m c s k j ⟨k.val, by omega⟩ J hK (by omega)]
  · have hK : 4096 + k.val = t.val % 2 * 4096 + k.val := by omega
    rw [blk0 m c t k i ⟨4096 + k.val, by omega⟩ I hK hI, blk1 m c t k j ⟨4096 + k.val, by omega⟩ J hK hJ]

theorem arr_eq : (dats m 0 c).arrAt 2 cfg0.N = Cert.XbcDwRefIdeal.Read.val_main_v6 (F := Ideal) (a0 m c) (a1 m c) := by
  refine (dats m 0 c).arrAt_eq_of_covers 2 _ (by decide +kernel) fun t hf y => ?_
  have ht : t.val % 2 = 1 := (flush0_2 t).mp hf
  have hN : t.val < 24 := lt_of_lt_of_eq t.isLt (show cfg0.N = 24 from N_0)
  blk_simp
  rw [after0_2, out m c t ht ⟨t.val - 1, lt_of_le_of_lt (Nat.sub_le _ _) t.isLt⟩ rfl]
  obtain ⟨i, j, rfl⟩ : ∃ (i j : Fin 1024), y = ix2 i j := ⟨y 0, y 1, by funext a; fin_cases a <;> rfl⟩
  refine (parts_apply _ _ _ _ i j).trans ?_
  have e : ((cfg0.win 2).blk t).view.emb (ix2 i j)
      = ix2 (⟨t.val / 12 * 1024 + i.val, by omega⟩ : Fin 2048) (⟨t.val / 2 % 6 * 1024 + j.val, by omega⟩ : Fin 6144) := by
    blk_ext [idx2 t]
    all_goals omega
  rw [e]
  exact parts_eq m c t ht _ rfl i j _ _ rfl rfl

/-- The program read over bits and the one read over the reals have the same text, so the same body table. -/
theorem defs_eq : Cert.XbcDw.defs (F := Bits) = Cert.XbcDwIdeal.defs (F := Bits) := by
  refine congrArg (Pipeline.defs Cert.XbcDwIdeal.pcfgs) (congrArg Defs.onTc (funext fun l => funext fun a => ?_))
  obtain ⟨_ | l, hl⟩ := l
  · rfl
  · exact absurd hl (by omega)

theorem frame_kernel : Cert.quiescent_XbcDw := by
  intro m ρ _
  have h := Cert.XbcDwIdeal.Gen.frame (F := Bits) m ρ
  rw [← defs_eq] at h
  exact h
theorem frame_ideal : Cert.quiescent_XbcDwIdeal := fun m ρ _ => Cert.XbcDwIdeal.Gen.frame (F := Ideal) m ρ
theorem frame_reference : Cert.quiescent_XbcDwRefIdeal := fun m ρ _ =>
  (θ_run Cert.XbcDwRefIdeal.defs _ _).mono (fun r h => ⟨fun c => (h c).2, sem_eq_zero_of_no_sems (by decide) r.2⟩)
    (Cert.XbcDwRefIdeal.Value.run (F := Ideal) m ρ)

theorem algebraic : Cert.algebraic_XbcDwIdeal_XbcDwRefIdeal := by
  intro m ρ m' ρ' _ hagree
  refine ⟨fun c => Cert.XbcDwRefIdeal.Read.val_main_v6 (F := Ideal) (a0 m c) (a1 m c), ?_, ?_⟩
  · exact (θ_run Cert.XbcDwIdeal.defs _ _).mono (fun r h c => ⟨(h c).1.trans (arr_eq m c), (h c).2⟩)
      (Cert.XbcDwIdeal.Value.run_blocks (F := Ideal) m ρ)
  · refine (θ_run Cert.XbcDwRefIdeal.defs _ _).mono (fun r h c => ⟨((h c).1.trans (Cert.XbcDwRefIdeal.Read.val_main_v6_eq (F := Ideal) _ _)).trans ?_, (h c).2⟩)
      (Cert.XbcDwRefIdeal.Value.run (F := Ideal) m' ρ')
    obtain ⟨h0, h1⟩ := hagree c
    exact congr (congrArg _ h0) h1

end Cert.XbcDwGrad

end
-- ==== Proof.XbcBwd.lean ====
/- The gradient of the state-space mixer's input through the columns that the convolution reads (`mm_ssm_xbc_bwd`): the kernel adds
   three parts of the contraction in its scratch and, at the last, the gradient that the other columns gave. -/
module

public import proofs.«01_k».proof.Defs
public import proofs.«01_k».proof.Proof.Sums
public import proofs.«01_k».proof.Proof.Gen.XbcBwd
public import proofs.«01_k».proof.Proof.Gen.XbcBwdIdeal.Frame
public import proofs.«01_k».proof.Proof.Gen.XbcBwdIdeal.Value
public import proofs.«01_k».proof.Proof.Gen.XbcBwdRefIdeal.Run
public import proofs.«01_k».proof.Proof.Gen.XbcBwdRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

namespace Cert.XbcBwdGrad

open Cert.XbcBwdIdeal Cert.XbcBwdIdeal.Gen Idealize.ShloMosaic Idealize.ShloMosaic.TcCoe Idealize.SL.Sem

theorem idx0 : ∀ t : Fin cfg0.N, win0_0.index t = ![t.val / 6, t.val % 3] := (by decide +kernel : ∀ t : Fin grid0.N, _)
theorem idx1 : ∀ t : Fin cfg0.N, win0_1.index t = ![t.val / 3 % 2, t.val % 3] := (by decide +kernel : ∀ t : Fin grid0.N, _)
theorem idx2 : ∀ t : Fin cfg0.N, win0_2.index t = ![t.val / 6, t.val / 3 % 2] := (by decide +kernel : ∀ t : Fin grid0.N, _)
theorem idx3 : ∀ t : Fin cfg0.N, win0_3.index t = ![t.val / 6, t.val / 3 % 2] := (by decide +kernel : ∀ t : Fin grid0.N, _)

/-- One part's product at an index. -/
theorem part_apply (v0 v1 : FVec Ideal S1024x2048 .bf16) (i j : Fin 1024) :
    k0_pay1 (F := Ideal) v0 v1 (ix2 i j) = ∑ k : Fin 2048, v0 (ix2 i k) * v1 (ix2 j k) := by
  pointwise [k0_pay1]

/-- A part added to the scratch, and the first one. -/
theorem add_apply (v0 v1 : FVec Ideal S1024x2048 .bf16) (X : FVec Ideal S1024x1024 .f32) (i j : Fin 1024) :
    k0_pay3 (F := Ideal) v0 v1 X (ix2 i j) = X (ix2 i j) + k0_pay1 (F := Ideal) v0 v1 (ix2 i j) := by
  unfold k0_pay3
  generalize k0_pay1 (F := Ideal) v0 v1 = Y
  pointwise []
theorem first_apply (v0 v1 : FVec Ideal S1024x2048 .bf16) (i j : Fin 1024) :
    k0_pay2 (F := Ideal) v0 v1 (ix2 i j) = k0_pay1 (F := Ideal) v0 v1 (ix2 i j) := by
  unfold k0_pay2
  generalize k0_pay1 (F := Ideal) v0 v1 = Y
  pointwise []

/-- The last point's epilogue. -/
theorem last_apply (X Y : FVec Ideal S1024x1024 .f32) (i j : Fin 1024) :
    k0_pay4 (F := Ideal) X Y (ix2 i j) = X (ix2 i j) + Y (ix2 i j) := by
  pointwise [k0_pay4]

variable (m : (ℓ : Loc nD τ sig) → Buf (Elt Ideal) ℓ) (c : Dev nD)

abbrev a0 : FVec Ideal S8192x2048 .f32 := m ((c : Thread nD τ).loc main_arg0)
abbrev a1 : FVec Ideal S8192x6144 .bf16 := m ((c : Thread nD τ).loc main_arg1)
abbrev a2 : FVec Ideal S2048x10304 .f32 := m ((c : Thread nD τ).loc main_arg2)
/-- The columns of the weight that the host passes to the kernel. -/
abbrev f1 : FVec Ideal S2048x6144 .f32 := Cert.XbcBwdRefIdeal.Read.val_main_v1 (F := Ideal) (a2 m c)

theorem V_v1 : (V m c main_v1 : FVec Ideal S2048x6144 .bf16) = f1 m c := by
  unfold V
  after_reads_simp
  rfl

/-- What the scratch holds after the first part, after the second, and what the last point writes. -/
theorem scratch_first (t : Fin cfg0.N) (h : t.val % 3 = 0) : (outsAt0 m c t.val t.isLt).2 = k0_pay2 (iblk m c 0 t) (iblk m c 1 t) := by
  rw [outsAt0_A m c t h (by omega) (by omega)]
  frame_out
theorem scratch_next (t s : Fin cfg0.N) (hs : s.val = t.val - 1) (h : t.val % 3 = 1) :
    (outsAt0 m c t.val t.isLt).2 = k0_pay3 (iblk m c 0 t) (iblk m c 1 t) (outsAt0 m c s.val s.isLt).2 := by
  have e : s = ⟨t.val - 1, lt_of_le_of_lt (Nat.sub_le _ _) t.isLt⟩ := Fin.ext hs
  rw [e, outsAt0_B m c t (by omega) (by omega) (by omega)]
  generalize (outsAt0 m c (t.val - 1) _).2 = X
  frame_out
  rw [read_unread_whole]
theorem out (t s : Fin cfg0.N) (hs : s.val = t.val - 1) (h : t.val % 3 = 2) :
    (outsAt0 m c t.val t.isLt).1 = k0_pay4 (k0_pay3 (iblk m c 0 t) (iblk m c 1 t) (outsAt0 m c s.val s.isLt).2) (iblk m c 2 t) := by
  have e : s = ⟨t.val - 1, lt_of_le_of_lt (Nat.sub_le _ _) t.isLt⟩ := Fin.ext hs
  rw [e, outsAt0_C m c t (by omega) (by omega) h]
  generalize (outsAt0 m c (t.val - 1) _).2 = X
  frame_out
  rw [read_unread_whole]

theorem blk0 (t : Fin cfg0.N) (i : Fin 1024) (k : Fin 2048) (I : Fin 8192) (K : Fin 6144) (hI : I.val = t.val / 6 * 1024 + i.val)
    (hK : K.val = t.val % 3 * 2048 + k.val) : iblk m c 0 t (ix2 i k) = a1 m c (ix2 I K) := by
  blk_ext [iblk, idx0 t]
  all_goals omega
theorem blk1 (t : Fin cfg0.N) (j : Fin 1024) (k : Fin 2048) (J : Fin 2048) (K : Fin 6144) (hJ : J.val = t.val / 3 % 2 * 1024 + j.val)
    (hK : K.val = t.val % 3 * 2048 + k.val) : iblk m c 1 t (ix2 j k) = f1 m c (ix2 J K) := by
  rw [← V_v1]
  blk_ext [iblk, idx1 t]
  all_goals omega
theorem blk2 (t : Fin cfg0.N) (i j : Fin 1024) (I : Fin 8192) (J : Fin 2048) (hI : I.val = t.val / 6 * 1024 + i.val)
    (hJ : J.val = t.val / 3 % 2 * 1024 + j.val) : iblk m c 2 t (ix2 i j) = a0 m c (ix2 I J) := by
  blk_ext [iblk, idx2 t]
  all_goals omega

/-- A part's product, as those terms of the whole contraction. -/
theorem part_eq (t : Fin cfg0.N) (i j : Fin 1024) (I : Fin 8192) (J : Fin 2048) (hI : I.val = t.val / 6 * 1024 + i.val)
    (hJ : J.val = t.val / 3 % 2 * 1024 + j.val) (g : Fin 2048 → Fin 6144) (hg : ∀ k, (g k).val = t.val % 3 * 2048 + k.val) :
    k0_pay1 (F := Ideal) (iblk m c 0 t) (iblk m c 1 t) (ix2 i j) = ∑ k, a1 m c (ix2 I (g k)) * f1 m c (ix2 J (g k)) := by
  rw [part_apply]
  refine Finset.sum_congr rfl fun k _ => ?_
  rw [blk0 m c t i k I (g k) hI (hg k), blk1 m c t j k J (g k) hJ (hg k)]

/-- The reference's result at an index. -/
theorem ref_apply (x0 : FVec Ideal S8192x2048 .f32) (x1 : FVec Ideal S8192x6144 .bf16) (x2 : FVec Ideal S2048x10304 .f32) (i : Fin 8192) (j : Fin 2048) :
    Cert.XbcBwdRefIdeal.Read.val_main_v5 (F := Ideal) x0 x1 x2 (ix2 i j)
      = x0 (ix2 i j) + ∑ k : Fin 6144, x1 (ix2 i k) * Cert.XbcBwdRefIdeal.Read.val_main_v1 (F := Ideal) x2 (ix2 j k) := by
  rw [Cert.XbcBwdRefIdeal.Read.val_main_v5_apply]
  refine congrArg (x0 (ix2 i j) + ·) ((Cert.XbcBwdRefIdeal.Read.val_main_v4_apply _ _ _).trans (Finset.sum_congr rfl fun k _ => ?_))
  rw [Cert.XbcBwdRefIdeal.Read.val_main_v3_apply]
  refine congr (congrArg HMul.hMul (congrArg x1 ?_)) (congrArg _ ?_) <;> (funext a; fin_cases a <;> rfl)

/-- What the last point writes is the reference's element. -/
theorem out_eq (t : Fin cfg0.N) (h : t.val % 3 = 2) (i j : Fin 1024) (I : Fin 8192) (J : Fin 2048)
    (hI : I.val = t.val / 6 * 1024 + i.val) (hJ : J.val = t.val / 3 % 2 * 1024 + j.val) :
    (outsAt0 m c t.val t.isLt).1 (ix2 i j) = Cert.XbcBwdRefIdeal.Read.val_main_v5 (F := Ideal) (a0 m c) (a1 m c) (a2 m c) (ix2 I J) := by
  obtain ⟨n, hn⟩ := t
  obtain ⟨b, rfl⟩ : ∃ b, n = b + 2 := ⟨n - 2, by dsimp only at h; omega⟩
  dsimp only at h hI hJ
  rw [out m c ⟨b + 2, hn⟩ ⟨b + 1, by omega⟩ rfl (by dsimp only; omega), last_apply, add_apply,
    scratch_next m c ⟨b + 1, by omega⟩ ⟨b, by omega⟩ rfl (by dsimp only; omega), add_apply,
    scratch_first m c ⟨b, by omega⟩ (by dsimp only; omega), first_apply,
    part_eq m c ⟨b, _⟩ i j I J (by dsimp only; omega) (by dsimp only; omega) (fun k => ⟨k.val, by omega⟩) (fun k => by dsimp only; omega),
    part_eq m c ⟨b + 1, _⟩ i j I J (by dsimp only; omega) (by dsimp only; omega) (fun k => ⟨2048 + k.val, by omega⟩) (fun k => by dsimp only; omega),
    part_eq m c ⟨b + 2, _⟩ i j I J hI hJ (fun k => ⟨4096 + k.val, by omega⟩) (fun k => by dsimp only; omega),
    blk2 m c ⟨b + 2, _⟩ i j I J hI hJ, ref_apply, Cert.Mlp.sum_three, add_comm]

theorem arr_eq : (dats m 0 c).arrAt 3 cfg0.N = Cert.XbcBwdRefIdeal.Read.val_main_v5 (F := Ideal) (a0 m c) (a1 m c) (a2 m c) := by
  refine (dats m 0 c).arrAt_eq_of_covers 3 _ (by decide +kernel) fun t hf y => ?_
  have ht : t.val % 3 = 2 := (flush0_3 t).mp hf
  have hN : t.val < 48 := lt_of_lt_of_eq t.isLt (show cfg0.N = 48 from N_0)
  blk_simp
  rw [after0_3]
  obtain ⟨i, j, rfl⟩ : ∃ (i j : Fin 1024), y = ix2 i j := ⟨y 0, y 1, by funext a; fin_cases a <;> rfl⟩
  have e : ((cfg0.win 3).blk t).view.emb (ix2 i j)
      = ix2 (⟨t.val / 6 * 1024 + i.val, by omega⟩ : Fin 8192) (⟨t.val / 3 % 2 * 1024 + j.val, by omega⟩ : Fin 2048) := by
    blk_ext [idx3 t]
    all_goals omega
  rw [e]
  exact out_eq m c t ht i j _ _ rfl rfl

/-- The program read over bits and the one read over the reals have the same text, so the same body table. -/
theorem defs_eq : Cert.XbcBwd.defs (F := Bits) = Cert.XbcBwdIdeal.defs (F := Bits) := by
  refine congrArg (Pipeline.defs Cert.XbcBwdIdeal.pcfgs) (congrArg Defs.onTc (funext fun l => funext fun a => ?_))
  obtain ⟨_ | l, hl⟩ := l
  · rfl
  · exact absurd hl (by omega)

theorem frame_kernel : Cert.quiescent_XbcBwd := by
  intro m ρ _
  have h := Cert.XbcBwdIdeal.Gen.frame (F := Bits) m ρ
  rw [← defs_eq] at h
  exact h
theorem frame_ideal : Cert.quiescent_XbcBwdIdeal := fun m ρ _ => Cert.XbcBwdIdeal.Gen.frame (F := Ideal) m ρ
theorem frame_reference : Cert.quiescent_XbcBwdRefIdeal := fun m ρ _ =>
  (θ_run Cert.XbcBwdRefIdeal.defs _ _).mono (fun r h => ⟨fun c => (h c).2, sem_eq_zero_of_no_sems (by decide) r.2⟩)
    (Cert.XbcBwdRefIdeal.Value.run (F := Ideal) m ρ)

theorem algebraic : Cert.algebraic_XbcBwdIdeal_XbcBwdRefIdeal := by
  intro m ρ m' ρ' _ hagree
  refine ⟨fun c => Cert.XbcBwdRefIdeal.Read.val_main_v5 (F := Ideal) (a0 m c) (a1 m c) (a2 m c), ?_, ?_⟩
  · exact (θ_run Cert.XbcBwdIdeal.defs _ _).mono (fun r h c => ⟨(h c).1.trans (arr_eq m c), (h c).2⟩)
      (Cert.XbcBwdIdeal.Value.run_blocks (F := Ideal) m ρ)
  · refine (θ_run Cert.XbcBwdRefIdeal.defs _ _).mono (fun r h c => ⟨((h c).1.trans (Cert.XbcBwdRefIdeal.Read.val_main_v5_eq (F := Ideal) _ _ _)).trans ?_, (h c).2⟩)
      (Cert.XbcBwdRefIdeal.Value.run (F := Ideal) m' ρ')
    obtain ⟨h0, h1, h2⟩ := hagree c
    exact congr (congr (congrArg _ h0) h1) h2

end Cert.XbcBwdGrad

end
-- ==== Proof.Even.lean ====
/- The first projection of the attention and pooling mixer (`mm_even_in`): the kernel writes the product's columns as ten slabs of
   512; each element is the reference's. -/
module

public import proofs.«01_k».proof.Defs
public import proofs.«01_k».proof.Proof.Gen.Even
public import proofs.«01_k».proof.Proof.Gen.EvenIdeal.Frame
public import proofs.«01_k».proof.Proof.Gen.EvenIdeal.Value
public import proofs.«01_k».proof.Proof.Gen.EvenRefIdeal.Run
public import proofs.«01_k».proof.Proof.Gen.EvenRefIdeal.Read
public import Idealize.ShloMosaic.Lib.Pipeline.ValueKit
public import Idealize.ShloMosaic.Lib.StableHlo.RunRead
public import Idealize.ShloMosaic.Lib.Pointwise
public import Idealize.ShloMosaic.Lib.Quiescent

@[expose] public section

set_option maxRecDepth 16384

noncomputable section

namespace Cert.EvenValue

open Cert.EvenIdeal Cert.EvenIdeal.Gen Idealize.ShloMosaic Idealize.ShloMosaic.TcCoe Idealize.SL.Sem

theorem idx0 : ∀ t : Fin cfg0.N, win0_0.index t = ![t.val / 10, 0] := (by decide +kernel : ∀ t : Fin grid0.N, _)
theorem idx1 : ∀ t : Fin cfg0.N, win0_1.index t = ![0, t.val % 10] := (by decide +kernel : ∀ t : Fin grid0.N, _)
theorem idx2 : ∀ t : Fin cfg0.N, win0_2.index t = ![t.val % 10, t.val / 10, 0] := (by decide +kernel : ∀ t : Fin grid0.N, _)

/-- A block's result at an index. -/
theorem block_apply (v0 : FVec Ideal S1024x2048 .bf16) (v1 : FVec Ideal S2048x512 .bf16) (i : Fin 1024) (j : Fin 512) :
    k0_pay1 (F := Ideal) v0 v1 (ix3 0 i j) = ∑ k : Fin 2048, v0 (ix2 i k) * v1 (ix2 k j) := by
  pointwise [k0_pay1]

variable (m : (ℓ : Loc nD τ sig) → Buf (Elt Ideal) ℓ) (c : Dev nD)

abbrev a0 : FVec Ideal S8192x2048 .bf16 := m ((c : Thread nD τ).loc main_arg0)
abbrev a1 : FVec Ideal S2048x5120 .f32 := m ((c : Thread nD τ).loc main_arg1)

theorem V_v0 : (V m c main_v0 : FVec Ideal S2048x5120 .bf16) = a1 m c := by
  unfold V
  after_reads_simp
  rfl

theorem blk0 (t : Fin cfg0.N) (i : Fin 1024) (k : Fin 2048) (I : Fin 8192) (hI : I.val = t.val / 10 * 1024 + i.val) :
    iblk m c 0 t (ix2 i k) = a0 m c (ix2 I k) := by
  blk_ext [iblk, idx0 t]
  all_goals omega
theorem blk1 (t : Fin cfg0.N) (k : Fin 2048) (j : Fin 512) (J : Fin 5120) (hJ : J.val = t.val % 10 * 512 + j.val) :
    iblk m c 1 t (ix2 k j) = a1 m c (ix2 k J) := by
  rw [← V_v0]
  blk_ext [iblk, idx1 t]
  all_goals omega

/-- The reference's result at an index: slab `s` holds the columns from `512 s`. -/
theorem ref_apply (x0 : FVec Ideal S8192x2048 .bf16) (x1 : FVec Ideal S2048x5120 .f32) (s : Fin 10) (i : Fin 8192) (j : Fin 512) (J : Fin 5120)
    (hJ : J.val = s.val * 512 + j.val) :
    Cert.EvenRefIdeal.Read.val_main_v4 (F := Ideal) x0 x1 (ix3 s i j) = ∑ k : Fin 2048, x0 (ix2 i k) * x1 (ix2 k J) := by
  rw [Cert.EvenRefIdeal.Read.val_main_v4_apply, Cert.EvenRefIdeal.Read.val_main_v3_apply, Cert.EvenRefIdeal.Read.val_main_v2_apply]
  refine (Cert.EvenRefIdeal.Read.val_main_v1_apply _ _ _).trans (Finset.sum_congr rfl fun k _ => ?_)
  rw [Cert.EvenRefIdeal.Read.val_main_v0_apply]
  refine congr (congrArg HMul.hMul (congrArg x0 ?_)) (congrArg x1 ?_)
  · funext a
    match a with
    | ⟨0, _⟩ => exact Fin.ext (show ((i.val * 10 + s.val) * 512 + j.val) / 5120 = i.val by omega)
    | ⟨1, _⟩ => rfl
  · funext a
    match a with
    | ⟨0, _⟩ => rfl
    | ⟨1, _⟩ => exact Fin.ext (show ((i.val * 10 + s.val) * 512 + j.val) % 5120 = J.val by omega)

/-- A block's result is the reference's on that block. -/
theorem block_eq (t : Fin cfg0.N) (i : Fin 1024) (j : Fin 512) (s : Fin 10) (I : Fin 8192) (hs : s.val = t.val % 10)
    (hI : I.val = t.val / 10 * 1024 + i.val) :
    k0_pay1 (F := Ideal) (iblk m c 0 t) (iblk m c 1 t) (ix3 0 i j) = Cert.EvenRefIdeal.Read.val_main_v4 (F := Ideal) (a0 m c) (a1 m c) (ix3 s I j) := by
  have hJ : s.val * 512 + j.val = t.val % 10 * 512 + j.val := by rw [hs]
  rw [block_apply, ref_apply _ _ s I j ⟨s.val * 512 + j.val, by omega⟩ rfl]
  refine Finset.sum_congr rfl fun k _ => ?_
  rw [blk0 m c t i k I hI, blk1 m c t k j ⟨s.val * 512 + j.val, by omega⟩ hJ]

theorem arr_eq : (dats m 0 c).arrAt 2 cfg0.N = Cert.EvenRefIdeal.Read.val_main_v4 (F := Ideal) (a0 m c) (a1 m c) := by
  refine (dats m 0 c).arrAt_eq_of_covers 2 _ (by decide +kernel) fun t hf y => ?_
  have hN : t.val < 80 := lt_of_lt_of_eq t.isLt (show cfg0.N = 80 from N_0)
  blk_simp
  rw [after0_2]
  frame_out
  obtain ⟨i, j, rfl⟩ : ∃ (i : Fin 1024) (j : Fin 512), y = ix3 0 i j :=
    ⟨y 1, y 2, by
      funext a
      match a with
      | ⟨0, _⟩ => exact Subsingleton.elim (α := Fin 1) _ _
      | ⟨1, _⟩ => rfl
      | ⟨2, _⟩ => rfl⟩
  have e : ((cfg0.win 2).blk t).view.emb (ix3 0 i j)
      = ix3 (⟨t.val % 10, by omega⟩ : Fin 10) (⟨t.val / 10 * 1024 + i.val, by omega⟩ : Fin 8192) j := by
    blk_ext [idx2 t]
    all_goals omega
  rw [e]
  exact block_eq m c t i j _ _ rfl rfl

/-- The program read over bits and the one read over the reals have the same text, so the same body table. -/
theorem defs_eq : Cert.Even.defs (F := Bits) = Cert.EvenIdeal.defs (F := Bits) := by
  refine congrArg (Pipeline.defs Cert.EvenIdeal.pcfgs) (congrArg Defs.onTc (funext fun l => funext fun a => ?_))
  obtain ⟨_ | l, hl⟩ := l
  · rfl
  · exact absurd hl (by omega)

theorem frame_kernel : Cert.quiescent_Even := by
  intro m ρ _
  have h := Cert.EvenIdeal.Gen.frame (F := Bits) m ρ
  rw [← defs_eq] at h
  exact h
theorem frame_ideal : Cert.quiescent_EvenIdeal := fun m ρ _ => Cert.EvenIdeal.Gen.frame (F := Ideal) m ρ
theorem frame_reference : Cert.quiescent_EvenRefIdeal := fun m ρ _ =>
  (θ_run Cert.EvenRefIdeal.defs _ _).mono (fun r h => ⟨fun c => (h c).2, sem_eq_zero_of_no_sems (by decide) r.2⟩)
    (Cert.EvenRefIdeal.Value.run (F := Ideal) m ρ)

theorem algebraic : Cert.algebraic_EvenIdeal_EvenRefIdeal := by
  intro m ρ m' ρ' _ hagree
  refine ⟨fun c => Cert.EvenRefIdeal.Read.val_main_v4 (F := Ideal) (a0 m c) (a1 m c), ?_, ?_⟩
  · exact (θ_run Cert.EvenIdeal.defs _ _).mono (fun r h c => ⟨(h c).1.trans (arr_eq m c), (h c).2⟩)
      (Cert.EvenIdeal.Value.run_blocks (F := Ideal) m ρ)
  · refine (θ_run Cert.EvenRefIdeal.defs _ _).mono (fun r h c => ⟨((h c).1.trans (Cert.EvenRefIdeal.Read.val_main_v4_eq (F := Ideal) _ _)).trans ?_, (h c).2⟩)
      (Cert.EvenRefIdeal.Value.run (F := Ideal) m' ρ')
    obtain ⟨h0, h1⟩ := hagree c
    exact congr (congrArg _ h0) h1

end Cert.EvenValue

end
-- ==== Proof.EvenDw.lean ====
/- The gradient of the first projection's weight of the attention and pooling mixer (`mm_even_in_dw`), transposed as the kernel
   writes it: the kernel adds the products of two halves of the batch; each element is the reference's. -/
module

public import proofs.«01_k».proof.Defs
public import proofs.«01_k».proof.Proof.Sums
public import proofs.«01_k».proof.Proof.Gen.EvenDw
public import proofs.«01_k».proof.Proof.Gen.EvenDwIdeal.Frame
public import proofs.«01_k».proof.Proof.Gen.EvenDwIdeal.Value
public import proofs.«01_k».proof.Proof.Gen.EvenDwRefIdeal.Run
public import proofs.«01_k».proof.Proof.Gen.EvenDwRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

namespace Cert.EvenDwGrad

open Cert.EvenDwIdeal Cert.EvenDwIdeal.Gen Idealize.ShloMosaic Idealize.ShloMosaic.TcCoe Idealize.SL.Sem

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 4, t.val / 2 % 2] := (by decide +kernel : ∀ t : Fin grid0.N, _)

/-- One part's product at an index. -/
theorem part_apply (v0 v1 : FVec Ideal S4096x1024 .bf16) (i j : Fin 1024) :
    k0_pay1 (F := Ideal) v0 v1 (ix2 i j) = ∑ k : Fin 4096, v0 (ix2 k i) * v1 (ix2 k j) := by
  pointwise [k0_pay1]

/-- What the kernel writes back: the second part's product on the first's. -/
theorem parts_apply (v0 v1 w0 w1 : FVec Ideal S4096x1024 .bf16) (i j : Fin 1024) :
    k0_pay4 (F := Ideal) (k0_pay3 (F := Ideal) w0 w1 (k0_pay2 (F := Ideal) v0 v1)) (ix2 i j)
      = k0_pay1 (F := Ideal) v0 v1 (ix2 i j) + k0_pay1 (F := Ideal) w0 w1 (ix2 i j) := by
  unfold k0_pay4 k0_pay3 k0_pay2
  generalize k0_pay1 (F := Ideal) v0 v1 = X
  generalize k0_pay1 (F := Ideal) w0 w1 = Y
  pointwise []

variable (m : (ℓ : Loc nD τ sig) → Buf (Elt Ideal) ℓ) (c : Dev nD)

abbrev a0 : FVec Ideal S8192x5120 .bf16 := m ((c : Thread nD τ).loc main_arg0)
abbrev a1 : FVec Ideal S8192x2048 .bf16 := m ((c : Thread nD τ).loc main_arg1)

theorem scratch (t : Fin cfg0.N) (h : t.val % 2 = 0) : (outsAt0 m c t.val t.isLt).2 = k0_pay2 (iblk m c 0 t) (iblk m c 1 t) := by
  rw [outsAt0_A m c t h (by omega) (by omega)]
  frame_out

theorem out (t : Fin cfg0.N) (h : t.val % 2 = 1) (s : Fin cfg0.N) (hs : s.val = t.val - 1) :
    (outsAt0 m c t.val t.isLt).1 = k0_pay4 (k0_pay3 (iblk m c 0 t) (iblk m c 1 t) (k0_pay2 (iblk m c 0 s) (iblk m c 1 s))) := by
  have e : s = ⟨t.val - 1, lt_of_le_of_lt (Nat.sub_le _ _) t.isLt⟩ := Fin.ext hs
  rw [e, outsAt0_B m c t (by omega) h h, scratch m c ⟨t.val - 1, lt_of_le_of_lt (Nat.sub_le _ _) t.isLt⟩ (by show (t.val - 1) % 2 = 0; omega)]
  frame_out
  rw [read_unread_whole]

theorem blk0 (t : Fin cfg0.N) (k : Fin 4096) (i : Fin 1024) (K : Fin 8192) (I : Fin 5120)
    (hK : K.val = t.val % 2 * 4096 + k.val) (hI : I.val = t.val / 4 * 1024 + i.val) : iblk m c 0 t (ix2 k i) = a0 m c (ix2 K I) := by
  blk_ext [iblk, idx0 t]
  all_goals omega
theorem blk1 (t : Fin cfg0.N) (k : Fin 4096) (i : Fin 1024) (K : Fin 8192) (I : Fin 2048)
    (hK : K.val = t.val % 2 * 4096 + k.val) (hI : I.val = t.val / 2 % 2 * 1024 + i.val) : iblk m c 1 t (ix2 k i) = a1 m c (ix2 K I) := by
  blk_ext [iblk, idx1 t]
  all_goals omega

/-- The reference's result at an index. -/
theorem ref_apply (x0 : FVec Ideal S8192x5120 .bf16) (x1 : FVec Ideal S8192x2048 .bf16) (i : Fin 5120) (j : Fin 2048) :
    Cert.EvenDwRefIdeal.Read.val_main_v7 (F := Ideal) x0 x1 (ix2 i j) = ∑ k : Fin 8192, x0 (ix2 k i) * x1 (ix2 k j) := by
  rw [Cert.EvenDwRefIdeal.Read.val_main_v7_apply, Cert.EvenDwRefIdeal.Read.val_main_v6_apply, Cert.EvenDwRefIdeal.Read.val_main_v5_apply]
  refine (Cert.EvenDwRefIdeal.Read.val_main_v4_apply _ _ _).trans (Finset.sum_congr rfl fun k _ => ?_)
  rw [Cert.EvenDwRefIdeal.Read.val_main_v3_apply, Cert.EvenDwRefIdeal.Read.val_main_v1_apply]
  refine congr (congrArg HMul.hMul (congrArg x0 ?_)) (congrArg x1 ?_) <;> (funext a; fin_cases a <;> rfl)

/-- The two parts' products are the reference's element. -/
theorem parts_eq (t : Fin cfg0.N) (h : t.val % 2 = 1) (s : Fin cfg0.N) (hs : s.val = t.val - 1) (i j : Fin 1024) (I : Fin 5120) (J : Fin 2048)
    (hI : I.val = t.val / 4 * 1024 + i.val) (hJ : J.val = t.val / 2 % 2 * 1024 + j.val) :
    k0_pay1 (F := Ideal) (iblk m c 0 s) (iblk m c 1 s) (ix2 i j) + k0_pay1 (F := Ideal) (iblk m c 0 t) (iblk m c 1 t) (ix2 i j)
      = Cert.EvenDwRefIdeal.Read.val_main_v7 (F := Ideal) (a0 m c) (a1 m c) (ix2 I J) := by
  rw [ref_apply, Cert.Mlp.sum_two, part_apply, part_apply]
  refine congr (congrArg HAdd.hAdd (Finset.sum_congr rfl fun k _ => ?_)) (Finset.sum_congr rfl fun k _ => ?_)
  · have hK : k.val = s.val % 2 * 4096 + k.val := by omega
    rw [blk0 m c s k i ⟨k.val, by omega⟩ I hK (by omega), blk1 m c s k j ⟨k.val, by omega⟩ J hK (by omega)]
  · have hK : 4096 + k.val = t.val % 2 * 4096 + k.val := by omega
    rw [blk0 m c t k i ⟨4096 + k.val, by omega⟩ I hK hI, blk1 m c t k j ⟨4096 + k.val, by omega⟩ J hK hJ]

theorem arr_eq : (dats m 0 c).arrAt 2 cfg0.N = Cert.EvenDwRefIdeal.Read.val_main_v7 (F := Ideal) (a0 m c) (a1 m c) := by
  refine (dats m 0 c).arrAt_eq_of_covers 2 _ (by decide +kernel) fun t hf y => ?_
  have ht : t.val % 2 = 1 := (flush0_2 t).mp hf
  have hN : t.val < 20 := lt_of_lt_of_eq t.isLt (show cfg0.N = 20 from N_0)
  blk_simp
  rw [after0_2, out m c t ht ⟨t.val - 1, lt_of_le_of_lt (Nat.sub_le _ _) t.isLt⟩ rfl]
  obtain ⟨i, j, rfl⟩ : ∃ (i j : Fin 1024), y = ix2 i j := ⟨y 0, y 1, by funext a; fin_cases a <;> rfl⟩
  refine (parts_apply _ _ _ _ i j).trans ?_
  have e : ((cfg0.win 2).blk t).view.emb (ix2 i j)
      = ix2 (⟨t.val / 4 * 1024 + i.val, by omega⟩ : Fin 5120) (⟨t.val / 2 % 2 * 1024 + j.val, by omega⟩ : Fin 2048) := by
    blk_ext [idx2 t]
    all_goals omega
  rw [e]
  exact parts_eq m c t ht _ rfl i j _ _ rfl rfl

/-- The program read over bits and the one read over the reals have the same text, so the same body table. -/
theorem defs_eq : Cert.EvenDw.defs (F := Bits) = Cert.EvenDwIdeal.defs (F := Bits) := by
  refine congrArg (Pipeline.defs Cert.EvenDwIdeal.pcfgs) (congrArg Defs.onTc (funext fun l => funext fun a => ?_))
  obtain ⟨_ | l, hl⟩ := l
  · rfl
  · exact absurd hl (by omega)

theorem frame_kernel : Cert.quiescent_EvenDw := by
  intro m ρ _
  have h := Cert.EvenDwIdeal.Gen.frame (F := Bits) m ρ
  rw [← defs_eq] at h
  exact h
theorem frame_ideal : Cert.quiescent_EvenDwIdeal := fun m ρ _ => Cert.EvenDwIdeal.Gen.frame (F := Ideal) m ρ
theorem frame_reference : Cert.quiescent_EvenDwRefIdeal := fun m ρ _ =>
  (θ_run Cert.EvenDwRefIdeal.defs _ _).mono (fun r h => ⟨fun c => (h c).2, sem_eq_zero_of_no_sems (by decide) r.2⟩)
    (Cert.EvenDwRefIdeal.Value.run (F := Ideal) m ρ)

theorem algebraic : Cert.algebraic_EvenDwIdeal_EvenDwRefIdeal := by
  intro m ρ m' ρ' _ hagree
  refine ⟨fun c => Cert.EvenDwRefIdeal.Read.val_main_v7 (F := Ideal) (a0 m c) (a1 m c), ?_, ?_⟩
  · exact (θ_run Cert.EvenDwIdeal.defs _ _).mono (fun r h c => ⟨(h c).1.trans (arr_eq m c), (h c).2⟩)
      (Cert.EvenDwIdeal.Value.run_blocks (F := Ideal) m ρ)
  · refine (θ_run Cert.EvenDwRefIdeal.defs _ _).mono (fun r h c => ⟨((h c).1.trans (Cert.EvenDwRefIdeal.Read.val_main_v7_eq (F := Ideal) _ _)).trans ?_, (h c).2⟩)
      (Cert.EvenDwRefIdeal.Value.run (F := Ideal) m' ρ')
    obtain ⟨h0, h1⟩ := hagree c
    exact congr (congrArg _ h0) h1

end Cert.EvenDwGrad

end
-- ==== Proof.EvenBwd.lean ====
/- The gradient of the attention and pooling mixer's input (`mm_even_in_bwd`): the kernel adds the two halves of the contraction in
   its scratch; each element is the reference's. -/
module

public import proofs.«01_k».proof.Defs
public import proofs.«01_k».proof.Proof.Sums
public import proofs.«01_k».proof.Proof.Gen.EvenBwd
public import proofs.«01_k».proof.Proof.Gen.EvenBwdIdeal.Frame
public import proofs.«01_k».proof.Proof.Gen.EvenBwdIdeal.Value
public import proofs.«01_k».proof.Proof.Gen.EvenBwdRefIdeal.Run
public import proofs.«01_k».proof.Proof.Gen.EvenBwdRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

namespace Cert.EvenBwdGrad

open Cert.EvenBwdIdeal Cert.EvenBwdIdeal.Gen Idealize.ShloMosaic Idealize.ShloMosaic.TcCoe Idealize.SL.Sem

theorem idx0 : ∀ t : Fin cfg0.N, win0_0.index t = ![t.val / 4, t.val % 2] := (by decide +kernel : ∀ t : Fin grid0.N, _)
theorem idx1 : ∀ t : Fin cfg0.N, win0_1.index t = ![t.val / 2 % 2, t.val % 2] := (by decide +kernel : ∀ t : Fin grid0.N, _)
theorem idx2 : ∀ t : Fin cfg0.N, win0_2.index t = ![t.val / 4, t.val / 2 % 2] := (by decide +kernel : ∀ t : Fin grid0.N, _)

/-- One part's product at an index. -/
theorem part_apply (v0 v1 : FVec Ideal S1024x2560 .bf16) (i j : Fin 1024) :
    k0_pay1 (F := Ideal) v0 v1 (ix2 i j) = ∑ k : Fin 2560, v0 (ix2 i k) * v1 (ix2 j k) := by
  pointwise [k0_pay1]

/-- A part added to the scratch, and the first one. -/
theorem add_apply (v0 v1 : FVec Ideal S1024x2560 .bf16) (X : FVec Ideal S1024x1024 .f32) (i j : Fin 1024) :
    k0_pay3 (F := Ideal) v0 v1 X (ix2 i j) = X (ix2 i j) + k0_pay1 (F := Ideal) v0 v1 (ix2 i j) := by
  unfold k0_pay3
  generalize k0_pay1 (F := Ideal) v0 v1 = Y
  pointwise []
theorem first_apply (v0 v1 : FVec Ideal S1024x2560 .bf16) (i j : Fin 1024) :
    k0_pay2 (F := Ideal) v0 v1 (ix2 i j) = k0_pay1 (F := Ideal) v0 v1 (ix2 i j) := by
  unfold k0_pay2
  generalize k0_pay1 (F := Ideal) v0 v1 = Y
  pointwise []

variable (m : (ℓ : Loc nD τ sig) → Buf (Elt Ideal) ℓ) (c : Dev nD)

abbrev a0 : FVec Ideal S8192x5120 .bf16 := m ((c : Thread nD τ).loc main_arg0)
abbrev a1 : FVec Ideal S2048x5120 .f32 := m ((c : Thread nD τ).loc main_arg1)

theorem V_v0 : (V m c main_v0 : FVec Ideal S2048x5120 .bf16) = a1 m c := by
  unfold V
  after_reads_simp
  rfl

theorem scratch (t : Fin cfg0.N) (h : t.val % 2 = 0) : (outsAt0 m c t.val t.isLt).2 = k0_pay2 (iblk m c 0 t) (iblk m c 1 t) := by
  rw [outsAt0_A m c t h (by omega) (by omega)]
  frame_out
theorem out (t : Fin cfg0.N) (h : t.val % 2 = 1) (s : Fin cfg0.N) (hs : s.val = t.val - 1) :
    (outsAt0 m c t.val t.isLt).1 = k0_pay3 (iblk m c 0 t) (iblk m c 1 t) (k0_pay2 (iblk m c 0 s) (iblk m c 1 s)) := by
  have e : s = ⟨t.val - 1, lt_of_le_of_lt (Nat.sub_le _ _) t.isLt⟩ := Fin.ext hs
  rw [e, outsAt0_B m c t (by omega) h h, scratch m c ⟨t.val - 1, lt_of_le_of_lt (Nat.sub_le _ _) t.isLt⟩ (by show (t.val - 1) % 2 = 0; omega)]
  frame_out
  rw [read_unread_whole]

theorem blk0 (t : Fin cfg0.N) (i : Fin 1024) (k : Fin 2560) (I : Fin 8192) (K : Fin 5120) (hI : I.val = t.val / 4 * 1024 + i.val)
    (hK : K.val = t.val % 2 * 2560 + k.val) : iblk m c 0 t (ix2 i k) = a0 m c (ix2 I K) := by
  blk_ext [iblk, idx0 t]
  all_goals omega
theorem blk1 (t : Fin cfg0.N) (j : Fin 1024) (k : Fin 2560) (J : Fin 2048) (K : Fin 5120) (hJ : J.val = t.val / 2 % 2 * 1024 + j.val)
    (hK : K.val = t.val % 2 * 2560 + k.val) : iblk m c 1 t (ix2 j k) = a1 m c (ix2 J K) := by
  rw [← V_v0]
  blk_ext [iblk, idx1 t]
  all_goals omega

/-- The reference's result at an index. -/
theorem ref_apply (x0 : FVec Ideal S8192x5120 .bf16) (x1 : FVec Ideal S2048x5120 .f32) (i : Fin 8192) (j : Fin 2048) :
    Cert.EvenBwdRefIdeal.Read.val_main_v3 (F := Ideal) x0 x1 (ix2 i j) = ∑ k : Fin 5120, x0 (ix2 i k) * x1 (ix2 j k) := by
  refine (Cert.EvenBwdRefIdeal.Read.val_main_v3_apply _ _ _).trans (Finset.sum_congr rfl fun k _ => ?_)
  rw [Cert.EvenBwdRefIdeal.Read.val_main_v2_apply]
  refine congr (congrArg HMul.hMul (congrArg x0 ?_)) (congrArg x1 ?_) <;> (funext a; fin_cases a <;> rfl)

/-- What the second half's point writes is the reference's element. -/
theorem halves_eq (t : Fin cfg0.N) (h : t.val % 2 = 1) (s : Fin cfg0.N) (hs : s.val = t.val - 1) (i j : Fin 1024) (I : Fin 8192) (J : Fin 2048)
    (hI : I.val = t.val / 4 * 1024 + i.val) (hJ : J.val = t.val / 2 % 2 * 1024 + j.val) :
    k0_pay3 (F := Ideal) (iblk m c 0 t) (iblk m c 1 t) (k0_pay2 (F := Ideal) (iblk m c 0 s) (iblk m c 1 s)) (ix2 i j)
      = Cert.EvenBwdRefIdeal.Read.val_main_v3 (F := Ideal) (a0 m c) (a1 m c) (ix2 I J) := by
  rw [add_apply, first_apply, ref_apply, Cert.Mlp.sum_halves, part_apply, part_apply]
  refine congr (congrArg HAdd.hAdd (Finset.sum_congr rfl fun k _ => ?_)) (Finset.sum_congr rfl fun k _ => ?_)
  · have hK : k.val = s.val % 2 * 2560 + k.val := by omega
    rw [blk0 m c s i k I ⟨k.val, by omega⟩ (by omega) hK, blk1 m c s j k J ⟨k.val, by omega⟩ (by omega) hK]
  · have hK : 2560 + k.val = t.val % 2 * 2560 + k.val := by omega
    rw [blk0 m c t i k I ⟨2560 + k.val, by omega⟩ hI hK, blk1 m c t j k J ⟨2560 + k.val, by omega⟩ hJ hK]

theorem arr_eq : (dats m 0 c).arrAt 2 cfg0.N = Cert.EvenBwdRefIdeal.Read.val_main_v3 (F := Ideal) (a0 m c) (a1 m c) := by
  refine (dats m 0 c).arrAt_eq_of_covers 2 _ (by decide +kernel) fun t hf y => ?_
  have ht : t.val % 2 = 1 := (flush0_2 t).mp hf
  have hN : t.val < 32 := lt_of_lt_of_eq t.isLt (show cfg0.N = 32 from N_0)
  blk_simp
  rw [after0_2, out m c t ht ⟨t.val - 1, lt_of_le_of_lt (Nat.sub_le _ _) t.isLt⟩ rfl]
  obtain ⟨i, j, rfl⟩ : ∃ (i j : Fin 1024), y = ix2 i j := ⟨y 0, y 1, by funext a; fin_cases a <;> rfl⟩
  have e : ((cfg0.win 2).blk t).view.emb (ix2 i j)
      = ix2 (⟨t.val / 4 * 1024 + i.val, by omega⟩ : Fin 8192) (⟨t.val / 2 % 2 * 1024 + j.val, by omega⟩ : Fin 2048) := by
    blk_ext [idx2 t]
    all_goals omega
  rw [e]
  exact halves_eq m c t ht _ rfl i j _ _ rfl rfl

/-- The program read over bits and the one read over the reals have the same text, so the same body table. -/
theorem defs_eq : Cert.EvenBwd.defs (F := Bits) = Cert.EvenBwdIdeal.defs (F := Bits) := by
  refine congrArg (Pipeline.defs Cert.EvenBwdIdeal.pcfgs) (congrArg Defs.onTc (funext fun l => funext fun a => ?_))
  obtain ⟨_ | l, hl⟩ := l
  · rfl
  · exact absurd hl (by omega)

theorem frame_kernel : Cert.quiescent_EvenBwd := by
  intro m ρ _
  have h := Cert.EvenBwdIdeal.Gen.frame (F := Bits) m ρ
  rw [← defs_eq] at h
  exact h
theorem frame_ideal : Cert.quiescent_EvenBwdIdeal := fun m ρ _ => Cert.EvenBwdIdeal.Gen.frame (F := Ideal) m ρ
theorem frame_reference : Cert.quiescent_EvenBwdRefIdeal := fun m ρ _ =>
  (θ_run Cert.EvenBwdRefIdeal.defs _ _).mono (fun r h => ⟨fun c => (h c).2, sem_eq_zero_of_no_sems (by decide) r.2⟩)
    (Cert.EvenBwdRefIdeal.Value.run (F := Ideal) m ρ)

theorem algebraic : Cert.algebraic_EvenBwdIdeal_EvenBwdRefIdeal := by
  intro m ρ m' ρ' _ hagree
  refine ⟨fun c => Cert.EvenBwdRefIdeal.Read.val_main_v3 (F := Ideal) (a0 m c) (a1 m c), ?_, ?_⟩
  · exact (θ_run Cert.EvenBwdIdeal.defs _ _).mono (fun r h c => ⟨(h c).1.trans (arr_eq m c), (h c).2⟩)
      (Cert.EvenBwdIdeal.Value.run_blocks (F := Ideal) m ρ)
  · refine (θ_run Cert.EvenBwdRefIdeal.defs _ _).mono (fun r h c => ⟨((h c).1.trans (Cert.EvenBwdRefIdeal.Read.val_main_v3_eq (F := Ideal) _ _)).trans ?_, (h c).2⟩)
      (Cert.EvenBwdRefIdeal.Value.run (F := Ideal) m' ρ')
    obtain ⟨h0, h1⟩ := hagree c
    exact congr (congrArg _ h0) h1

end Cert.EvenBwdGrad

end
-- ==== Proof.lean ====
/- The certificate's last line: the side conditions that the programs state, then of the attention's gradient, of the six
   calls of the MLP and of a normalization's gradient the frames, the named mask constant, and the equalities of kernel and reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import proofs.«01_k».proof.Proof.Da
public import proofs.«01_k».proof.Proof.Dw2
public import proofs.«01_k».proof.Proof.Dw1
public import proofs.«01_k».proof.Proof.Dh
public import proofs.«01_k».proof.Proof.Up
public import proofs.«01_k».proof.Proof.Down
public import proofs.«01_k».proof.Proof.NormGrad
public import proofs.«01_k».proof.Proof.Xbc
public import proofs.«01_k».proof.Proof.XbcDw
public import proofs.«01_k».proof.Proof.XbcBwd
public import proofs.«01_k».proof.Proof.Even
public import proofs.«01_k».proof.Proof.EvenDw
public import proofs.«01_k».proof.Proof.EvenBwd
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Da.Gen.facts, Cert.DaIdeal.Gen.facts, Cert.DaRefIdeal.Gen.facts,
    Cert.Dw2.Gen.facts, Cert.Dw2Ideal.Gen.facts, Cert.Dw2RefIdeal.Gen.facts,
    Cert.Dw1.Gen.facts, Cert.Dw1Ideal.Gen.facts, Cert.Dw1RefIdeal.Gen.facts,
    Cert.Dh.Gen.facts, Cert.DhIdeal.Gen.facts, Cert.DhRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Norm.Gen.facts, Cert.NormIdeal.Gen.facts, Cert.NormRefIdeal.Gen.facts,
    Cert.Xbc.Gen.facts, Cert.XbcIdeal.Gen.facts, Cert.XbcRefIdeal.Gen.facts,
    Cert.XbcDw.Gen.facts, Cert.XbcDwIdeal.Gen.facts, Cert.XbcDwRefIdeal.Gen.facts,
    Cert.XbcBwd.Gen.facts, Cert.XbcBwdIdeal.Gen.facts, Cert.XbcBwdRefIdeal.Gen.facts,
    Cert.Even.Gen.facts, Cert.EvenIdeal.Gen.facts, Cert.EvenRefIdeal.Gen.facts,
    Cert.EvenDw.Gen.facts, Cert.EvenDwIdeal.Gen.facts, Cert.EvenDwRefIdeal.Gen.facts,
    Cert.EvenBwd.Gen.facts, Cert.EvenBwdIdeal.Gen.facts, Cert.EvenBwdRefIdeal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, Cert.AttnGrad.frame_reference,
    fun m ρ _ => Cert.AttnGrad.frame_reference m ρ trivial,
    Cert.DaGrad.frame_kernel, Cert.DaGrad.frame_ideal, Cert.DaGrad.frame_reference,
    Cert.Dw2Grad.frame_kernel, Cert.Dw2Grad.frame_ideal, Cert.Dw2Grad.frame_reference,
    Cert.Dw1Grad.frame_kernel, Cert.Dw1Grad.frame_ideal, Cert.Dw1Grad.frame_reference,
    Cert.DhGrad.frame_kernel, Cert.DhGrad.frame_ideal, Cert.DhGrad.frame_reference,
    Cert.UpValue.frame_kernel, Cert.UpValue.frame_ideal, Cert.UpValue.frame_reference,
    Cert.DownValue.frame_kernel, Cert.DownValue.frame_ideal, Cert.DownValue.frame_reference,
    Cert.NormGrad.frame_kernel, Cert.NormGrad.frame_ideal, Cert.NormGrad.frame_reference,
    Cert.XbcValue.frame_kernel, Cert.XbcValue.frame_ideal, Cert.XbcValue.frame_reference,
    Cert.XbcDwGrad.frame_kernel, Cert.XbcDwGrad.frame_ideal, Cert.XbcDwGrad.frame_reference,
    Cert.XbcBwdGrad.frame_kernel, Cert.XbcBwdGrad.frame_ideal, Cert.XbcBwdGrad.frame_reference,
    Cert.EvenValue.frame_kernel, Cert.EvenValue.frame_ideal, Cert.EvenValue.frame_reference,
    Cert.EvenDwGrad.frame_kernel, Cert.EvenDwGrad.frame_ideal, Cert.EvenDwGrad.frame_reference,
    Cert.EvenBwdGrad.frame_kernel, Cert.EvenBwdGrad.frame_ideal, Cert.EvenBwdGrad.frame_reference,
    IdealRules.named_const.statement Cert.KernelIdeal.κ "mask" .f32 0xF149F2CA#32 ⊥ rfl, Cert.AttnGrad.algebraic,
    trivial, Cert.DaGrad.algebraic,
    trivial, Cert.Dw2Grad.algebraic,
    trivial, Cert.Dw1Grad.algebraic,
    trivial, Cert.DhGrad.algebraic,
    trivial, Cert.UpValue.algebraic,
    trivial, Cert.DownValue.algebraic,
    trivial, Cert.NormGrad.algebraic,
    trivial, Cert.XbcValue.algebraic,
    trivial, Cert.XbcDwGrad.algebraic,
    trivial, Cert.XbcBwdGrad.algebraic,
    trivial, Cert.EvenValue.algebraic,
    trivial, Cert.EvenDwGrad.algebraic,
    trivial, Cert.EvenBwdGrad.algebraic⟩

end Cert.Proof

end
